-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v277)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v277) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S256x256 : Shape := ⟨2, ![256, 256]⟩
abbrev S32768x3 : Shape := ⟨2, ![32768, 3]⟩
abbrev S32768 : Shape := ⟨1, ![32768]⟩
abbrev S128x512 : Shape := ⟨2, ![128, 512]⟩
abbrev S3x512 : Shape := ⟨2, ![3, 512]⟩
abbrev S512 : Shape := ⟨1, ![512]⟩
abbrev S1 : Shape := ⟨1, ![1]⟩
abbrev S6x512 : Shape := ⟨2, ![6, 512]⟩
abbrev S6x512x512 : Shape := ⟨3, ![6, 512, 512]⟩
abbrev S6x512x2048 : Shape := ⟨3, ![6, 512, 2048]⟩
abbrev S6x2048 : Shape := ⟨2, ![6, 2048]⟩
abbrev S6x2048x512 : Shape := ⟨3, ![6, 2048, 512]⟩
abbrev S256x128 : Shape := ⟨2, ![256, 128]⟩
abbrev S_ : Shape := ⟨0, ![]⟩

class Facts : Prop where
  shapeCasts_S32768_S256x128 : S32768.ShapeCasts S256x128
  bcast_S_S6x512 : S_.BroadcastsInDim S6x512 (![] : Fin 0 → Fin S6x512.rank)
  reducesTo_S6x512_S_d0_1 : S6x512.ReducesTo [0, 1] S_
  h_S_ : 0 < S_.numel
  bcast_S_S6x512x512 : S_.BroadcastsInDim S6x512x512 (![] : Fin 0 → Fin S6x512x512.rank)
  reducesTo_S6x512x512_S_d0_1_2 : S6x512x512.ReducesTo [0, 1, 2] S_
  bcast_S_S256x256 : S_.BroadcastsInDim S256x256 (![] : Fin 0 → Fin S256x256.rank)
  reducesTo_S256x256_S_d0_1 : S256x256.ReducesTo [0, 1] S_
  bcast_S_S32768 : S_.BroadcastsInDim S32768 (![] : Fin 0 → Fin S32768.rank)
  reducesTo_S32768_S_d0 : S32768.ReducesTo [0] S_
  reducesTo_S256x128_S_d0_1 : S256x128.ReducesTo [0, 1] S_

variable [Facts]

def fn_part3 {F : FTy → Type} [FloatOps F] (main_arg0 : IVec S256x256 32) (main_arg2 : IVec S32768 32) (main_v2 : IVec S256x128 1) (main_v5 : IVec S256x128 1) (main_v47 : IVec S_ 1) (main_v49 : IVec S256x256 1) (main_v50 : IVec S256x256 32) : IVec S_ 1 :=
  let main_v51 : IVec S256x256 1 := cmpi .slt main_arg0 main_v50
  let main_v52 : IVec S256x256 1 := andi main_v49 main_v51
  let main_c_19 : IVec S_ 1 := constantI S_ 1 1#1
  let main_v53 : IVec S_ 1 := (fun x v => Host.reduce IntOp.andi x v reducesTo_S256x256_S_d0_1 h_S_) main_v52 main_c_19
  let main_c_20 : IVec S_ 32 := constantI S_ 32 0#32
  let main_v54 : IVec S32768 32 := broadcastInDim S32768 ![] bcast_S_S32768 main_c_20
  let main_v55 : IVec S32768 1 := cmpi .sge main_arg2 main_v54
  let main_c_21 : IVec S_ 32 := constantI S_ 32 128#32
  let main_v56 : IVec S32768 32 := broadcastInDim S32768 ![] bcast_S_S32768 main_c_21
  let main_v57 : IVec S32768 1 := cmpi .slt main_arg2 main_v56
  let main_v58 : IVec S32768 1 := andi main_v55 main_v57
  let main_c_22 : IVec S_ 1 := constantI S_ 1 1#1
  let main_v59 : IVec S_ 1 := (fun x v => Host.reduce IntOp.andi x v reducesTo_S32768_S_d0 h_S_) main_v58 main_c_22
  let main_v60 : IVec S_ 1 := andi main_v53 main_v59
  let main_c_23 : IVec S_ 1 := constantI S_ 1 1#1
  let main_v61 : IVec S_ 1 := (fun x v => Host.reduce IntOp.andi x v reducesTo_S256x128_S_d0_1 h_S_) main_v2 main_c_23
  let main_v62 : IVec S_ 1 := andi main_v60 main_v61
  let main_c_24 : IVec S_ 1 := constantI S_ 1 1#1
  let main_v63 : IVec S_ 1 := (fun x v => Host.reduce IntOp.andi x v reducesTo_S256x128_S_d0_1 h_S_) main_v5 main_c_24
  let main_v64 : IVec S_ 1 := andi main_v62 main_v63
  let main_v65 : IVec S_ 1 := andi main_v64 main_v47
  main_v65

def fn_part2 {F : FTy → Type} [FloatOps F] (main_arg0 : IVec S256x256 32) (main_arg2 : IVec S32768 32) (main_arg14 : FVec F S6x512x512 .f32) (main_arg15 : FVec F S6x512 .f32) (main_v2 : IVec S256x128 1) (main_v5 : IVec S256x128 1) (main_v33 : IVec S_ 1) (main_cst_11 : FVec F S_ .f32) : IVec S_ 1 :=
  let main_v34 : FVec F S6x512x512 .f32 := broadcastInDim S6x512x512 ![] bcast_S_S6x512x512 main_cst_11
  let main_v35 : IVec S6x512x512 1 := cmpf .ogt main_arg14 main_v34
  let main_cst_12 : FVec F S_ .f32 := constant S_ .f32 0x7F800000#32
  let main_v36 : FVec F S6x512x512 .f32 := broadcastInDim S6x512x512 ![] bcast_S_S6x512x512 main_cst_12
  let main_v37 : IVec S6x512x512 1 := cmpf .olt main_arg14 main_v36
  let main_v38 : IVec S6x512x512 1 := andi main_v35 main_v37
  let main_c_13 : IVec S_ 1 := constantI S_ 1 1#1
  let main_v39 : IVec S_ 1 := (fun x v => Host.reduce IntOp.andi x v reducesTo_S6x512x512_S_d0_1_2 h_S_) main_v38 main_c_13
  let main_v40 : IVec S_ 1 := andi main_v39 main_v33
  let main_cst_14 : FVec F S_ .f32 := constant S_ .f32 0xFF800000#32
  let main_v41 : FVec F S6x512 .f32 := broadcastInDim S6x512 ![] bcast_S_S6x512 main_cst_14
  let main_v42 : IVec S6x512 1 := cmpf .ogt main_arg15 main_v41
  let main_cst_15 : FVec F S_ .f32 := constant S_ .f32 0x7F800000#32
  let main_v43 : FVec F S6x512 .f32 := broadcastInDim S6x512 ![] bcast_S_S6x512 main_cst_15
  let main_v44 : IVec S6x512 1 := cmpf .olt main_arg15 main_v43
  let main_v45 : IVec S6x512 1 := andi main_v42 main_v44
  let main_c_16 : IVec S_ 1 := constantI S_ 1 1#1
  let main_v46 : IVec S_ 1 := (fun x v => Host.reduce IntOp.andi x v reducesTo_S6x512_S_d0_1 h_S_) main_v45 main_c_16
  let main_v47 : IVec S_ 1 := andi main_v46 main_v40
  let main_c_17 : IVec S_ 32 := constantI S_ 32 0#32
  let main_v48 : IVec S256x256 32 := broadcastInDim S256x256 ![] bcast_S_S256x256 main_c_17
  let main_v49 : IVec S256x256 1 := cmpi .sge main_arg0 main_v48
  let main_c_18 : IVec S_ 32 := constantI S_ 32 128#32
  let main_v50 : IVec S256x256 32 := broadcastInDim S256x256 ![] bcast_S_S256x256 main_c_18
  fn_part3 (F := F) main_arg0 main_arg2 main_v2 main_v5 main_v47 main_v49 main_v50

def fn_part1 {F : FTy → Type} [FloatOps F] (main_arg0 : IVec S256x256 32) (main_arg2 : IVec S32768 32) (main_arg12 : FVec F S6x512x512 .f32) (main_arg13 : FVec F S6x512 .f32) (main_arg14 : FVec F S6x512x512 .f32) (main_arg15 : FVec F S6x512 .f32) (main_v2 : IVec S256x128 1) (main_v5 : IVec S256x128 1) (main_v12 : IVec S_ 1) (main_v17 : IVec S6x512 1) : IVec S_ 1 :=
  let main_c_4 : IVec S_ 1 := constantI S_ 1 1#1
  let main_v18 : IVec S_ 1 := (fun x v => Host.reduce IntOp.andi x v reducesTo_S6x512_S_d0_1 h_S_) main_v17 main_c_4
  let main_v19 : IVec S_ 1 := andi main_v18 main_v12
  let main_cst_5 : FVec F S_ .f32 := constant S_ .f32 0xFF800000#32
  let main_v20 : FVec F S6x512x512 .f32 := broadcastInDim S6x512x512 ![] bcast_S_S6x512x512 main_cst_5
  let main_v21 : IVec S6x512x512 1 := cmpf .ogt main_arg12 main_v20
  let main_cst_6 : FVec F S_ .f32 := constant S_ .f32 0x7F800000#32
  let main_v22 : FVec F S6x512x512 .f32 := broadcastInDim S6x512x512 ![] bcast_S_S6x512x512 main_cst_6
  let main_v23 : IVec S6x512x512 1 := cmpf .olt main_arg12 main_v22
  let main_v24 : IVec S6x512x512 1 := andi main_v21 main_v23
  let main_c_7 : IVec S_ 1 := constantI S_ 1 1#1
  let main_v25 : IVec S_ 1 := (fun x v => Host.reduce IntOp.andi x v reducesTo_S6x512x512_S_d0_1_2 h_S_) main_v24 main_c_7
  let main_v26 : IVec S_ 1 := andi main_v25 main_v19
  let main_cst_8 : FVec F S_ .f32 := constant S_ .f32 0xFF800000#32
  let main_v27 : FVec F S6x512 .f32 := broadcastInDim S6x512 ![] bcast_S_S6x512 main_cst_8
  let main_v28 : IVec S6x512 1 := cmpf .ogt main_arg13 main_v27
  let main_cst_9 : FVec F S_ .f32 := constant S_ .f32 0x7F800000#32
  let main_v29 : FVec F S6x512 .f32 := broadcastInDim S6x512 ![] bcast_S_S6x512 main_cst_9
  let main_v30 : IVec S6x512 1 := cmpf .olt main_arg13 main_v29
  let main_v31 : IVec S6x512 1 := andi main_v28 main_v30
  let main_c_10 : IVec S_ 1 := constantI S_ 1 1#1
  let main_v32 : IVec S_ 1 := (fun x v => Host.reduce IntOp.andi x v reducesTo_S6x512_S_d0_1 h_S_) main_v31 main_c_10
  let main_v33 : IVec S_ 1 := andi main_v32 main_v26
  let main_cst_11 : FVec F S_ .f32 := constant S_ .f32 0xFF800000#32
  fn_part2 (F := F) main_arg0 main_arg2 main_arg14 main_arg15 main_v2 main_v5 main_v33 main_cst_11

def fn {F : FTy → Type} [FloatOps F] (main_arg0 : IVec S256x256 32) (main_arg1 : FVec F S32768x3 .f32) (main_arg2 : IVec S32768 32) (main_arg3 : IVec S32768 32) (main_arg4 : IVec S32768 32) (main_arg5 : FVec F S128x512 .f32) (main_arg6 : FVec F S3x512 .f32) (main_arg7 : FVec F S512 .f32) (main_arg8 : FVec F S1 .f32) (main_arg9 : FVec F S1 .f32) (main_arg10 : FVec F S6x512 .f32) (main_arg11 : FVec F S6x512 .f32) (main_arg12 : FVec F S6x512x512 .f32) (main_arg13 : FVec F S6x512 .f32) (main_arg14 : FVec F S6x512x512 .f32) (main_arg15 : FVec F S6x512 .f32) (main_arg16 : FVec F S6x512x512 .f32) (main_arg17 : FVec F S6x512 .f32) (main_arg18 : FVec F S6x512x512 .f32) (main_arg19 : FVec F S6x512 .f32) (main_arg20 : FVec F S6x512 .f32) (main_arg21 : FVec F S6x512 .f32) (main_arg22 : FVec F S6x512x2048 .f32) (main_arg23 : FVec F S6x2048 .f32) (main_arg24 : FVec F S6x2048x512 .f32) (main_arg25 : FVec F S6x512 .f32) (main_arg26 : FVec F S512 .f32) (main_arg27 : FVec F S512 .f32) : IVec S_ 1 :=
  let main_v0 : IVec S256x128 32 := shapeCast S256x128 main_arg3 shapeCasts_S32768_S256x128
  let main_v1 : IVec S256x128 32 := iotaInDim S256x128 32 1
  let main_v2 : IVec S256x128 1 := cmpi .eq main_v0 main_v1
  let main_v3 : IVec S256x128 32 := shapeCast S256x128 main_arg4 shapeCasts_S32768_S256x128
  let main_v4 : IVec S256x128 32 := iotaInDim S256x128 32 0
  let main_v5 : IVec S256x128 1 := cmpi .eq main_v3 main_v4
  let main_cst : FVec F S_ .f32 := constant S_ .f32 0xFF800000#32
  let main_v6 : FVec F S6x512 .f32 := broadcastInDim S6x512 ![] bcast_S_S6x512 main_cst
  let main_v7 : IVec S6x512 1 := cmpf .ogt main_arg10 main_v6
  let main_cst_0 : FVec F S_ .f32 := constant S_ .f32 0x7F800000#32
  let main_v8 : FVec F S6x512 .f32 := broadcastInDim S6x512 ![] bcast_S_S6x512 main_cst_0
  let main_v9 : IVec S6x512 1 := cmpf .olt main_arg10 main_v8
  let main_v10 : IVec S6x512 1 := andi main_v7 main_v9
  let main_c : IVec S_ 1 := constantI S_ 1 1#1
  let main_v11 : IVec S_ 1 := (fun x v => Host.reduce IntOp.andi x v reducesTo_S6x512_S_d0_1 h_S_) main_v10 main_c
  let main_c_1 : IVec S_ 1 := constantI S_ 1 1#1
  let main_v12 : IVec S_ 1 := andi main_v11 main_c_1
  let main_cst_2 : FVec F S_ .f32 := constant S_ .f32 0xFF800000#32
  let main_v13 : FVec F S6x512 .f32 := broadcastInDim S6x512 ![] bcast_S_S6x512 main_cst_2
  let main_v14 : IVec S6x512 1 := cmpf .ogt main_arg11 main_v13
  let main_cst_3 : FVec F S_ .f32 := constant S_ .f32 0x7F800000#32
  let main_v15 : FVec F S6x512 .f32 := broadcastInDim S6x512 ![] bcast_S_S6x512 main_cst_3
  let main_v16 : IVec S6x512 1 := cmpf .olt main_arg11 main_v15
  let main_v17 : IVec S6x512 1 := andi main_v14 main_v16
  fn_part1 (F := F) main_arg0 main_arg2 main_arg12 main_arg13 main_arg14 main_arg15 main_v2 main_v5 main_v12 main_v17
-- ==== Kernel.lean ====
abbrev S256x256 : Shape := ⟨2, ![256, 256]⟩
abbrev S32768x3 : Shape := ⟨2, ![32768, 3]⟩
abbrev S32768 : Shape := ⟨1, ![32768]⟩
abbrev S128x512 : Shape := ⟨2, ![128, 512]⟩
abbrev S3x512 : Shape := ⟨2, ![3, 512]⟩
abbrev S512 : Shape := ⟨1, ![512]⟩
abbrev S1 : Shape := ⟨1, ![1]⟩
abbrev S6x512 : Shape := ⟨2, ![6, 512]⟩
abbrev S6x512x512 : Shape := ⟨3, ![6, 512, 512]⟩
abbrev S6x512x2048 : Shape := ⟨3, ![6, 512, 2048]⟩
abbrev S6x2048 : Shape := ⟨2, ![6, 2048]⟩
abbrev S6x2048x512 : Shape := ⟨3, ![6, 2048, 512]⟩
abbrev S256x1x256 : Shape := ⟨3, ![256, 1, 256]⟩
abbrev S256x128 : Shape := ⟨2, ![256, 128]⟩
abbrev S_ : Shape := ⟨0, ![]⟩
abbrev S256x128x3 : Shape := ⟨3, ![256, 128, 3]⟩
abbrev S256x256x3 : Shape := ⟨3, ![256, 256, 3]⟩
abbrev S256x3x256 : Shape := ⟨3, ![256, 3, 256]⟩
abbrev S2 : Shape := ⟨1, ![2]⟩
abbrev S1x512 : Shape := ⟨2, ![1, 512]⟩
abbrev S256x256x512 : Shape := ⟨3, ![256, 256, 512]⟩
abbrev S4x1x256 : Shape := ⟨3, ![4, 1, 256]⟩
abbrev S4x3x256 : Shape := ⟨3, ![4, 3, 256]⟩
abbrev S4x256x512 : Shape := ⟨3, ![4, 256, 512]⟩
abbrev S128x256 : Shape := ⟨2, ![128, 256]⟩
abbrev S256x1 : Shape := ⟨2, ![256, 1]⟩
abbrev S1x1x256 : Shape := ⟨3, ![1, 1, 256]⟩
abbrev S1x256 : Shape := ⟨2, ![1, 256]⟩
abbrev S256x512 : Shape := ⟨2, ![256, 512]⟩
abbrev S1x3x256 : Shape := ⟨3, ![1, 3, 256]⟩
abbrev S3x256 : Shape := ⟨2, ![3, 256]⟩
abbrev S1x256x512 : Shape := ⟨3, ![1, 256, 512]⟩
abbrev S1x512x512 : Shape := ⟨3, ![1, 512, 512]⟩
abbrev S512x512 : Shape := ⟨2, ![512, 512]⟩
abbrev S1x512x2048 : Shape := ⟨3, ![1, 512, 2048]⟩
abbrev S512x2048 : Shape := ⟨2, ![512, 2048]⟩
abbrev S1x2048 : Shape := ⟨2, ![1, 2048]⟩
abbrev S2048 : Shape := ⟨1, ![2048]⟩
abbrev S1x2048x512 : Shape := ⟨3, ![1, 2048, 512]⟩
abbrev S2048x512 : Shape := ⟨2, ![2048, 512]⟩
abbrev S256 : Shape := ⟨1, ![256]⟩
abbrev S256x64 : Shape := ⟨2, ![256, 64]⟩
abbrev S64x512 : Shape := ⟨2, ![64, 512]⟩
abbrev S256x2048 : Shape := ⟨2, ![256, 2048]⟩

abbrev nBuf : Space → Nat
  | .hbm => 310
  | .vmem => 155
  | .smem => 1
  | _ => 0

abbrev hbmTy0_0 (i : Nat) : BufTy := match i % 128 with
  | 0 => ⟨S256x256, .i32⟩
  | 1 => ⟨S32768x3, .f32⟩
  | 2 => ⟨S32768, .i32⟩
  | 3 => ⟨S32768, .i32⟩
  | 4 => ⟨S32768, .i32⟩
  | 5 => ⟨S128x512, .f32⟩
  | 6 => ⟨S3x512, .f32⟩
  | 7 => ⟨S512, .f32⟩
  | 8 => ⟨S1, .f32⟩
  | 9 => ⟨S1, .f32⟩
  | 10 => ⟨S6x512, .f32⟩
  | 11 => ⟨S6x512, .f32⟩
  | 12 => ⟨S6x512x512, .f32⟩
  | 13 => ⟨S6x512, .f32⟩
  | 14 => ⟨S6x512x512, .f32⟩
  | 15 => ⟨S6x512, .f32⟩
  | 16 => ⟨S6x512x512, .f32⟩
  | 17 => ⟨S6x512, .f32⟩
  | 18 => ⟨S6x512x512, .f32⟩
  | 19 => ⟨S6x512, .f32⟩
  | 20 => ⟨S6x512, .f32⟩
  | 21 => ⟨S6x512, .f32⟩
  | 22 => ⟨S6x512x2048, .f32⟩
  | 23 => ⟨S6x2048, .f32⟩
  | 24 => ⟨S6x2048x512, .f32⟩
  | 25 => ⟨S6x512, .f32⟩
  | 26 => ⟨S512, .f32⟩
  | 27 => ⟨S512, .f32⟩
  | 28 => ⟨S256x256, .i32⟩
  | 29 => ⟨S256x1x256, .i32⟩
  | 30 => ⟨S256x128, .i32⟩
  | 31 => ⟨S_, .i32⟩
  | 32 => ⟨S_, .i32⟩
  | 33 => ⟨S256x256, .i32⟩
  | 34 => ⟨S256x1x256, .i32⟩
  | 35 => ⟨S256x128x3, .f32⟩
  | 36 => ⟨S_, .i32⟩
  | 37 => ⟨S_, .f32⟩
  | 38 => ⟨S256x256x3, .f32⟩
  | 39 => ⟨S256x3x256, .f32⟩
  | 40 => ⟨S2, .f32⟩
  | 41 => ⟨S1x512, .f32⟩
  | 42 => ⟨S256x256x512, .f32⟩
  | 43 => ⟨S6x512x512, .bf16⟩
  | 44 => ⟨S6x512x512, .bf16⟩
  | 45 => ⟨S6x512x512, .bf16⟩
  | 46 => ⟨S6x512x512, .bf16⟩
  | 47 => ⟨S6x512x2048, .bf16⟩
  | 48 => ⟨S6x2048x512, .bf16⟩
  | 49 => ⟨S1x512, .f32⟩
  | 50 => ⟨S1x512, .f32⟩
  | 51 => ⟨S1x512, .f32⟩
  | 52 => ⟨S512, .f32⟩
  | 53 => ⟨S1x512, .f32⟩
  | 54 => ⟨S1x512, .f32⟩
  | 55 => ⟨S512, .f32⟩
  | 56 => ⟨S1x512, .f32⟩
  | 57 => ⟨S1x512x512, .bf16⟩
  | 58 => ⟨S512x512, .bf16⟩
  | 59 => ⟨S1x512, .f32⟩
  | 60 => ⟨S512, .f32⟩
  | 61 => ⟨S1x512, .f32⟩
  | 62 => ⟨S1x512x512, .bf16⟩
  | 63 => ⟨S512x512, .bf16⟩
  | 64 => ⟨S1x512, .f32⟩
  | 65 => ⟨S512, .f32⟩
  | 66 => ⟨S1x512, .f32⟩
  | 67 => ⟨S1x512x512, .bf16⟩
  | 68 => ⟨S512x512, .bf16⟩
  | 69 => ⟨S1x512, .f32⟩
  | 70 => ⟨S512, .f32⟩
  | 71 => ⟨S1x512, .f32⟩
  | 72 => ⟨S1x512x512, .bf16⟩
  | 73 => ⟨S512x512, .bf16⟩
  | 74 => ⟨S1x512, .f32⟩
  | 75 => ⟨S512, .f32⟩
  | 76 => ⟨S1x512, .f32⟩
  | 77 => ⟨S1x512, .f32⟩
  | 78 => ⟨S512, .f32⟩
  | 79 => ⟨S1x512, .f32⟩
  | 80 => ⟨S1x512, .f32⟩
  | 81 => ⟨S512, .f32⟩
  | 82 => ⟨S1x512, .f32⟩
  | 83 => ⟨S1x512x2048, .bf16⟩
  | 84 => ⟨S512x2048, .bf16⟩
  | 85 => ⟨S1x2048, .f32⟩
  | 86 => ⟨S2048, .f32⟩
  | 87 => ⟨S1x2048, .f32⟩
  | 88 => ⟨S1x2048x512, .bf16⟩
  | 89 => ⟨S2048x512, .bf16⟩
  | 90 => ⟨S1x512, .f32⟩
  | 91 => ⟨S512, .f32⟩
  | 92 => ⟨S1x512, .f32⟩
  | 93 => ⟨S256x256x512, .f32⟩
  | 94 => ⟨S1x512, .f32⟩
  | 95 => ⟨S512, .f32⟩
  | 96 => ⟨S1x512, .f32⟩
  | 97 => ⟨S1x512, .f32⟩
  | 98 => ⟨S512, .f32⟩
  | 99 => ⟨S1x512, .f32⟩
  | 100 => ⟨S1x512x512, .bf16⟩
  | 101 => ⟨S512x512, .bf16⟩
  | 102 => ⟨S1x512, .f32⟩
  | 103 => ⟨S512, .f32⟩
  | 104 => ⟨S1x512, .f32⟩
  | 105 => ⟨S1x512x512, .bf16⟩
  | 106 => ⟨S512x512, .bf16⟩
  | 107 => ⟨S1x512, .f32⟩
  | 108 => ⟨S512, .f32⟩
  | 109 => ⟨S1x512, .f32⟩
  | 110 => ⟨S1x512x512, .bf16⟩
  | 111 => ⟨S512x512, .bf16⟩
  | 112 => ⟨S1x512, .f32⟩
  | 113 => ⟨S512, .f32⟩
  | 114 => ⟨S1x512, .f32⟩
  | 115 => ⟨S1x512x512, .bf16⟩
  | 116 => ⟨S512x512, .bf16⟩
  | 117 => ⟨S1x512, .f32⟩
  | 118 => ⟨S512, .f32⟩
  | 119 => ⟨S1x512, .f32⟩
  | 120 => ⟨S1x512, .f32⟩
  | 121 => ⟨S512, .f32⟩
  | 122 => ⟨S1x512, .f32⟩
  | 123 => ⟨S1x512, .f32⟩
  | 124 => ⟨S512, .f32⟩
  | 125 => ⟨S1x512, .f32⟩
  | 126 => ⟨S1x512x2048, .bf16⟩
  | 127 => ⟨S512x2048, .bf16⟩
  | _ => ⟨S256x256, .i32⟩

abbrev hbmTy0_1 (i : Nat) : BufTy := match i % 128 with
  | 0 => ⟨S1x2048, .f32⟩
  | 1 => ⟨S2048, .f32⟩
  | 2 => ⟨S1x2048, .f32⟩
  | 3 => ⟨S1x2048x512, .bf16⟩
  | 4 => ⟨S2048x512, .bf16⟩
  | 5 => ⟨S1x512, .f32⟩
  | 6 => ⟨S512, .f32⟩
  | 7 => ⟨S1x512, .f32⟩
  | 8 => ⟨S256x256x512, .f32⟩
  | 9 => ⟨S1x512, .f32⟩
  | 10 => ⟨S512, .f32⟩
  | 11 => ⟨S1x512, .f32⟩
  | 12 => ⟨S1x512, .f32⟩
  | 13 => ⟨S512, .f32⟩
  | 14 => ⟨S1x512, .f32⟩
  | 15 => ⟨S1x512x512, .bf16⟩
  | 16 => ⟨S512x512, .bf16⟩
  | 17 => ⟨S1x512, .f32⟩
  | 18 => ⟨S512, .f32⟩
  | 19 => ⟨S1x512, .f32⟩
  | 20 => ⟨S1x512x512, .bf16⟩
  | 21 => ⟨S512x512, .bf16⟩
  | 22 => ⟨S1x512, .f32⟩
  | 23 => ⟨S512, .f32⟩
  | 24 => ⟨S1x512, .f32⟩
  | 25 => ⟨S1x512x512, .bf16⟩
  | 26 => ⟨S512x512, .bf16⟩
  | 27 => ⟨S1x512, .f32⟩
  | 28 => ⟨S512, .f32⟩
  | 29 => ⟨S1x512, .f32⟩
  | 30 => ⟨S1x512x512, .bf16⟩
  | 31 => ⟨S512x512, .bf16⟩
  | 32 => ⟨S1x512, .f32⟩
  | 33 => ⟨S512, .f32⟩
  | 34 => ⟨S1x512, .f32⟩
  | 35 => ⟨S1x512, .f32⟩
  | 36 => ⟨S512, .f32⟩
  | 37 => ⟨S1x512, .f32⟩
  | 38 => ⟨S1x512, .f32⟩
  | 39 => ⟨S512, .f32⟩
  | 40 => ⟨S1x512, .f32⟩
  | 41 => ⟨S1x512x2048, .bf16⟩
  | 42 => ⟨S512x2048, .bf16⟩
  | 43 => ⟨S1x2048, .f32⟩
  | 44 => ⟨S2048, .f32⟩
  | 45 => ⟨S1x2048, .f32⟩
  | 46 => ⟨S1x2048x512, .bf16⟩
  | 47 => ⟨S2048x512, .bf16⟩
  | 48 => ⟨S1x512, .f32⟩
  | 49 => ⟨S512, .f32⟩
  | 50 => ⟨S1x512, .f32⟩
  | 51 => ⟨S256x256x512, .f32⟩
  | 52 => ⟨S1x512, .f32⟩
  | 53 => ⟨S512, .f32⟩
  | 54 => ⟨S1x512, .f32⟩
  | 55 => ⟨S1x512, .f32⟩
  | 56 => ⟨S512, .f32⟩
  | 57 => ⟨S1x512, .f32⟩
  | 58 => ⟨S1x512x512, .bf16⟩
  | 59 => ⟨S512x512, .bf16⟩
  | 60 => ⟨S1x512, .f32⟩
  | 61 => ⟨S512, .f32⟩
  | 62 => ⟨S1x512, .f32⟩
  | 63 => ⟨S1x512x512, .bf16⟩
  | 64 => ⟨S512x512, .bf16⟩
  | 65 => ⟨S1x512, .f32⟩
  | 66 => ⟨S512, .f32⟩
  | 67 => ⟨S1x512, .f32⟩
  | 68 => ⟨S1x512x512, .bf16⟩
  | 69 => ⟨S512x512, .bf16⟩
  | 70 => ⟨S1x512, .f32⟩
  | 71 => ⟨S512, .f32⟩
  | 72 => ⟨S1x512, .f32⟩
  | 73 => ⟨S1x512x512, .bf16⟩
  | 74 => ⟨S512x512, .bf16⟩
  | 75 => ⟨S1x512, .f32⟩
  | 76 => ⟨S512, .f32⟩
  | 77 => ⟨S1x512, .f32⟩
  | 78 => ⟨S1x512, .f32⟩
  | 79 => ⟨S512, .f32⟩
  | 80 => ⟨S1x512, .f32⟩
  | 81 => ⟨S1x512, .f32⟩
  | 82 => ⟨S512, .f32⟩
  | 83 => ⟨S1x512, .f32⟩
  | 84 => ⟨S1x512x2048, .bf16⟩
  | 85 => ⟨S512x2048, .bf16⟩
  | 86 => ⟨S1x2048, .f32⟩
  | 87 => ⟨S2048, .f32⟩
  | 88 => ⟨S1x2048, .f32⟩
  | 89 => ⟨S1x2048x512, .bf16⟩
  | 90 => ⟨S2048x512, .bf16⟩
  | 91 => ⟨S1x512, .f32⟩
  | 92 => ⟨S512, .f32⟩
  | 93 => ⟨S1x512, .f32⟩
  | 94 => ⟨S256x256x512, .f32⟩
  | 95 => ⟨S1x512, .f32⟩
  | 96 => ⟨S512, .f32⟩
  | 97 => ⟨S1x512, .f32⟩
  | 98 => ⟨S1x512, .f32⟩
  | 99 => ⟨S512, .f32⟩
  | 100 => ⟨S1x512, .f32⟩
  | 101 => ⟨S1x512x512, .bf16⟩
  | 102 => ⟨S512x512, .bf16⟩
  | 103 => ⟨S1x512, .f32⟩
  | 104 => ⟨S512, .f32⟩
  | 105 => ⟨S1x512, .f32⟩
  | 106 => ⟨S1x512x512, .bf16⟩
  | 107 => ⟨S512x512, .bf16⟩
  | 108 => ⟨S1x512, .f32⟩
  | 109 => ⟨S512, .f32⟩
  | 110 => ⟨S1x512, .f32⟩
  | 111 => ⟨S1x512x512, .bf16⟩
  | 112 => ⟨S512x512, .bf16⟩
  | 113 => ⟨S1x512, .f32⟩
  | 114 => ⟨S512, .f32⟩
  | 115 => ⟨S1x512, .f32⟩
  | 116 => ⟨S1x512x512, .bf16⟩
  | 117 => ⟨S512x512, .bf16⟩
  | 118 => ⟨S1x512, .f32⟩
  | 119 => ⟨S512, .f32⟩
  | 120 => ⟨S1x512, .f32⟩
  | 121 => ⟨S1x512, .f32⟩
  | 122 => ⟨S512, .f32⟩
  | 123 => ⟨S1x512, .f32⟩
  | 124 => ⟨S1x512, .f32⟩
  | 125 => ⟨S512, .f32⟩
  | 126 => ⟨S1x512, .f32⟩
  | 127 => ⟨S1x512x2048, .bf16⟩
  | _ => ⟨S256x256, .i32⟩

abbrev hbmTy0_2 (i : Nat) : BufTy := match i % 128 with
  | 0 => ⟨S512x2048, .bf16⟩
  | 1 => ⟨S1x2048, .f32⟩
  | 2 => ⟨S2048, .f32⟩
  | 3 => ⟨S1x2048, .f32⟩
  | 4 => ⟨S1x2048x512, .bf16⟩
  | 5 => ⟨S2048x512, .bf16⟩
  | 6 => ⟨S1x512, .f32⟩
  | 7 => ⟨S512, .f32⟩
  | 8 => ⟨S1x512, .f32⟩
  | 9 => ⟨S256x256x512, .f32⟩
  | 10 => ⟨S1x512, .f32⟩
  | 11 => ⟨S512, .f32⟩
  | 12 => ⟨S1x512, .f32⟩
  | 13 => ⟨S1x512, .f32⟩
  | 14 => ⟨S512, .f32⟩
  | 15 => ⟨S1x512, .f32⟩
  | 16 => ⟨S1x512x512, .bf16⟩
  | 17 => ⟨S512x512, .bf16⟩
  | 18 => ⟨S1x512, .f32⟩
  | 19 => ⟨S512, .f32⟩
  | 20 => ⟨S1x512, .f32⟩
  | 21 => ⟨S1x512x512, .bf16⟩
  | 22 => ⟨S512x512, .bf16⟩
  | 23 => ⟨S1x512, .f32⟩
  | 24 => ⟨S512, .f32⟩
  | 25 => ⟨S1x512, .f32⟩
  | 26 => ⟨S1x512x512, .bf16⟩
  | 27 => ⟨S512x512, .bf16⟩
  | 28 => ⟨S1x512, .f32⟩
  | 29 => ⟨S512, .f32⟩
  | 30 => ⟨S1x512, .f32⟩
  | 31 => ⟨S1x512x512, .bf16⟩
  | 32 => ⟨S512x512, .bf16⟩
  | 33 => ⟨S1x512, .f32⟩
  | 34 => ⟨S512, .f32⟩
  | 35 => ⟨S1x512, .f32⟩
  | 36 => ⟨S1x512, .f32⟩
  | 37 => ⟨S512, .f32⟩
  | 38 => ⟨S1x512, .f32⟩
  | 39 => ⟨S1x512, .f32⟩
  | 40 => ⟨S512, .f32⟩
  | 41 => ⟨S1x512, .f32⟩
  | 42 => ⟨S1x512x2048, .bf16⟩
  | 43 => ⟨S512x2048, .bf16⟩
  | 44 => ⟨S1x2048, .f32⟩
  | 45 => ⟨S2048, .f32⟩
  | 46 => ⟨S1x2048, .f32⟩
  | 47 => ⟨S1x2048x512, .bf16⟩
  | 48 => ⟨S2048x512, .bf16⟩
  | 49 => ⟨S1x512, .f32⟩
  | 50 => ⟨S512, .f32⟩
  | 51 => ⟨S1x512, .f32⟩
  | 52 => ⟨S256x256x512, .f32⟩
  | 53 => ⟨S256x256x512, .f32⟩
  | _ => ⟨S256x256, .i32⟩

abbrev hbmTy (i : Nat) : BufTy := match i / 128 with
  | 0 => hbmTy0_0 i
  | 1 => hbmTy0_1 i
  | 2 => hbmTy0_2 i
  | _ => ⟨S256x256, .i32⟩

abbrev vmemTy0_0 (i : Nat) : BufTy := match i % 128 with
  | 0 => ⟨S4x1x256, .i32⟩
  | 1 => ⟨S4x1x256, .i32⟩
  | 2 => ⟨S4x1x256, .i32⟩
  | 3 => ⟨S4x1x256, .i32⟩
  | 4 => ⟨S4x3x256, .f32⟩
  | 5 => ⟨S4x3x256, .f32⟩
  | 6 => ⟨S128x512, .f32⟩
  | 7 => ⟨S3x512, .f32⟩
  | 8 => ⟨S1x512, .f32⟩
  | 9 => ⟨S4x256x512, .f32⟩
  | 10 => ⟨S4x256x512, .f32⟩
  | 11 => ⟨S4x1x256, .i32⟩
  | 12 => ⟨S4x1x256, .i32⟩
  | 13 => ⟨S4x256x512, .f32⟩
  | 14 => ⟨S4x256x512, .f32⟩
  | 15 => ⟨S1x512, .f32⟩
  | 16 => ⟨S1x512, .f32⟩
  | 17 => ⟨S512x512, .bf16⟩
  | 18 => ⟨S1x512, .f32⟩
  | 19 => ⟨S512x512, .bf16⟩
  | 20 => ⟨S1x512, .f32⟩
  | 21 => ⟨S512x512, .bf16⟩
  | 22 => ⟨S1x512, .f32⟩
  | 23 => ⟨S512x512, .bf16⟩
  | 24 => ⟨S1x512, .f32⟩
  | 25 => ⟨S1x512, .f32⟩
  | 26 => ⟨S1x512, .f32⟩
  | 27 => ⟨S512x2048, .bf16⟩
  | 28 => ⟨S1x2048, .f32⟩
  | 29 => ⟨S2048x512, .bf16⟩
  | 30 => ⟨S1x512, .f32⟩
  | 31 => ⟨S1x512, .f32⟩
  | 32 => ⟨S1x512, .f32⟩
  | 33 => ⟨S4x256x512, .f32⟩
  | 34 => ⟨S4x256x512, .f32⟩
  | 35 => ⟨S4x1x256, .i32⟩
  | 36 => ⟨S4x1x256, .i32⟩
  | 37 => ⟨S4x256x512, .f32⟩
  | 38 => ⟨S4x256x512, .f32⟩
  | 39 => ⟨S1x512, .f32⟩
  | 40 => ⟨S1x512, .f32⟩
  | 41 => ⟨S512x512, .bf16⟩
  | 42 => ⟨S1x512, .f32⟩
  | 43 => ⟨S512x512, .bf16⟩
  | 44 => ⟨S1x512, .f32⟩
  | 45 => ⟨S512x512, .bf16⟩
  | 46 => ⟨S1x512, .f32⟩
  | 47 => ⟨S512x512, .bf16⟩
  | 48 => ⟨S1x512, .f32⟩
  | 49 => ⟨S1x512, .f32⟩
  | 50 => ⟨S1x512, .f32⟩
  | 51 => ⟨S512x2048, .bf16⟩
  | 52 => ⟨S1x2048, .f32⟩
  | 53 => ⟨S2048x512, .bf16⟩
  | 54 => ⟨S1x512, .f32⟩
  | 55 => ⟨S1x512, .f32⟩
  | 56 => ⟨S1x512, .f32⟩
  | 57 => ⟨S4x256x512, .f32⟩
  | 58 => ⟨S4x256x512, .f32⟩
  | 59 => ⟨S4x1x256, .i32⟩
  | 60 => ⟨S4x1x256, .i32⟩
  | 61 => ⟨S4x256x512, .f32⟩
  | 62 => ⟨S4x256x512, .f32⟩
  | 63 => ⟨S1x512, .f32⟩
  | 64 => ⟨S1x512, .f32⟩
  | 65 => ⟨S512x512, .bf16⟩
  | 66 => ⟨S1x512, .f32⟩
  | 67 => ⟨S512x512, .bf16⟩
  | 68 => ⟨S1x512, .f32⟩
  | 69 => ⟨S512x512, .bf16⟩
  | 70 => ⟨S1x512, .f32⟩
  | 71 => ⟨S512x512, .bf16⟩
  | 72 => ⟨S1x512, .f32⟩
  | 73 => ⟨S1x512, .f32⟩
  | 74 => ⟨S1x512, .f32⟩
  | 75 => ⟨S512x2048, .bf16⟩
  | 76 => ⟨S1x2048, .f32⟩
  | 77 => ⟨S2048x512, .bf16⟩
  | 78 => ⟨S1x512, .f32⟩
  | 79 => ⟨S1x512, .f32⟩
  | 80 => ⟨S1x512, .f32⟩
  | 81 => ⟨S4x256x512, .f32⟩
  | 82 => ⟨S4x256x512, .f32⟩
  | 83 => ⟨S4x1x256, .i32⟩
  | 84 => ⟨S4x1x256, .i32⟩
  | 85 => ⟨S4x256x512, .f32⟩
  | 86 => ⟨S4x256x512, .f32⟩
  | 87 => ⟨S1x512, .f32⟩
  | 88 => ⟨S1x512, .f32⟩
  | 89 => ⟨S512x512, .bf16⟩
  | 90 => ⟨S1x512, .f32⟩
  | 91 => ⟨S512x512, .bf16⟩
  | 92 => ⟨S1x512, .f32⟩
  | 93 => ⟨S512x512, .bf16⟩
  | 94 => ⟨S1x512, .f32⟩
  | 95 => ⟨S512x512, .bf16⟩
  | 96 => ⟨S1x512, .f32⟩
  | 97 => ⟨S1x512, .f32⟩
  | 98 => ⟨S1x512, .f32⟩
  | 99 => ⟨S512x2048, .bf16⟩
  | 100 => ⟨S1x2048, .f32⟩
  | 101 => ⟨S2048x512, .bf16⟩
  | 102 => ⟨S1x512, .f32⟩
  | 103 => ⟨S1x512, .f32⟩
  | 104 => ⟨S1x512, .f32⟩
  | 105 => ⟨S4x256x512, .f32⟩
  | 106 => ⟨S4x256x512, .f32⟩
  | 107 => ⟨S4x1x256, .i32⟩
  | 108 => ⟨S4x1x256, .i32⟩
  | 109 => ⟨S4x256x512, .f32⟩
  | 110 => ⟨S4x256x512, .f32⟩
  | 111 => ⟨S1x512, .f32⟩
  | 112 => ⟨S1x512, .f32⟩
  | 113 => ⟨S512x512, .bf16⟩
  | 114 => ⟨S1x512, .f32⟩
  | 115 => ⟨S512x512, .bf16⟩
  | 116 => ⟨S1x512, .f32⟩
  | 117 => ⟨S512x512, .bf16⟩
  | 118 => ⟨S1x512, .f32⟩
  | 119 => ⟨S512x512, .bf16⟩
  | 120 => ⟨S1x512, .f32⟩
  | 121 => ⟨S1x512, .f32⟩
  | 122 => ⟨S1x512, .f32⟩
  | 123 => ⟨S512x2048, .bf16⟩
  | 124 => ⟨S1x2048, .f32⟩
  | 125 => ⟨S2048x512, .bf16⟩
  | 126 => ⟨S1x512, .f32⟩
  | 127 => ⟨S1x512, .f32⟩
  | _ => ⟨S256x256, .i32⟩

abbrev vmemTy0_1 (i : Nat) : BufTy := match i % 128 with
  | 0 => ⟨S1x512, .f32⟩
  | 1 => ⟨S4x256x512, .f32⟩
  | 2 => ⟨S4x256x512, .f32⟩
  | 3 => ⟨S4x1x256, .i32⟩
  | 4 => ⟨S4x1x256, .i32⟩
  | 5 => ⟨S4x256x512, .f32⟩
  | 6 => ⟨S4x256x512, .f32⟩
  | 7 => ⟨S1x512, .f32⟩
  | 8 => ⟨S1x512, .f32⟩
  | 9 => ⟨S512x512, .bf16⟩
  | 10 => ⟨S1x512, .f32⟩
  | 11 => ⟨S512x512, .bf16⟩
  | 12 => ⟨S1x512, .f32⟩
  | 13 => ⟨S512x512, .bf16⟩
  | 14 => ⟨S1x512, .f32⟩
  | 15 => ⟨S512x512, .bf16⟩
  | 16 => ⟨S1x512, .f32⟩
  | 17 => ⟨S1x512, .f32⟩
  | 18 => ⟨S1x512, .f32⟩
  | 19 => ⟨S512x2048, .bf16⟩
  | 20 => ⟨S1x2048, .f32⟩
  | 21 => ⟨S2048x512, .bf16⟩
  | 22 => ⟨S1x512, .f32⟩
  | 23 => ⟨S1x512, .f32⟩
  | 24 => ⟨S1x512, .f32⟩
  | 25 => ⟨S4x256x512, .f32⟩
  | 26 => ⟨S4x256x512, .f32⟩
  | _ => ⟨S256x256, .i32⟩

abbrev vmemTy (i : Nat) : BufTy := match i / 128 with
  | 0 => vmemTy0_0 i
  | 1 => vmemTy0_1 i
  | _ => ⟨S256x256, .i32⟩

abbrev bufTy : (tb : Table) → Fin (tcTables nBuf tb) → BufTy
  | .hbm, ⟨i, _⟩ => hbmTy i
  | .local _ .vmem, ⟨i, _⟩ => vmemTy i
  | .local _ .smem, ⟨0, _⟩ => ⟨S2, .f32⟩
  | _, _ => ⟨S256x256, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | .smem, ⟨0, _⟩ => true
  | _, _ => false

abbrev semScoped : Fin 0 → Bool
  | ⟨_, h⟩ => absurd h (Nat.not_lt_zero _)

abbrev dmaSemScoped : Fin 156 → Bool
  | ⟨i, _⟩ => dmaSemScopedAt i

abbrev sig : RefSig :=
  ofTc nBuf bufTy 0 156 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_c : Ref sig .tc := ⟨.hbm, 31, rfl⟩
abbrev main_call0_v0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_call1_v0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg14_0 : Ref sig .tc := ⟨.vmem, 27, rfl⟩
abbrev cc1_stg15_0 : Ref sig .tc := ⟨.vmem, 28, rfl⟩
abbrev cc1_stg16_0 : Ref sig .tc := ⟨.vmem, 29, rfl⟩
abbrev cc1_stg17_0 : Ref sig .tc := ⟨.vmem, 30, rfl⟩
abbrev cc1_stg18_0 : Ref sig .tc := ⟨.vmem, 31, rfl⟩
abbrev cc1_stg19_0 : Ref sig .tc := ⟨.vmem, 32, rfl⟩
abbrev cc1_stg20_0 : Ref sig .tc := ⟨.vmem, 33, rfl⟩
abbrev cc1_stg20_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg8_0 : Ref sig .tc := ⟨.vmem, 45, rfl⟩
abbrev cc2_stg9_0 : Ref sig .tc := ⟨.vmem, 46, rfl⟩
abbrev cc2_stg10_0 : Ref sig .tc := ⟨.vmem, 47, rfl⟩
abbrev cc2_stg11_0 : Ref sig .tc := ⟨.vmem, 48, rfl⟩
abbrev cc2_stg12_0 : Ref sig .tc := ⟨.vmem, 49, rfl⟩
abbrev cc2_stg13_0 : Ref sig .tc := ⟨.vmem, 50, rfl⟩
abbrev cc2_stg14_0 : Ref sig .tc := ⟨.vmem, 51, rfl⟩
abbrev cc2_stg15_0 : Ref sig .tc := ⟨.vmem, 52, rfl⟩
abbrev cc2_stg16_0 : Ref sig .tc := ⟨.vmem, 53, rfl⟩
abbrev cc2_stg17_0 : Ref sig .tc := ⟨.vmem, 54, rfl⟩
abbrev cc2_stg18_0 : Ref sig .tc := ⟨.vmem, 55, rfl⟩
abbrev cc2_stg19_0 : Ref sig .tc := ⟨.vmem, 56, rfl⟩
abbrev cc2_stg20_0 : Ref sig .tc := ⟨.vmem, 57, rfl⟩
abbrev cc2_stg20_1 : Ref sig .tc := ⟨.vmem, 58, rfl⟩
abbrev cc3_stg0_0 : Ref sig .tc := ⟨.vmem, 59, rfl⟩
abbrev cc3_stg0_1 : Ref sig .tc := ⟨.vmem, 60, rfl⟩
abbrev cc3_stg1_0 : Ref sig .tc := ⟨.vmem, 61, rfl⟩
abbrev cc3_stg1_1 : Ref sig .tc := ⟨.vmem, 62, rfl⟩
abbrev cc3_stg2_0 : Ref sig .tc := ⟨.vmem, 63, rfl⟩
abbrev cc3_stg3_0 : Ref sig .tc := ⟨.vmem, 64, rfl⟩
abbrev cc3_stg4_0 : Ref sig .tc := ⟨.vmem, 65, rfl⟩
abbrev cc3_stg5_0 : Ref sig .tc := ⟨.vmem, 66, rfl⟩
abbrev cc3_stg6_0 : Ref sig .tc := ⟨.vmem, 67, rfl⟩
abbrev cc3_stg7_0 : Ref sig .tc := ⟨.vmem, 68, rfl⟩
abbrev cc3_stg8_0 : Ref sig .tc := ⟨.vmem, 69, rfl⟩
abbrev cc3_stg9_0 : Ref sig .tc := ⟨.vmem, 70, rfl⟩
abbrev cc3_stg10_0 : Ref sig .tc := ⟨.vmem, 71, rfl⟩
abbrev cc3_stg11_0 : Ref sig .tc := ⟨.vmem, 72, rfl⟩
abbrev cc3_stg12_0 : Ref sig .tc := ⟨.vmem, 73, rfl⟩
abbrev cc3_stg13_0 : Ref sig .tc := ⟨.vmem, 74, rfl⟩
abbrev cc3_stg14_0 : Ref sig .tc := ⟨.vmem, 75, rfl⟩
abbrev cc3_stg15_0 : Ref sig .tc := ⟨.vmem, 76, rfl⟩
abbrev cc3_stg16_0 : Ref sig .tc := ⟨.vmem, 77, rfl⟩
abbrev cc3_stg17_0 : Ref sig .tc := ⟨.vmem, 78, rfl⟩
abbrev cc3_stg18_0 : Ref sig .tc := ⟨.vmem, 79, rfl⟩
abbrev cc3_stg19_0 : Ref sig .tc := ⟨.vmem, 80, rfl⟩
abbrev cc3_stg20_0 : Ref sig .tc := ⟨.vmem, 81, rfl⟩
abbrev cc3_stg20_1 : Ref sig .tc := ⟨.vmem, 82, rfl⟩
abbrev cc4_stg0_0 : Ref sig .tc := ⟨.vmem, 83, rfl⟩
abbrev cc4_stg0_1 : Ref sig .tc := ⟨.vmem, 84, rfl⟩
abbrev cc4_stg1_0 : Ref sig .tc := ⟨.vmem, 85, rfl⟩
abbrev cc4_stg1_1 : Ref sig .tc := ⟨.vmem, 86, rfl⟩
abbrev cc4_stg2_0 : Ref sig .tc := ⟨.vmem, 87, rfl⟩
abbrev cc4_stg3_0 : Ref sig .tc := ⟨.vmem, 88, rfl⟩
abbrev cc4_stg4_0 : Ref sig .tc := ⟨.vmem, 89, rfl⟩
abbrev cc4_stg5_0 : Ref sig .tc := ⟨.vmem, 90, rfl⟩
abbrev cc4_stg6_0 : Ref sig .tc := ⟨.vmem, 91, rfl⟩
abbrev cc4_stg7_0 : Ref sig .tc := ⟨.vmem, 92, rfl⟩
abbrev cc4_stg8_0 : Ref sig .tc := ⟨.vmem, 93, rfl⟩
abbrev cc4_stg9_0 : Ref sig .tc := ⟨.vmem, 94, rfl⟩
abbrev cc4_stg10_0 : Ref sig .tc := ⟨.vmem, 95, rfl⟩
abbrev cc4_stg11_0 : Ref sig .tc := ⟨.vmem, 96, rfl⟩
abbrev cc4_stg12_0 : Ref sig .tc := ⟨.vmem, 97, rfl⟩
abbrev cc4_stg13_0 : Ref sig .tc := ⟨.vmem, 98, rfl⟩
abbrev cc4_stg14_0 : Ref sig .tc := ⟨.vmem, 99, rfl⟩
abbrev cc4_stg15_0 : Ref sig .tc := ⟨.vmem, 100, rfl⟩
abbrev cc4_stg16_0 : Ref sig .tc := ⟨.vmem, 101, rfl⟩
abbrev cc4_stg17_0 : Ref sig .tc := ⟨.vmem, 102, rfl⟩
abbrev cc4_stg18_0 : Ref sig .tc := ⟨.vmem, 103, rfl⟩
abbrev cc4_stg19_0 : Ref sig .tc := ⟨.vmem, 104, rfl⟩
abbrev cc4_stg20_0 : Ref sig .tc := ⟨.vmem, 105, rfl⟩
abbrev cc4_stg20_1 : Ref sig .tc := ⟨.vmem, 106, rfl⟩
abbrev cc5_stg0_0 : Ref sig .tc := ⟨.vmem, 107, rfl⟩
abbrev cc5_stg0_1 : Ref sig .tc := ⟨.vmem, 108, rfl⟩
abbrev cc5_stg1_0 : Ref sig .tc := ⟨.vmem, 109, rfl⟩
abbrev cc5_stg1_1 : Ref sig .tc := ⟨.vmem, 110, rfl⟩
abbrev cc5_stg2_0 : Ref sig .tc := ⟨.vmem, 111, rfl⟩
abbrev cc5_stg3_0 : Ref sig .tc := ⟨.vmem, 112, rfl⟩
abbrev cc5_stg4_0 : Ref sig .tc := ⟨.vmem, 113, rfl⟩
abbrev cc5_stg5_0 : Ref sig .tc := ⟨.vmem, 114, rfl⟩
abbrev cc5_stg6_0 : Ref sig .tc := ⟨.vmem, 115, rfl⟩
abbrev cc5_stg7_0 : Ref sig .tc := ⟨.vmem, 116, rfl⟩
abbrev cc5_stg8_0 : Ref sig .tc := ⟨.vmem, 117, rfl⟩
abbrev cc5_stg9_0 : Ref sig .tc := ⟨.vmem, 118, rfl⟩
abbrev cc5_stg10_0 : Ref sig .tc := ⟨.vmem, 119, rfl⟩
abbrev cc5_stg11_0 : Ref sig .tc := ⟨.vmem, 120, rfl⟩
abbrev cc5_stg12_0 : Ref sig .tc := ⟨.vmem, 121, rfl⟩
abbrev cc5_stg13_0 : Ref sig .tc := ⟨.vmem, 122, rfl⟩
abbrev cc5_stg14_0 : Ref sig .tc := ⟨.vmem, 123, rfl⟩
abbrev cc5_stg15_0 : Ref sig .tc := ⟨.vmem, 124, rfl⟩
abbrev cc5_stg16_0 : Ref sig .tc := ⟨.vmem, 125, rfl⟩
abbrev cc5_stg17_0 : Ref sig .tc := ⟨.vmem, 126, rfl⟩
abbrev cc5_stg18_0 : Ref sig .tc := ⟨.vmem, 127, rfl⟩
abbrev cc5_stg19_0 : Ref sig .tc := ⟨.vmem, 128, rfl⟩
abbrev cc5_stg20_0 : Ref sig .tc := ⟨.vmem, 129, rfl⟩
abbrev cc5_stg20_1 : Ref sig .tc := ⟨.vmem, 130, rfl⟩
abbrev cc6_stg0_0 : Ref sig .tc := ⟨.vmem, 131, rfl⟩
abbrev cc6_stg0_1 : Ref sig .tc := ⟨.vmem, 132, rfl⟩
abbrev cc6_stg1_0 : Ref sig .tc := ⟨.vmem, 133, rfl⟩
abbrev cc6_stg1_1 : Ref sig .tc := ⟨.vmem, 134, rfl⟩
abbrev cc6_stg2_0 : Ref sig .tc := ⟨.vmem, 135, rfl⟩
abbrev cc6_stg3_0 : Ref sig .tc := ⟨.vmem, 136, rfl⟩
abbrev cc6_stg4_0 : Ref sig .tc := ⟨.vmem, 137, rfl⟩
abbrev cc6_stg5_0 : Ref sig .tc := ⟨.vmem, 138, rfl⟩
abbrev cc6_stg6_0 : Ref sig .tc := ⟨.vmem, 139, rfl⟩
abbrev cc6_stg7_0 : Ref sig .tc := ⟨.vmem, 140, rfl⟩
abbrev cc6_stg8_0 : Ref sig .tc := ⟨.vmem, 141, rfl⟩
abbrev cc6_stg9_0 : Ref sig .tc := ⟨.vmem, 142, rfl⟩
abbrev cc6_stg10_0 : Ref sig .tc := ⟨.vmem, 143, rfl⟩
abbrev cc6_stg11_0 : Ref sig .tc := ⟨.vmem, 144, rfl⟩
abbrev cc6_stg12_0 : Ref sig .tc := ⟨.vmem, 145, rfl⟩
abbrev cc6_stg13_0 : Ref sig .tc := ⟨.vmem, 146, rfl⟩
abbrev cc6_stg14_0 : Ref sig .tc := ⟨.vmem, 147, rfl⟩
abbrev cc6_stg15_0 : Ref sig .tc := ⟨.vmem, 148, rfl⟩
abbrev cc6_stg16_0 : Ref sig .tc := ⟨.vmem, 149, rfl⟩
abbrev cc6_stg17_0 : Ref sig .tc := ⟨.vmem, 150, rfl⟩
abbrev cc6_stg18_0 : Ref sig .tc := ⟨.vmem, 151, rfl⟩
abbrev cc6_stg19_0 : Ref sig .tc := ⟨.vmem, 152, rfl⟩
abbrev cc6_stg20_0 : Ref sig .tc := ⟨.vmem, 153, rfl⟩
abbrev cc6_stg20_1 : Ref sig .tc := ⟨.vmem, 154, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem14_0 : DmaSem sig := 28
abbrev cc1_sem15_0 : DmaSem sig := 29
abbrev cc1_sem16_0 : DmaSem sig := 30
abbrev cc1_sem17_0 : DmaSem sig := 31
abbrev cc1_sem18_0 : DmaSem sig := 32
abbrev cc1_sem19_0 : DmaSem sig := 33
abbrev cc1_sem20_0 : DmaSem sig := 34
abbrev cc1_sem20_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem9_0 : DmaSem sig := 47
abbrev cc2_sem10_0 : DmaSem sig := 48
abbrev cc2_sem11_0 : DmaSem sig := 49
abbrev cc2_sem12_0 : DmaSem sig := 50
abbrev cc2_sem13_0 : DmaSem sig := 51
abbrev cc2_sem14_0 : DmaSem sig := 52
abbrev cc2_sem15_0 : DmaSem sig := 53
abbrev cc2_sem16_0 : DmaSem sig := 54
abbrev cc2_sem17_0 : DmaSem sig := 55
abbrev cc2_sem18_0 : DmaSem sig := 56
abbrev cc2_sem19_0 : DmaSem sig := 57
abbrev cc2_sem20_0 : DmaSem sig := 58
abbrev cc2_sem20_1 : DmaSem sig := 59
abbrev cc3_sem0_0 : DmaSem sig := 60
abbrev cc3_sem0_1 : DmaSem sig := 61
abbrev cc3_sem1_0 : DmaSem sig := 62
abbrev cc3_sem1_1 : DmaSem sig := 63
abbrev cc3_sem2_0 : DmaSem sig := 64
abbrev cc3_sem3_0 : DmaSem sig := 65
abbrev cc3_sem4_0 : DmaSem sig := 66
abbrev cc3_sem5_0 : DmaSem sig := 67
abbrev cc3_sem6_0 : DmaSem sig := 68
abbrev cc3_sem7_0 : DmaSem sig := 69
abbrev cc3_sem8_0 : DmaSem sig := 70
abbrev cc3_sem9_0 : DmaSem sig := 71
abbrev cc3_sem10_0 : DmaSem sig := 72
abbrev cc3_sem11_0 : DmaSem sig := 73
abbrev cc3_sem12_0 : DmaSem sig := 74
abbrev cc3_sem13_0 : DmaSem sig := 75
abbrev cc3_sem14_0 : DmaSem sig := 76
abbrev cc3_sem15_0 : DmaSem sig := 77
abbrev cc3_sem16_0 : DmaSem sig := 78
abbrev cc3_sem17_0 : DmaSem sig := 79
abbrev cc3_sem18_0 : DmaSem sig := 80
abbrev cc3_sem19_0 : DmaSem sig := 81
abbrev cc3_sem20_0 : DmaSem sig := 82
abbrev cc3_sem20_1 : DmaSem sig := 83
abbrev cc4_sem0_0 : DmaSem sig := 84
abbrev cc4_sem0_1 : DmaSem sig := 85
abbrev cc4_sem1_0 : DmaSem sig := 86
abbrev cc4_sem1_1 : DmaSem sig := 87
abbrev cc4_sem2_0 : DmaSem sig := 88
abbrev cc4_sem3_0 : DmaSem sig := 89
abbrev cc4_sem4_0 : DmaSem sig := 90
abbrev cc4_sem5_0 : DmaSem sig := 91
abbrev cc4_sem6_0 : DmaSem sig := 92
abbrev cc4_sem7_0 : DmaSem sig := 93
abbrev cc4_sem8_0 : DmaSem sig := 94
abbrev cc4_sem9_0 : DmaSem sig := 95
abbrev cc4_sem10_0 : DmaSem sig := 96
abbrev cc4_sem11_0 : DmaSem sig := 97
abbrev cc4_sem12_0 : DmaSem sig := 98
abbrev cc4_sem13_0 : DmaSem sig := 99
abbrev cc4_sem14_0 : DmaSem sig := 100
abbrev cc4_sem15_0 : DmaSem sig := 101
abbrev cc4_sem16_0 : DmaSem sig := 102
abbrev cc4_sem17_0 : DmaSem sig := 103
abbrev cc4_sem18_0 : DmaSem sig := 104
abbrev cc4_sem19_0 : DmaSem sig := 105
abbrev cc4_sem20_0 : DmaSem sig := 106
abbrev cc4_sem20_1 : DmaSem sig := 107
abbrev cc5_sem0_0 : DmaSem sig := 108
abbrev cc5_sem0_1 : DmaSem sig := 109
abbrev cc5_sem1_0 : DmaSem sig := 110
abbrev cc5_sem1_1 : DmaSem sig := 111
abbrev cc5_sem2_0 : DmaSem sig := 112
abbrev cc5_sem3_0 : DmaSem sig := 113
abbrev cc5_sem4_0 : DmaSem sig := 114
abbrev cc5_sem5_0 : DmaSem sig := 115
abbrev cc5_sem6_0 : DmaSem sig := 116
abbrev cc5_sem7_0 : DmaSem sig := 117
abbrev cc5_sem8_0 : DmaSem sig := 118
abbrev cc5_sem9_0 : DmaSem sig := 119
abbrev cc5_sem10_0 : DmaSem sig := 120
abbrev cc5_sem11_0 : DmaSem sig := 121
abbrev cc5_sem12_0 : DmaSem sig := 122
abbrev cc5_sem13_0 : DmaSem sig := 123
abbrev cc5_sem14_0 : DmaSem sig := 124
abbrev cc5_sem15_0 : DmaSem sig := 125
abbrev cc5_sem16_0 : DmaSem sig := 126
abbrev cc5_sem17_0 : DmaSem sig := 127
abbrev cc5_sem18_0 : DmaSem sig := 128
abbrev cc5_sem19_0 : DmaSem sig := 129
abbrev cc5_sem20_0 : DmaSem sig := 130
abbrev cc5_sem20_1 : DmaSem sig := 131
abbrev cc6_sem0_0 : DmaSem sig := 132
abbrev cc6_sem0_1 : DmaSem sig := 133
abbrev cc6_sem1_0 : DmaSem sig := 134
abbrev cc6_sem1_1 : DmaSem sig := 135
abbrev cc6_sem2_0 : DmaSem sig := 136
abbrev cc6_sem3_0 : DmaSem sig := 137
abbrev cc6_sem4_0 : DmaSem sig := 138
abbrev cc6_sem5_0 : DmaSem sig := 139
abbrev cc6_sem6_0 : DmaSem sig := 140
abbrev cc6_sem7_0 : DmaSem sig := 141
abbrev cc6_sem8_0 : DmaSem sig := 142
abbrev cc6_sem9_0 : DmaSem sig := 143
abbrev cc6_sem10_0 : DmaSem sig := 144
abbrev cc6_sem11_0 : DmaSem sig := 145
abbrev cc6_sem12_0 : DmaSem sig := 146
abbrev cc6_sem13_0 : DmaSem sig := 147
abbrev cc6_sem14_0 : DmaSem sig := 148
abbrev cc6_sem15_0 : DmaSem sig := 149
abbrev cc6_sem16_0 : DmaSem sig := 150
abbrev cc6_sem17_0 : DmaSem sig := 151
abbrev cc6_sem18_0 : DmaSem sig := 152
abbrev cc6_sem19_0 : DmaSem sig := 153
abbrev cc6_sem20_0 : DmaSem sig := 154
abbrev cc6_sem20_1 : DmaSem sig := 155

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x1x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x512 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S512x2048 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x2048 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S2048x512 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x512 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x512 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x512 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 2 → Memref sig .tc .vmem S4x256x512 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4x1x256 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x512 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512x512 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512x512 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x512 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S512x2048 .bf16 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x2048 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S2048x512 .bf16 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x512 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x512 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S1x512 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 2 → Memref sig .tc .vmem S4x256x512 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev grid3 : Pipeline.Grid := ⟨1, ![64], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4x1x256 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x256x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x512 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512x512 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S512x512 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x512 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x512 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x512 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S512x2048 .bf16 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x2048 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S2048x512 .bf16 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S1x512 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S1x512 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S1x512 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev stage3_20 : Fin 2 → Memref sig .tc .vmem S4x256x512 .f32 := fun | 0 => Memref.whole cc3_stg20_0 | 1 => Memref.whole cc3_stg20_1 | ⟨_ + 2, h⟩ => absurd h (Nat.not_lt.2 (Nat.le_add_left _ _))
abbrev sem3_20 : Fin 2 → DmaSem sig := fun | 0 => cc3_sem20_0 | 1 => cc3_sem20_1 | ⟨_ + 2, h⟩ => absurd h (Nat.not_lt.2 (Nat.le_add_left _ _))
abbrev reads3_20 : Fin grid3.rank → Bool := ![true]

abbrev grid4 : Pipeline.Grid := ⟨1, ![64], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_18 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_19 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_20 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S4x1x256 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4x256x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x512 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x512 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S512x512 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x512 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S512x512 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x512 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x512 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x512 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S512x2048 .bf16 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S1x2048 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S2048x512 .bf16 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 1 → Memref sig .tc .vmem S1x512 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false]

abbrev stage4_18 : Fin 1 → Memref sig .tc .vmem S1x512 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![false]

abbrev stage4_19 : Fin 1 → Memref sig .tc .vmem S1x512 .f32 := fun | 0 => Memref.whole cc4_stg19_0 | ⟨_ + 1, h⟩ => absurd h (Nat.not_lt.2 (Nat.le_add_left _ _))
abbrev sem4_19 : Fin 1 → DmaSem sig := fun | 0 => cc4_sem19_0 | ⟨_ + 1, h⟩ => absurd h (Nat.not_lt.2 (Nat.le_add_left _ _))
abbrev reads4_19 : Fin grid4.rank → Bool := ![false]

abbrev stage4_20 : Fin 2 → Memref sig .tc .vmem S4x256x512 .f32 := fun | 0 => Memref.whole cc4_stg20_0 | 1 => Memref.whole cc4_stg20_1 | ⟨_ + 2, h⟩ => absurd h (Nat.not_lt.2 (Nat.le_add_left _ _))
abbrev sem4_20 : Fin 2 → DmaSem sig := fun | 0 => cc4_sem20_0 | 1 => cc4_sem20_1 | ⟨_ + 2, h⟩ => absurd h (Nat.not_lt.2 (Nat.le_add_left _ _))
abbrev reads4_20 : Fin grid4.rank → Bool := ![true]

abbrev grid5 : Pipeline.Grid := ⟨1, ![64], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_15 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_16 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_17 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_18 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_19 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_20 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S4x1x256 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4x256x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x512 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S512x512 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x512 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S512x512 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x512 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S512x512 .bf16 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x512 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x512 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x512 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 1 → Memref sig .tc .vmem S512x2048 .bf16 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))
abbrev reads5_14 : Fin grid5.rank → Bool := ![false]

abbrev stage5_15 : Fin 1 → Memref sig .tc .vmem S1x2048 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

abbrev stage5_16 : Fin 1 → Memref sig .tc .vmem S2048x512 .bf16 := fun | 0 => Memref.whole cc5_stg16_0 | ⟨_ + 1, h⟩ => absurd h (Nat.not_lt.2 (Nat.le_add_left _ _))
abbrev sem5_16 : Fin 1 → DmaSem sig := fun | 0 => cc5_sem16_0 | ⟨_ + 1, h⟩ => absurd h (Nat.not_lt.2 (Nat.le_add_left _ _))
abbrev reads5_16 : Fin grid5.rank → Bool := ![false]

abbrev stage5_17 : Fin 1 → Memref sig .tc .vmem S1x512 .f32 := fun | 0 => Memref.whole cc5_stg17_0 | ⟨_ + 1, h⟩ => absurd h (Nat.not_lt.2 (Nat.le_add_left _ _))
abbrev sem5_17 : Fin 1 → DmaSem sig := fun | 0 => cc5_sem17_0 | ⟨_ + 1, h⟩ => absurd h (Nat.not_lt.2 (Nat.le_add_left _ _))
abbrev reads5_17 : Fin grid5.rank → Bool := ![false]

abbrev stage5_18 : Fin 1 → Memref sig .tc .vmem S1x512 .f32 := fun | 0 => Memref.whole cc5_stg18_0 | ⟨_ + 1, h⟩ => absurd h (Nat.not_lt.2 (Nat.le_add_left _ _))
abbrev sem5_18 : Fin 1 → DmaSem sig := fun | 0 => cc5_sem18_0 | ⟨_ + 1, h⟩ => absurd h (Nat.not_lt.2 (Nat.le_add_left _ _))
abbrev reads5_18 : Fin grid5.rank → Bool := ![false]

abbrev stage5_19 : Fin 1 → Memref sig .tc .vmem S1x512 .f32 := fun | 0 => Memref.whole cc5_stg19_0 | ⟨_ + 1, h⟩ => absurd h (Nat.not_lt.2 (Nat.le_add_left _ _))
abbrev sem5_19 : Fin 1 → DmaSem sig := fun | 0 => cc5_sem19_0 | ⟨_ + 1, h⟩ => absurd h (Nat.not_lt.2 (Nat.le_add_left _ _))
abbrev reads5_19 : Fin grid5.rank → Bool := ![false]

abbrev stage5_20 : Fin 2 → Memref sig .tc .vmem S4x256x512 .f32 := fun | 0 => Memref.whole cc5_stg20_0 | 1 => Memref.whole cc5_stg20_1 | ⟨_ + 2, h⟩ => absurd h (Nat.not_lt.2 (Nat.le_add_left _ _))
abbrev sem5_20 : Fin 2 → DmaSem sig := fun | 0 => cc5_sem20_0 | 1 => cc5_sem20_1 | ⟨_ + 2, h⟩ => absurd h (Nat.not_lt.2 (Nat.le_add_left _ _))
abbrev reads5_20 : Fin grid5.rank → Bool := ![true]

abbrev grid6 : Pipeline.Grid := ⟨1, ![64], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_15 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_16 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_17 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_18 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_19 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_20 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S4x1x256 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4x256x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S512x512 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x512 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S512x512 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x512 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S512x512 .bf16 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x512 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S512x512 .bf16 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x512 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x512 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S1x512 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 1 → Memref sig .tc .vmem S512x2048 .bf16 := fun | 0 => Memref.whole cc6_stg14_0 | ⟨_ + 1, h⟩ => absurd h (Nat.not_lt.2 (Nat.le_add_left _ _))
abbrev sem6_14 : Fin 1 → DmaSem sig := fun | 0 => cc6_sem14_0 | ⟨_ + 1, h⟩ => absurd h (Nat.not_lt.2 (Nat.le_add_left _ _))
abbrev reads6_14 : Fin grid6.rank → Bool := ![false]

abbrev stage6_15 : Fin 1 → Memref sig .tc .vmem S1x2048 .f32 := fun | 0 => Memref.whole cc6_stg15_0 | ⟨_ + 1, h⟩ => absurd h (Nat.not_lt.2 (Nat.le_add_left _ _))
abbrev sem6_15 : Fin 1 → DmaSem sig := fun | 0 => cc6_sem15_0 | ⟨_ + 1, h⟩ => absurd h (Nat.not_lt.2 (Nat.le_add_left _ _))
abbrev reads6_15 : Fin grid6.rank → Bool := ![false]

abbrev stage6_16 : Fin 1 → Memref sig .tc .vmem S2048x512 .bf16 := fun | 0 => Memref.whole cc6_stg16_0 | ⟨_ + 1, h⟩ => absurd h (Nat.not_lt.2 (Nat.le_add_left _ _))
abbrev sem6_16 : Fin 1 → DmaSem sig := fun | 0 => cc6_sem16_0 | ⟨_ + 1, h⟩ => absurd h (Nat.not_lt.2 (Nat.le_add_left _ _))
abbrev reads6_16 : Fin grid6.rank → Bool := ![false]

abbrev stage6_17 : Fin 1 → Memref sig .tc .vmem S1x512 .f32 := fun | 0 => Memref.whole cc6_stg17_0 | ⟨_ + 1, h⟩ => absurd h (Nat.not_lt.2 (Nat.le_add_left _ _))
abbrev sem6_17 : Fin 1 → DmaSem sig := fun | 0 => cc6_sem17_0 | ⟨_ + 1, h⟩ => absurd h (Nat.not_lt.2 (Nat.le_add_left _ _))
abbrev reads6_17 : Fin grid6.rank → Bool := ![false]

abbrev stage6_18 : Fin 1 → Memref sig .tc .vmem S1x512 .f32 := fun | 0 => Memref.whole cc6_stg18_0 | ⟨_ + 1, h⟩ => absurd h (Nat.not_lt.2 (Nat.le_add_left _ _))
abbrev sem6_18 : Fin 1 → DmaSem sig := fun | 0 => cc6_sem18_0 | ⟨_ + 1, h⟩ => absurd h (Nat.not_lt.2 (Nat.le_add_left _ _))
abbrev reads6_18 : Fin grid6.rank → Bool := ![false]

abbrev stage6_19 : Fin 1 → Memref sig .tc .vmem S1x512 .f32 := fun | 0 => Memref.whole cc6_stg19_0 | ⟨_ + 1, h⟩ => absurd h (Nat.not_lt.2 (Nat.le_add_left _ _))
abbrev sem6_19 : Fin 1 → DmaSem sig := fun | 0 => cc6_sem19_0 | ⟨_ + 1, h⟩ => absurd h (Nat.not_lt.2 (Nat.le_add_left _ _))
abbrev reads6_19 : Fin grid6.rank → Bool := ![false]

abbrev stage6_20 : Fin 2 → Memref sig .tc .vmem S4x256x512 .f32 := fun | 0 => Memref.whole cc6_stg20_0 | 1 => Memref.whole cc6_stg20_1 | ⟨_ + 2, h⟩ => absurd h (Nat.not_lt.2 (Nat.le_add_left _ _))
abbrev sem6_20 : Fin 2 → DmaSem sig := fun | 0 => cc6_sem20_0 | 1 => cc6_sem20_1 | ⟨_ + 2, h⟩ => absurd h (Nat.not_lt.2 (Nat.le_add_left _ _))
abbrev reads6_20 : Fin grid6.rank → Bool := ![true]
-- ==== ReferenceIdeal.lean ====
abbrev S256x256 : Shape := ⟨2, ![256, 256]⟩
abbrev S32768x3 : Shape := ⟨2, ![32768, 3]⟩
abbrev S32768 : Shape := ⟨1, ![32768]⟩
abbrev S128x512 : Shape := ⟨2, ![128, 512]⟩
abbrev S3x512 : Shape := ⟨2, ![3, 512]⟩
abbrev S512 : Shape := ⟨1, ![512]⟩
abbrev S1 : Shape := ⟨1, ![1]⟩
abbrev S6x512 : Shape := ⟨2, ![6, 512]⟩
abbrev S6x512x512 : Shape := ⟨3, ![6, 512, 512]⟩
abbrev S6x512x2048 : Shape := ⟨3, ![6, 512, 2048]⟩
abbrev S6x2048 : Shape := ⟨2, ![6, 2048]⟩
abbrev S6x2048x512 : Shape := ⟨3, ![6, 2048, 512]⟩
abbrev S_ : Shape := ⟨0, ![]⟩
abbrev S256x256x1 : Shape := ⟨3, ![256, 256, 1]⟩
abbrev S256x256x512 : Shape := ⟨3, ![256, 256, 512]⟩
abbrev S32768x1 : Shape := ⟨2, ![32768, 1]⟩
abbrev S32768x512 : Shape := ⟨2, ![32768, 512]⟩
abbrev S1x512 : Shape := ⟨2, ![1, 512]⟩
abbrev S32768x2 : Shape := ⟨2, ![32768, 2]⟩
abbrev S1x1x1 : Shape := ⟨3, ![1, 1, 1]⟩
abbrev S1x512x512 : Shape := ⟨3, ![1, 512, 512]⟩
abbrev S512x512 : Shape := ⟨2, ![512, 512]⟩
abbrev S1x512x2048 : Shape := ⟨3, ![1, 512, 2048]⟩
abbrev S512x2048 : Shape := ⟨2, ![512, 2048]⟩
abbrev S1x2048 : Shape := ⟨2, ![1, 2048]⟩
abbrev S2048 : Shape := ⟨1, ![2048]⟩
abbrev S1x2048x512 : Shape := ⟨3, ![1, 2048, 512]⟩
abbrev S2048x512 : Shape := ⟨2, ![2048, 512]⟩
abbrev S1x1x512 : Shape := ⟨3, ![1, 1, 512]⟩
abbrev S256x256x8x64 : Shape := ⟨4, ![256, 256, 8, 64]⟩
abbrev S256x8x256x256 : Shape := ⟨4, ![256, 8, 256, 256]⟩
abbrev S256x1x1x256 : Shape := ⟨4, ![256, 1, 1, 256]⟩
abbrev S256x8x256 : Shape := ⟨3, ![256, 8, 256]⟩
abbrev S256x8x256x1 : Shape := ⟨4, ![256, 8, 256, 1]⟩
abbrev S256x8x64x256 : Shape := ⟨4, ![256, 8, 64, 256]⟩
abbrev S256x256x2048 : Shape := ⟨3, ![256, 256, 2048]⟩
abbrev S1x1x2048 : Shape := ⟨3, ![1, 1, 2048]⟩

abbrev nBuf : Space → Nat
  | .hbm => 311
  | .vmem => 0
  | .smem => 0
  | _ => 0

abbrev hbmTy0_0 (i : Nat) : BufTy := match i % 128 with
  | 0 => ⟨S256x256, .i32⟩
  | 1 => ⟨S32768x3, .f32⟩
  | 2 => ⟨S32768, .i32⟩
  | 3 => ⟨S32768, .i32⟩
  | 4 => ⟨S32768, .i32⟩
  | 5 => ⟨S128x512, .f32⟩
  | 6 => ⟨S3x512, .f32⟩
  | 7 => ⟨S512, .f32⟩
  | 8 => ⟨S1, .f32⟩
  | 9 => ⟨S1, .f32⟩
  | 10 => ⟨S6x512, .f32⟩
  | 11 => ⟨S6x512, .f32⟩
  | 12 => ⟨S6x512x512, .f32⟩
  | 13 => ⟨S6x512, .f32⟩
  | 14 => ⟨S6x512x512, .f32⟩
  | 15 => ⟨S6x512, .f32⟩
  | 16 => ⟨S6x512x512, .f32⟩
  | 17 => ⟨S6x512, .f32⟩
  | 18 => ⟨S6x512x512, .f32⟩
  | 19 => ⟨S6x512, .f32⟩
  | 20 => ⟨S6x512, .f32⟩
  | 21 => ⟨S6x512, .f32⟩
  | 22 => ⟨S6x512x2048, .f32⟩
  | 23 => ⟨S6x2048, .f32⟩
  | 24 => ⟨S6x2048x512, .f32⟩
  | 25 => ⟨S6x512, .f32⟩
  | 26 => ⟨S512, .f32⟩
  | 27 => ⟨S512, .f32⟩
  | 28 => ⟨S_, .i32⟩
  | 29 => ⟨S256x256, .i32⟩
  | 30 => ⟨S256x256, .i1⟩
  | 31 => ⟨S_, .i32⟩
  | 32 => ⟨S256x256, .i32⟩
  | 33 => ⟨S256x256, .i32⟩
  | 34 => ⟨S256x256, .i32⟩
  | 35 => ⟨S256x256x1, .i32⟩
  | 36 => ⟨S256x256x512, .f32⟩
  | 37 => ⟨S256x256x512, .f32⟩
  | 38 => ⟨S_, .i32⟩
  | 39 => ⟨S32768, .i32⟩
  | 40 => ⟨S32768, .i1⟩
  | 41 => ⟨S_, .i32⟩
  | 42 => ⟨S32768, .i32⟩
  | 43 => ⟨S32768, .i32⟩
  | 44 => ⟨S32768, .i32⟩
  | 45 => ⟨S32768x1, .i32⟩
  | 46 => ⟨S32768x512, .f32⟩
  | 47 => ⟨S32768x512, .f32⟩
  | 48 => ⟨S32768x512, .f32⟩
  | 49 => ⟨S1x512, .f32⟩
  | 50 => ⟨S32768x512, .f32⟩
  | 51 => ⟨S32768x512, .f32⟩
  | 52 => ⟨S_, .f32⟩
  | 53 => ⟨S256x256x512, .f32⟩
  | 54 => ⟨S_, .i32⟩
  | 55 => ⟨S32768, .i32⟩
  | 56 => ⟨S32768, .i32⟩
  | 57 => ⟨S_, .i32⟩
  | 58 => ⟨S32768, .i32⟩
  | 59 => ⟨S32768, .i1⟩
  | 60 => ⟨S_, .i32⟩
  | 61 => ⟨S32768, .i32⟩
  | 62 => ⟨S32768, .i32⟩
  | 63 => ⟨S32768, .i32⟩
  | 64 => ⟨S_, .i32⟩
  | 65 => ⟨S32768, .i32⟩
  | 66 => ⟨S32768, .i1⟩
  | 67 => ⟨S_, .i32⟩
  | 68 => ⟨S32768, .i32⟩
  | 69 => ⟨S32768, .i32⟩
  | 70 => ⟨S32768, .i32⟩
  | 71 => ⟨S32768x1, .i32⟩
  | 72 => ⟨S32768x1, .i32⟩
  | 73 => ⟨S32768x2, .i32⟩
  | 74 => ⟨S256x256x512, .f32⟩
  | 75 => ⟨S1x1x1, .f32⟩
  | 76 => ⟨S256x256x512, .f32⟩
  | 77 => ⟨S256x256x512, .f32⟩
  | 78 => ⟨S1x1x1, .f32⟩
  | 79 => ⟨S256x256x512, .f32⟩
  | 80 => ⟨S256x256x512, .f32⟩
  | 81 => ⟨S256x256x512, .f32⟩
  | 82 => ⟨S256x256, .i32⟩
  | 83 => ⟨S_, .i32⟩
  | 84 => ⟨S256x256, .i32⟩
  | 85 => ⟨S256x256, .i1⟩
  | 86 => ⟨S_, .i32⟩
  | 87 => ⟨S6x512, .f32⟩
  | 88 => ⟨S6x512, .f32⟩
  | 89 => ⟨S6x512x512, .f32⟩
  | 90 => ⟨S6x512, .f32⟩
  | 91 => ⟨S6x512x512, .f32⟩
  | 92 => ⟨S6x512, .f32⟩
  | 93 => ⟨S6x512x512, .f32⟩
  | 94 => ⟨S6x512, .f32⟩
  | 95 => ⟨S6x512x512, .f32⟩
  | 96 => ⟨S6x512, .f32⟩
  | 97 => ⟨S6x512, .f32⟩
  | 98 => ⟨S6x512, .f32⟩
  | 99 => ⟨S6x512x2048, .f32⟩
  | 100 => ⟨S6x2048, .f32⟩
  | 101 => ⟨S6x2048x512, .f32⟩
  | 102 => ⟨S6x512, .f32⟩
  | 103 => ⟨S256x256, .i1⟩
  | 104 => ⟨S_, .i32⟩
  | 105 => ⟨S256x256x512, .f32⟩
  | 106 => ⟨S_, .i32⟩
  | 107 => ⟨S_, .i1⟩
  | 108 => ⟨S_, .i32⟩
  | 109 => ⟨S1x512, .f32⟩
  | 110 => ⟨S512, .f32⟩
  | 111 => ⟨S_, .i32⟩
  | 112 => ⟨S1x512, .f32⟩
  | 113 => ⟨S512, .f32⟩
  | 114 => ⟨S_, .i32⟩
  | 115 => ⟨S_, .i32⟩
  | 116 => ⟨S1x512x512, .f32⟩
  | 117 => ⟨S512x512, .f32⟩
  | 118 => ⟨S_, .i32⟩
  | 119 => ⟨S1x512, .f32⟩
  | 120 => ⟨S512, .f32⟩
  | 121 => ⟨S_, .i32⟩
  | 122 => ⟨S_, .i32⟩
  | 123 => ⟨S1x512x512, .f32⟩
  | 124 => ⟨S512x512, .f32⟩
  | 125 => ⟨S_, .i32⟩
  | 126 => ⟨S1x512, .f32⟩
  | 127 => ⟨S512, .f32⟩
  | _ => ⟨S256x256, .i32⟩

abbrev hbmTy0_1 (i : Nat) : BufTy := match i % 128 with
  | 0 => ⟨S_, .i32⟩
  | 1 => ⟨S_, .i32⟩
  | 2 => ⟨S1x512x512, .f32⟩
  | 3 => ⟨S512x512, .f32⟩
  | 4 => ⟨S_, .i32⟩
  | 5 => ⟨S1x512, .f32⟩
  | 6 => ⟨S512, .f32⟩
  | 7 => ⟨S_, .i32⟩
  | 8 => ⟨S_, .i32⟩
  | 9 => ⟨S1x512x512, .f32⟩
  | 10 => ⟨S512x512, .f32⟩
  | 11 => ⟨S_, .i32⟩
  | 12 => ⟨S1x512, .f32⟩
  | 13 => ⟨S512, .f32⟩
  | 14 => ⟨S_, .i32⟩
  | 15 => ⟨S1x512, .f32⟩
  | 16 => ⟨S512, .f32⟩
  | 17 => ⟨S_, .i32⟩
  | 18 => ⟨S1x512, .f32⟩
  | 19 => ⟨S512, .f32⟩
  | 20 => ⟨S_, .i32⟩
  | 21 => ⟨S_, .i32⟩
  | 22 => ⟨S1x512x2048, .f32⟩
  | 23 => ⟨S512x2048, .f32⟩
  | 24 => ⟨S_, .i32⟩
  | 25 => ⟨S1x2048, .f32⟩
  | 26 => ⟨S2048, .f32⟩
  | 27 => ⟨S_, .i32⟩
  | 28 => ⟨S_, .i32⟩
  | 29 => ⟨S1x2048x512, .f32⟩
  | 30 => ⟨S2048x512, .f32⟩
  | 31 => ⟨S_, .i32⟩
  | 32 => ⟨S1x512, .f32⟩
  | 33 => ⟨S512, .f32⟩
  | 34 => ⟨S_, .f32⟩
  | 35 => ⟨S256x256, .f32⟩
  | 36 => ⟨S256x256x1, .f32⟩
  | 37 => ⟨S_, .f32⟩
  | 38 => ⟨S256x256x1, .f32⟩
  | 39 => ⟨S256x256x1, .f32⟩
  | 40 => ⟨S256x256x512, .f32⟩
  | 41 => ⟨S256x256x512, .f32⟩
  | 42 => ⟨S256x256x512, .f32⟩
  | 43 => ⟨S_, .f32⟩
  | 44 => ⟨S256x256, .f32⟩
  | 45 => ⟨S256x256x1, .f32⟩
  | 46 => ⟨S_, .f32⟩
  | 47 => ⟨S256x256x1, .f32⟩
  | 48 => ⟨S256x256x1, .f32⟩
  | 49 => ⟨S256x256x512, .f32⟩
  | 50 => ⟨S256x256x512, .f32⟩
  | 51 => ⟨S_, .f32⟩
  | 52 => ⟨S256x256x1, .f32⟩
  | 53 => ⟨S256x256x1, .f32⟩
  | 54 => ⟨S256x256x1, .f32⟩
  | 55 => ⟨S256x256x512, .f32⟩
  | 56 => ⟨S256x256x512, .f32⟩
  | 57 => ⟨S1x1x512, .f32⟩
  | 58 => ⟨S256x256x512, .f32⟩
  | 59 => ⟨S256x256x512, .f32⟩
  | 60 => ⟨S1x1x512, .f32⟩
  | 61 => ⟨S256x256x512, .f32⟩
  | 62 => ⟨S256x256x512, .f32⟩
  | 63 => ⟨S256x256x512, .f32⟩
  | 64 => ⟨S1x1x512, .f32⟩
  | 65 => ⟨S256x256x512, .f32⟩
  | 66 => ⟨S256x256x512, .f32⟩
  | 67 => ⟨S256x256x8x64, .f32⟩
  | 68 => ⟨S256x256x512, .f32⟩
  | 69 => ⟨S1x1x512, .f32⟩
  | 70 => ⟨S256x256x512, .f32⟩
  | 71 => ⟨S256x256x512, .f32⟩
  | 72 => ⟨S256x256x8x64, .f32⟩
  | 73 => ⟨S256x256x512, .f32⟩
  | 74 => ⟨S1x1x512, .f32⟩
  | 75 => ⟨S256x256x512, .f32⟩
  | 76 => ⟨S256x256x512, .f32⟩
  | 77 => ⟨S256x256x8x64, .f32⟩
  | 78 => ⟨S256x8x256x256, .f32⟩
  | 79 => ⟨S_, .f32⟩
  | 80 => ⟨S256x8x256x256, .f32⟩
  | 81 => ⟨S256x8x256x256, .f32⟩
  | 82 => ⟨S256x1x1x256, .i1⟩
  | 83 => ⟨S_, .f32⟩
  | 84 => ⟨S_, .f32⟩
  | 85 => ⟨S256x8x256x256, .i1⟩
  | 86 => ⟨S256x8x256x256, .f32⟩
  | 87 => ⟨S256x8x256x256, .f32⟩
  | 88 => ⟨S_, .f32⟩
  | 89 => ⟨S256x8x256, .f32⟩
  | 90 => ⟨S_, .f32⟩
  | 91 => ⟨S256x8x256, .f32⟩
  | 92 => ⟨S256x8x256, .f32⟩
  | 93 => ⟨S256x8x256x1, .f32⟩
  | 94 => ⟨S256x8x256x256, .f32⟩
  | 95 => ⟨S256x8x256x256, .f32⟩
  | 96 => ⟨S256x8x256x256, .f32⟩
  | 97 => ⟨S_, .f32⟩
  | 98 => ⟨S256x8x256, .f32⟩
  | 99 => ⟨S256x8x256x1, .f32⟩
  | 100 => ⟨S256x8x256x256, .f32⟩
  | 101 => ⟨S256x8x256x256, .f32⟩
  | 102 => ⟨S256x8x64x256, .f32⟩
  | 103 => ⟨S256x256x8x64, .f32⟩
  | 104 => ⟨S256x256x512, .f32⟩
  | 105 => ⟨S256x256x512, .f32⟩
  | 106 => ⟨S1x1x512, .f32⟩
  | 107 => ⟨S256x256x512, .f32⟩
  | 108 => ⟨S256x256x512, .f32⟩
  | 109 => ⟨S256x256x512, .f32⟩
  | 110 => ⟨S_, .f32⟩
  | 111 => ⟨S256x256, .f32⟩
  | 112 => ⟨S256x256x1, .f32⟩
  | 113 => ⟨S_, .f32⟩
  | 114 => ⟨S256x256x1, .f32⟩
  | 115 => ⟨S256x256x1, .f32⟩
  | 116 => ⟨S256x256x512, .f32⟩
  | 117 => ⟨S256x256x512, .f32⟩
  | 118 => ⟨S256x256x512, .f32⟩
  | 119 => ⟨S_, .f32⟩
  | 120 => ⟨S256x256, .f32⟩
  | 121 => ⟨S256x256x1, .f32⟩
  | 122 => ⟨S_, .f32⟩
  | 123 => ⟨S256x256x1, .f32⟩
  | 124 => ⟨S256x256x1, .f32⟩
  | 125 => ⟨S256x256x512, .f32⟩
  | 126 => ⟨S256x256x512, .f32⟩
  | 127 => ⟨S_, .f32⟩
  | _ => ⟨S256x256, .i32⟩

abbrev hbmTy0_2 (i : Nat) : BufTy := match i % 128 with
  | 0 => ⟨S256x256x1, .f32⟩
  | 1 => ⟨S256x256x1, .f32⟩
  | 2 => ⟨S256x256x1, .f32⟩
  | 3 => ⟨S256x256x512, .f32⟩
  | 4 => ⟨S256x256x512, .f32⟩
  | 5 => ⟨S1x1x512, .f32⟩
  | 6 => ⟨S256x256x512, .f32⟩
  | 7 => ⟨S256x256x512, .f32⟩
  | 8 => ⟨S1x1x512, .f32⟩
  | 9 => ⟨S256x256x512, .f32⟩
  | 10 => ⟨S256x256x512, .f32⟩
  | 11 => ⟨S256x256x2048, .f32⟩
  | 12 => ⟨S1x1x2048, .f32⟩
  | 13 => ⟨S256x256x2048, .f32⟩
  | 14 => ⟨S256x256x2048, .f32⟩
  | 15 => ⟨S_, .f32⟩
  | 16 => ⟨S256x256x2048, .f32⟩
  | 17 => ⟨S256x256x2048, .f32⟩
  | 18 => ⟨S256x256x512, .f32⟩
  | 19 => ⟨S1x1x512, .f32⟩
  | 20 => ⟨S256x256x512, .f32⟩
  | 21 => ⟨S256x256x512, .f32⟩
  | 22 => ⟨S256x256x512, .f32⟩
  | 23 => ⟨S_, .i32⟩
  | 24 => ⟨S_, .i32⟩
  | 25 => ⟨S_, .f32⟩
  | 26 => ⟨S256x256, .f32⟩
  | 27 => ⟨S256x256x1, .f32⟩
  | 28 => ⟨S_, .f32⟩
  | 29 => ⟨S256x256x1, .f32⟩
  | 30 => ⟨S256x256x1, .f32⟩
  | 31 => ⟨S256x256x512, .f32⟩
  | 32 => ⟨S256x256x512, .f32⟩
  | 33 => ⟨S256x256x512, .f32⟩
  | 34 => ⟨S_, .f32⟩
  | 35 => ⟨S256x256, .f32⟩
  | 36 => ⟨S256x256x1, .f32⟩
  | 37 => ⟨S_, .f32⟩
  | 38 => ⟨S256x256x1, .f32⟩
  | 39 => ⟨S256x256x1, .f32⟩
  | 40 => ⟨S256x256x512, .f32⟩
  | 41 => ⟨S256x256x512, .f32⟩
  | 42 => ⟨S_, .f32⟩
  | 43 => ⟨S256x256x1, .f32⟩
  | 44 => ⟨S256x256x1, .f32⟩
  | 45 => ⟨S256x256x1, .f32⟩
  | 46 => ⟨S256x256x512, .f32⟩
  | 47 => ⟨S256x256x512, .f32⟩
  | 48 => ⟨S1x1x512, .f32⟩
  | 49 => ⟨S256x256x512, .f32⟩
  | 50 => ⟨S256x256x512, .f32⟩
  | 51 => ⟨S1x1x512, .f32⟩
  | 52 => ⟨S256x256x512, .f32⟩
  | 53 => ⟨S256x256x512, .f32⟩
  | 54 => ⟨S256x256x512, .f32⟩
  | _ => ⟨S256x256, .i32⟩

abbrev hbmTy (i : Nat) : BufTy := match i / 128 with
  | 0 => hbmTy0_0 i
  | 1 => hbmTy0_1 i
  | 2 => hbmTy0_2 i
  | _ => ⟨S256x256, .i32⟩

abbrev bufTy : (tb : Table) → Fin (tcTables nBuf tb) → BufTy
  | .hbm, ⟨i, _⟩ => hbmTy i
  | _, _ => ⟨S256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_c_1 : Ref sig .tc := ⟨.hbm, 38, rfl⟩
abbrev main_v8 : Ref sig .tc := ⟨.hbm, 39, rfl⟩
abbrev main_v9 : Ref sig .tc := ⟨.hbm, 40, rfl⟩
abbrev main_c_2 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst : Ref sig .tc := ⟨.hbm, 52, rfl⟩
abbrev main_v20 : Ref sig .tc := ⟨.hbm, 53, rfl⟩
abbrev main_c_3 : Ref sig .tc := ⟨.hbm, 54, rfl⟩
abbrev main_v21 : Ref sig .tc := ⟨.hbm, 55, rfl⟩
abbrev main_v22 : Ref sig .tc := ⟨.hbm, 56, rfl⟩
abbrev main_c_4 : Ref sig .tc := ⟨.hbm, 57, rfl⟩
abbrev main_v23 : Ref sig .tc := ⟨.hbm, 58, rfl⟩
abbrev main_v24 : Ref sig .tc := ⟨.hbm, 59, rfl⟩
abbrev main_c_5 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_6 : Ref sig .tc := ⟨.hbm, 64, rfl⟩
abbrev main_v28 : Ref sig .tc := ⟨.hbm, 65, rfl⟩
abbrev main_v29 : Ref sig .tc := ⟨.hbm, 66, rfl⟩
abbrev main_c_7 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_8 : Ref sig .tc := ⟨.hbm, 83, rfl⟩
abbrev main_v45 : Ref sig .tc := ⟨.hbm, 84, rfl⟩
abbrev main_v46 : Ref sig .tc := ⟨.hbm, 85, rfl⟩
abbrev main_c_9 : Ref sig .tc := ⟨.hbm, 86, rfl⟩
abbrev main_v47_0 : Ref sig .tc := ⟨.hbm, 87, rfl⟩
abbrev main_v47_1 : Ref sig .tc := ⟨.hbm, 88, rfl⟩
abbrev main_v47_2 : Ref sig .tc := ⟨.hbm, 89, rfl⟩
abbrev main_v47_3 : Ref sig .tc := ⟨.hbm, 90, rfl⟩
abbrev main_v47_4 : Ref sig .tc := ⟨.hbm, 91, rfl⟩
abbrev main_v47_5 : Ref sig .tc := ⟨.hbm, 92, rfl⟩
abbrev main_v47_6 : Ref sig .tc := ⟨.hbm, 93, rfl⟩
abbrev main_v47_7 : Ref sig .tc := ⟨.hbm, 94, rfl⟩
abbrev main_v47_8 : Ref sig .tc := ⟨.hbm, 95, rfl⟩
abbrev main_v47_9 : Ref sig .tc := ⟨.hbm, 96, rfl⟩
abbrev main_v47_10 : Ref sig .tc := ⟨.hbm, 97, rfl⟩
abbrev main_v47_11 : Ref sig .tc := ⟨.hbm, 98, rfl⟩
abbrev main_v47_12 : Ref sig .tc := ⟨.hbm, 99, rfl⟩
abbrev main_v47_13 : Ref sig .tc := ⟨.hbm, 100, rfl⟩
abbrev main_v47_14 : Ref sig .tc := ⟨.hbm, 101, rfl⟩
abbrev main_v47_15 : Ref sig .tc := ⟨.hbm, 102, rfl⟩
abbrev main_v47_16 : Ref sig .tc := ⟨.hbm, 103, rfl⟩
abbrev main_v47_17 : Ref sig .tc := ⟨.hbm, 104, rfl⟩
abbrev main_v47_18 : Ref sig .tc := ⟨.hbm, 105, rfl⟩
abbrev main_while0c_c_33 : Ref sig .tc := ⟨.hbm, 106, rfl⟩
abbrev main_while0c_v73 : Ref sig .tc := ⟨.hbm, 107, rfl⟩
abbrev main_while0b_call0_c : Ref sig .tc := ⟨.hbm, 108, rfl⟩
abbrev main_while0b_call0_v0 : Ref sig .tc := ⟨.hbm, 109, rfl⟩
abbrev main_while0b_v73 : Ref sig .tc := ⟨.hbm, 110, rfl⟩
abbrev main_while0b_call1_c : Ref sig .tc := ⟨.hbm, 111, rfl⟩
abbrev main_while0b_call1_v0 : Ref sig .tc := ⟨.hbm, 112, rfl⟩
abbrev main_while0b_v74 : Ref sig .tc := ⟨.hbm, 113, rfl⟩
abbrev main_while0b_call2_c : Ref sig .tc := ⟨.hbm, 114, rfl⟩
abbrev main_while0b_call2_c_0 : Ref sig .tc := ⟨.hbm, 115, rfl⟩
abbrev main_while0b_call2_v0 : Ref sig .tc := ⟨.hbm, 116, rfl⟩
abbrev main_while0b_v75 : Ref sig .tc := ⟨.hbm, 117, rfl⟩
abbrev main_while0b_call3_c : Ref sig .tc := ⟨.hbm, 118, rfl⟩
abbrev main_while0b_call3_v0 : Ref sig .tc := ⟨.hbm, 119, rfl⟩
abbrev main_while0b_v76 : Ref sig .tc := ⟨.hbm, 120, rfl⟩
abbrev main_while0b_call4_c : Ref sig .tc := ⟨.hbm, 121, rfl⟩
abbrev main_while0b_call4_c_0 : Ref sig .tc := ⟨.hbm, 122, rfl⟩
abbrev main_while0b_call4_v0 : Ref sig .tc := ⟨.hbm, 123, rfl⟩
abbrev main_while0b_v77 : Ref sig .tc := ⟨.hbm, 124, rfl⟩
abbrev main_while0b_call5_c : Ref sig .tc := ⟨.hbm, 125, rfl⟩
abbrev main_while0b_call5_v0 : Ref sig .tc := ⟨.hbm, 126, rfl⟩
abbrev main_while0b_v78 : Ref sig .tc := ⟨.hbm, 127, rfl⟩
abbrev main_while0b_call6_c : Ref sig .tc := ⟨.hbm, 128, rfl⟩
abbrev main_while0b_call6_c_0 : Ref sig .tc := ⟨.hbm, 129, rfl⟩
abbrev main_while0b_call6_v0 : Ref sig .tc := ⟨.hbm, 130, rfl⟩
abbrev main_while0b_v79 : Ref sig .tc := ⟨.hbm, 131, rfl⟩
abbrev main_while0b_call7_c : Ref sig .tc := ⟨.hbm, 132, rfl⟩
abbrev main_while0b_call7_v0 : Ref sig .tc := ⟨.hbm, 133, rfl⟩
abbrev main_while0b_v80 : Ref sig .tc := ⟨.hbm, 134, rfl⟩
abbrev main_while0b_call8_c : Ref sig .tc := ⟨.hbm, 135, rfl⟩
abbrev main_while0b_call8_c_0 : Ref sig .tc := ⟨.hbm, 136, rfl⟩
abbrev main_while0b_call8_v0 : Ref sig .tc := ⟨.hbm, 137, rfl⟩
abbrev main_while0b_v81 : Ref sig .tc := ⟨.hbm, 138, rfl⟩
abbrev main_while0b_call9_c : Ref sig .tc := ⟨.hbm, 139, rfl⟩
abbrev main_while0b_call9_v0 : Ref sig .tc := ⟨.hbm, 140, rfl⟩
abbrev main_while0b_v82 : Ref sig .tc := ⟨.hbm, 141, rfl⟩
abbrev main_while0b_call10_c : Ref sig .tc := ⟨.hbm, 142, rfl⟩
abbrev main_while0b_call10_v0 : Ref sig .tc := ⟨.hbm, 143, rfl⟩
abbrev main_while0b_v83 : Ref sig .tc := ⟨.hbm, 144, rfl⟩
abbrev main_while0b_call11_c : Ref sig .tc := ⟨.hbm, 145, rfl⟩
abbrev main_while0b_call11_v0 : Ref sig .tc := ⟨.hbm, 146, rfl⟩
abbrev main_while0b_v84 : Ref sig .tc := ⟨.hbm, 147, rfl⟩
abbrev main_while0b_call12_c : Ref sig .tc := ⟨.hbm, 148, rfl⟩
abbrev main_while0b_call12_c_0 : Ref sig .tc := ⟨.hbm, 149, rfl⟩
abbrev main_while0b_call12_v0 : Ref sig .tc := ⟨.hbm, 150, rfl⟩
abbrev main_while0b_v85 : Ref sig .tc := ⟨.hbm, 151, rfl⟩
abbrev main_while0b_call13_c : Ref sig .tc := ⟨.hbm, 152, rfl⟩
abbrev main_while0b_call13_v0 : Ref sig .tc := ⟨.hbm, 153, rfl⟩
abbrev main_while0b_v86 : Ref sig .tc := ⟨.hbm, 154, rfl⟩
abbrev main_while0b_call14_c : Ref sig .tc := ⟨.hbm, 155, rfl⟩
abbrev main_while0b_call14_c_0 : Ref sig .tc := ⟨.hbm, 156, rfl⟩
abbrev main_while0b_call14_v0 : Ref sig .tc := ⟨.hbm, 157, rfl⟩
abbrev main_while0b_v87 : Ref sig .tc := ⟨.hbm, 158, rfl⟩
abbrev main_while0b_call15_c : Ref sig .tc := ⟨.hbm, 159, rfl⟩
abbrev main_while0b_call15_v0 : Ref sig .tc := ⟨.hbm, 160, rfl⟩
abbrev main_while0b_v88 : Ref sig .tc := ⟨.hbm, 161, rfl⟩
abbrev main_while0b_cst_33 : Ref sig .tc := ⟨.hbm, 162, rfl⟩
abbrev main_while0b_v89 : Ref sig .tc := ⟨.hbm, 163, rfl⟩
abbrev main_while0b_v90 : Ref sig .tc := ⟨.hbm, 164, rfl⟩
abbrev main_while0b_cst_34 : Ref sig .tc := ⟨.hbm, 165, rfl⟩
abbrev main_while0b_v91 : Ref sig .tc := ⟨.hbm, 166, rfl⟩
abbrev main_while0b_v92 : Ref sig .tc := ⟨.hbm, 167, rfl⟩
abbrev main_while0b_v93 : Ref sig .tc := ⟨.hbm, 168, rfl⟩
abbrev main_while0b_v94 : Ref sig .tc := ⟨.hbm, 169, rfl⟩
abbrev main_while0b_v95 : Ref sig .tc := ⟨.hbm, 170, rfl⟩
abbrev main_while0b_cst_35 : Ref sig .tc := ⟨.hbm, 171, rfl⟩
abbrev main_while0b_v96 : Ref sig .tc := ⟨.hbm, 172, rfl⟩
abbrev main_while0b_v97 : Ref sig .tc := ⟨.hbm, 173, rfl⟩
abbrev main_while0b_cst_36 : Ref sig .tc := ⟨.hbm, 174, rfl⟩
abbrev main_while0b_v98 : Ref sig .tc := ⟨.hbm, 175, rfl⟩
abbrev main_while0b_v99 : Ref sig .tc := ⟨.hbm, 176, rfl⟩
abbrev main_while0b_v100 : Ref sig .tc := ⟨.hbm, 177, rfl⟩
abbrev main_while0b_v101 : Ref sig .tc := ⟨.hbm, 178, rfl⟩
abbrev main_while0b_cst_37 : Ref sig .tc := ⟨.hbm, 179, rfl⟩
abbrev main_while0b_v102 : Ref sig .tc := ⟨.hbm, 180, rfl⟩
abbrev main_while0b_v103 : Ref sig .tc := ⟨.hbm, 181, rfl⟩
abbrev main_while0b_v104 : Ref sig .tc := ⟨.hbm, 182, rfl⟩
abbrev main_while0b_v105 : Ref sig .tc := ⟨.hbm, 183, rfl⟩
abbrev main_while0b_v106 : Ref sig .tc := ⟨.hbm, 184, rfl⟩
abbrev main_while0b_v107 : Ref sig .tc := ⟨.hbm, 185, rfl⟩
abbrev main_while0b_v108 : Ref sig .tc := ⟨.hbm, 186, rfl⟩
abbrev main_while0b_v109 : Ref sig .tc := ⟨.hbm, 187, rfl⟩
abbrev main_while0b_v110 : Ref sig .tc := ⟨.hbm, 188, rfl⟩
abbrev main_while0b_v111 : Ref sig .tc := ⟨.hbm, 189, rfl⟩
abbrev main_while0b_v112 : Ref sig .tc := ⟨.hbm, 190, rfl⟩
abbrev main_while0b_v113 : Ref sig .tc := ⟨.hbm, 191, rfl⟩
abbrev main_while0b_v114 : Ref sig .tc := ⟨.hbm, 192, rfl⟩
abbrev main_while0b_v115 : Ref sig .tc := ⟨.hbm, 193, rfl⟩
abbrev main_while0b_v116 : Ref sig .tc := ⟨.hbm, 194, rfl⟩
abbrev main_while0b_v117 : Ref sig .tc := ⟨.hbm, 195, rfl⟩
abbrev main_while0b_v118 : Ref sig .tc := ⟨.hbm, 196, rfl⟩
abbrev main_while0b_v119 : Ref sig .tc := ⟨.hbm, 197, rfl⟩
abbrev main_while0b_v120 : Ref sig .tc := ⟨.hbm, 198, rfl⟩
abbrev main_while0b_v121 : Ref sig .tc := ⟨.hbm, 199, rfl⟩
abbrev main_while0b_v122 : Ref sig .tc := ⟨.hbm, 200, rfl⟩
abbrev main_while0b_v123 : Ref sig .tc := ⟨.hbm, 201, rfl⟩
abbrev main_while0b_v124 : Ref sig .tc := ⟨.hbm, 202, rfl⟩
abbrev main_while0b_v125 : Ref sig .tc := ⟨.hbm, 203, rfl⟩
abbrev main_while0b_v126 : Ref sig .tc := ⟨.hbm, 204, rfl⟩
abbrev main_while0b_v127 : Ref sig .tc := ⟨.hbm, 205, rfl⟩
abbrev main_while0b_v128 : Ref sig .tc := ⟨.hbm, 206, rfl⟩
abbrev main_while0b_cst_38 : Ref sig .tc := ⟨.hbm, 207, rfl⟩
abbrev main_while0b_v129 : Ref sig .tc := ⟨.hbm, 208, rfl⟩
abbrev main_while0b_v130 : Ref sig .tc := ⟨.hbm, 209, rfl⟩
abbrev main_while0b_v131 : Ref sig .tc := ⟨.hbm, 210, rfl⟩
abbrev main_while0b_cst_39 : Ref sig .tc := ⟨.hbm, 211, rfl⟩
abbrev main_while0b_call16_v0 : Ref sig .tc := ⟨.hbm, 212, rfl⟩
abbrev main_while0b_call16_v1 : Ref sig .tc := ⟨.hbm, 213, rfl⟩
abbrev main_while0b_call16_v2 : Ref sig .tc := ⟨.hbm, 214, rfl⟩
abbrev main_while0b_v132 : Ref sig .tc := ⟨.hbm, 215, rfl⟩
abbrev main_while0b_cst_40 : Ref sig .tc := ⟨.hbm, 216, rfl⟩
abbrev main_while0b_v133 : Ref sig .tc := ⟨.hbm, 217, rfl⟩
abbrev main_while0b_cst_41 : Ref sig .tc := ⟨.hbm, 218, rfl⟩
abbrev main_while0b_v134 : Ref sig .tc := ⟨.hbm, 219, rfl⟩
abbrev main_while0b_v135 : Ref sig .tc := ⟨.hbm, 220, rfl⟩
abbrev main_while0b_v136 : Ref sig .tc := ⟨.hbm, 221, rfl⟩
abbrev main_while0b_v137 : Ref sig .tc := ⟨.hbm, 222, rfl⟩
abbrev main_while0b_v138 : Ref sig .tc := ⟨.hbm, 223, rfl⟩
abbrev main_while0b_v139 : Ref sig .tc := ⟨.hbm, 224, rfl⟩
abbrev main_while0b_cst_42 : Ref sig .tc := ⟨.hbm, 225, rfl⟩
abbrev main_while0b_v140 : Ref sig .tc := ⟨.hbm, 226, rfl⟩
abbrev main_while0b_v141 : Ref sig .tc := ⟨.hbm, 227, rfl⟩
abbrev main_while0b_v142 : Ref sig .tc := ⟨.hbm, 228, rfl⟩
abbrev main_while0b_v143 : Ref sig .tc := ⟨.hbm, 229, rfl⟩
abbrev main_while0b_v144 : Ref sig .tc := ⟨.hbm, 230, rfl⟩
abbrev main_while0b_v145 : Ref sig .tc := ⟨.hbm, 231, rfl⟩
abbrev main_while0b_v146 : Ref sig .tc := ⟨.hbm, 232, rfl⟩
abbrev main_while0b_v147 : Ref sig .tc := ⟨.hbm, 233, rfl⟩
abbrev main_while0b_v148 : Ref sig .tc := ⟨.hbm, 234, rfl⟩
abbrev main_while0b_v149 : Ref sig .tc := ⟨.hbm, 235, rfl⟩
abbrev main_while0b_v150 : Ref sig .tc := ⟨.hbm, 236, rfl⟩
abbrev main_while0b_v151 : Ref sig .tc := ⟨.hbm, 237, rfl⟩
abbrev main_while0b_cst_43 : Ref sig .tc := ⟨.hbm, 238, rfl⟩
abbrev main_while0b_v152 : Ref sig .tc := ⟨.hbm, 239, rfl⟩
abbrev main_while0b_v153 : Ref sig .tc := ⟨.hbm, 240, rfl⟩
abbrev main_while0b_cst_44 : Ref sig .tc := ⟨.hbm, 241, rfl⟩
abbrev main_while0b_v154 : Ref sig .tc := ⟨.hbm, 242, rfl⟩
abbrev main_while0b_v155 : Ref sig .tc := ⟨.hbm, 243, rfl⟩
abbrev main_while0b_v156 : Ref sig .tc := ⟨.hbm, 244, rfl⟩
abbrev main_while0b_v157 : Ref sig .tc := ⟨.hbm, 245, rfl⟩
abbrev main_while0b_v158 : Ref sig .tc := ⟨.hbm, 246, rfl⟩
abbrev main_while0b_cst_45 : Ref sig .tc := ⟨.hbm, 247, rfl⟩
abbrev main_while0b_v159 : Ref sig .tc := ⟨.hbm, 248, rfl⟩
abbrev main_while0b_v160 : Ref sig .tc := ⟨.hbm, 249, rfl⟩
abbrev main_while0b_cst_46 : Ref sig .tc := ⟨.hbm, 250, rfl⟩
abbrev main_while0b_v161 : Ref sig .tc := ⟨.hbm, 251, rfl⟩
abbrev main_while0b_v162 : Ref sig .tc := ⟨.hbm, 252, rfl⟩
abbrev main_while0b_v163 : Ref sig .tc := ⟨.hbm, 253, rfl⟩
abbrev main_while0b_v164 : Ref sig .tc := ⟨.hbm, 254, rfl⟩
abbrev main_while0b_cst_47 : Ref sig .tc := ⟨.hbm, 255, rfl⟩
abbrev main_while0b_v165 : Ref sig .tc := ⟨.hbm, 256, rfl⟩
abbrev main_while0b_v166 : Ref sig .tc := ⟨.hbm, 257, rfl⟩
abbrev main_while0b_v167 : Ref sig .tc := ⟨.hbm, 258, rfl⟩
abbrev main_while0b_v168 : Ref sig .tc := ⟨.hbm, 259, rfl⟩
abbrev main_while0b_v169 : Ref sig .tc := ⟨.hbm, 260, rfl⟩
abbrev main_while0b_v170 : Ref sig .tc := ⟨.hbm, 261, rfl⟩
abbrev main_while0b_v171 : Ref sig .tc := ⟨.hbm, 262, rfl⟩
abbrev main_while0b_v172 : Ref sig .tc := ⟨.hbm, 263, rfl⟩
abbrev main_while0b_v173 : Ref sig .tc := ⟨.hbm, 264, rfl⟩
abbrev main_while0b_v174 : Ref sig .tc := ⟨.hbm, 265, rfl⟩
abbrev main_while0b_v175 : Ref sig .tc := ⟨.hbm, 266, rfl⟩
abbrev main_while0b_v176 : Ref sig .tc := ⟨.hbm, 267, rfl⟩
abbrev main_while0b_v177 : Ref sig .tc := ⟨.hbm, 268, rfl⟩
abbrev main_while0b_v178 : Ref sig .tc := ⟨.hbm, 269, rfl⟩
abbrev main_while0b_v179 : Ref sig .tc := ⟨.hbm, 270, rfl⟩
abbrev main_while0b_call17_cst : Ref sig .tc := ⟨.hbm, 271, rfl⟩
abbrev main_while0b_call17_v0 : Ref sig .tc := ⟨.hbm, 272, rfl⟩
abbrev main_while0b_v180 : Ref sig .tc := ⟨.hbm, 273, rfl⟩
abbrev main_while0b_v181 : Ref sig .tc := ⟨.hbm, 274, rfl⟩
abbrev main_while0b_v182 : Ref sig .tc := ⟨.hbm, 275, rfl⟩
abbrev main_while0b_v183 : Ref sig .tc := ⟨.hbm, 276, rfl⟩
abbrev main_while0b_v184 : Ref sig .tc := ⟨.hbm, 277, rfl⟩
abbrev main_while0b_v185 : Ref sig .tc := ⟨.hbm, 278, rfl⟩
abbrev main_while0b_c_48 : Ref sig .tc := ⟨.hbm, 279, rfl⟩
abbrev main_while0b_v186 : Ref sig .tc := ⟨.hbm, 280, rfl⟩
abbrev main_cst_10 : Ref sig .tc := ⟨.hbm, 281, rfl⟩
abbrev main_v48 : Ref sig .tc := ⟨.hbm, 282, rfl⟩
abbrev main_v49 : Ref sig .tc := ⟨.hbm, 283, rfl⟩
abbrev main_cst_11 : Ref sig .tc := ⟨.hbm, 284, rfl⟩
abbrev main_v50 : Ref sig .tc := ⟨.hbm, 285, rfl⟩
abbrev main_v51 : Ref sig .tc := ⟨.hbm, 286, rfl⟩
abbrev main_v52 : Ref sig .tc := ⟨.hbm, 287, rfl⟩
abbrev main_v53 : Ref sig .tc := ⟨.hbm, 288, rfl⟩
abbrev main_v54 : Ref sig .tc := ⟨.hbm, 289, rfl⟩
abbrev main_cst_12 : Ref sig .tc := ⟨.hbm, 290, rfl⟩
abbrev main_v55 : Ref sig .tc := ⟨.hbm, 291, rfl⟩
abbrev main_v56 : Ref sig .tc := ⟨.hbm, 292, rfl⟩
abbrev main_cst_13 : Ref sig .tc := ⟨.hbm, 293, rfl⟩
abbrev main_v57 : Ref sig .tc := ⟨.hbm, 294, rfl⟩
abbrev main_v58 : Ref sig .tc := ⟨.hbm, 295, rfl⟩
abbrev main_v59 : Ref sig .tc := ⟨.hbm, 296, rfl⟩
abbrev main_v60 : Ref sig .tc := ⟨.hbm, 297, rfl⟩
abbrev main_cst_14 : Ref sig .tc := ⟨.hbm, 298, rfl⟩
abbrev main_v61 : Ref sig .tc := ⟨.hbm, 299, rfl⟩
abbrev main_v62 : Ref sig .tc := ⟨.hbm, 300, rfl⟩
abbrev main_v63 : Ref sig .tc := ⟨.hbm, 301, rfl⟩
abbrev main_v64 : Ref sig .tc := ⟨.hbm, 302, rfl⟩
abbrev main_v65 : Ref sig .tc := ⟨.hbm, 303, rfl⟩
abbrev main_v66 : Ref sig .tc := ⟨.hbm, 304, rfl⟩
abbrev main_v67 : Ref sig .tc := ⟨.hbm, 305, rfl⟩
abbrev main_v68 : Ref sig .tc := ⟨.hbm, 306, rfl⟩
abbrev main_v69 : Ref sig .tc := ⟨.hbm, 307, rfl⟩
abbrev main_v70 : Ref sig .tc := ⟨.hbm, 308, rfl⟩
abbrev main_v71 : Ref sig .tc := ⟨.hbm, 309, rfl⟩
abbrev main_v72 : Ref sig .tc := ⟨.hbm, 310, rfl⟩

abbrev nD : Nat := 1
abbrev τ : Topo := Topo.v7x

variable {F : FTy → Type} [FloatOps F]

abbrev main_while0_count : Scf.Loop 32 := ⟨0#32, 6#32, 1#32⟩
-- ==== Proof.KernelRun.lean ====
/-
  The idealized kernel's run: every buffer outside the calls' own scratch ends at the contents the fold of @main's
  segments gives it (`run_mem`), the result among them (`run_value`).
-/
module

public import proofs.«01_k».proof.Proof.Gen.KernelIdeal.Frame
public import Idealize.ShloMosaic.Lib.Claim

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every execution ends, with every unscoped buffer at the last boundary's contents. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz => h)

/-- The result and the arguments after the run. -/
theorem run_value : θ_run defs (onTc (τ := τ) (main (F := F))) ⟨m, fun _ => 0, ρ⟩ (fun r => ∀ c : Dev nD,
      r.2.mem ((c.tc : Thread nD τ).loc main_v277) = W19 m ρ c main_v277
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h => fun c => ⟨h.1 c _ (mem_uc main_v277 (by decide)), h.2 c⟩) (θ_run_and (run_mem m ρ) (unchanged m ρ))

end Cert.KernelIdeal.Layer

end
-- ==== Proof.EmbedVec.lean ====
/-
  What the embedding call stores in its block: four stores, each the embedded tokens of one sequence (`embV`), whatever
  buffers the call is given.
-/
module

public import proofs.«01_k».proof.Proof.Gen.KernelIdeal.Frame.Region0

@[expose] public section

set_option synthInstance.maxSize 4096

noncomputable section

namespace Cert.KernelIdeal.Layer

open Idealize.ShloMosaic Idealize.SL.Sem Cert.KernelIdeal Cert.KernelIdeal.Gen

variable {F : FTy → Type} [FloatOps F]

/-- One sequence: the first rate times the tokens' rows of the table, plus the second rate times the atoms' rows where
    there is an atom: their tokens' rows, plus the coordinates' product, plus the bias. -/
def embV (t a : Vec F S1x1x256 .i32) (ct : Vec F S1x3x256 .f32) (e : Vec F S128x512 .f32) (cw : Vec F S3x512 .f32) (cb : Vec F S1x512 .f32)
    (r0 r1 : Elt F .f32) : FVec F S1x256x512 .f32 :=
  k0_pay5 k0_pay2 (k0_pay3 e t) (k0_pay4 e a ct cw cb) r0 r1

/-- The other three stores compute the same, cut differently between the body's parts. -/
theorem embV_one (t a : Vec F S1x1x256 .i32) (ct : Vec F S1x3x256 .f32) (e : Vec F S128x512 .f32) (cw : Vec F S3x512 .f32) (cb : Vec F S1x512 .f32) (r0 r1 : Elt F .f32) :
    k0_pay8 k0_pay2 (k0_pay6 e (iota .tc S128x256 32 [0] iota_S128x256_d0_w32) t) (k0_pay7 e (iota .tc S128x256 32 [0] iota_S128x256_d0_w32) a ct cw) cb r0 r1
      = embV t a ct e cw cb r0 r1 := rfl
theorem embV_two (t a : Vec F S1x1x256 .i32) (ct : Vec F S1x3x256 .f32) (e : Vec F S128x512 .f32) (cw : Vec F S3x512 .f32) (cb : Vec F S1x512 .f32) (r0 r1 : Elt F .f32) :
    k0_pay12 k0_pay2 (k0_pay9 e (iota .tc S128x256 32 [0] iota_S128x256_d0_w32) t) (k0_pay10 e (iota .tc S128x256 32 [0] iota_S128x256_d0_w32) a) (k0_pay11 ct) cw cb r0 r1
      = embV t a ct e cw cb r0 r1 := rfl
theorem embV_three (t a : Vec F S1x1x256 .i32) (ct : Vec F S1x3x256 .f32) (e : Vec F S128x512 .f32) (cw : Vec F S3x512 .f32) (cb : Vec F S1x512 .f32) (r0 r1 : Elt F .f32) :
    k0_pay1 k0_pay2 (k0_pay13 e (iota .tc S128x256 32 [0] iota_S128x256_d0_w32) t) (k0_pay14 e (iota .tc S128x256 32 [0] iota_S128x256_d0_w32) a) ct cw cb r0 r1
      = embV t a ct e cw cb r0 r1 := rfl

variable (x0 x1 : Vec F S4x1x256 .i32) (x2 : Vec F S4x3x256 .f32) (x3 : Vec F S128x512 .f32) (x4 : Vec F S3x512 .f32) (x5 : Vec F S1x512 .f32) (x6 : Vec F S2 .f32)

/-- The two rates, as the scalar memory holds them. -/
def rate0 : Elt F .f32 := View.ld x6 (Rect.unit (s := S2) ![0] S1.size inb_S2_S1_0) (Shape.Idx.first (Nat.lt_of_lt_of_eq Nat.zero_lt_one numel1_S1.symm))
def rate1 : Elt F .f32 := View.ld x6 (Rect.unit (s := S2) ![1] S1.size inb_S2_S1_1) (Shape.Idx.first (Nat.lt_of_lt_of_eq Nat.zero_lt_one numel1_S1.symm))

/-- Sequence `b` of the block. -/
def embSeq (b : ℕ) (ht : ∀ a, (![b, 0, 0] : Fin 3 → ℕ) a + S1x1x256.size a ≤ S4x1x256.size a) (hc : ∀ a, (![b, 0, 0] : Fin 3 → ℕ) a + S1x3x256.size a ≤ S4x3x256.size a) :
    FVec F S1x256x512 .f32 :=
  embV (View.ld x0 (Rect.unit (s := S4x1x256) ![b, 0, 0] S1x1x256.size ht)) (View.ld x1 (Rect.unit (s := S4x1x256) ![b, 0, 0] S1x1x256.size ht))
    (View.ld x2 (Rect.unit (s := S4x3x256) ![b, 0, 0] S1x3x256.size hc)) (View.ld x3 (Rect.unit (s := S128x512) ![0, 0] S128x512.size inb_S128x512_S128x512_0_0))
    (View.ld x4 (Rect.unit (s := S3x512) ![0, 0] S3x512.size inb_S3x512_S3x512_0_0)) (View.ld x5 (Rect.unit (s := S1x512) ![0, 0] S1x512.size inb_S1x512_S1x512_0_0))
    (rate0 x6) (rate1 x6)

/-- The block the embedding call writes. -/
def storedE : Vec F S4x256x512 .f32 :=
  View.canon [⟨Rect.unit (s := S4x256x512) ![3, 0, 0] S1x256x512.size inb_S4x256x512_S1x256x512_3_0_0, embSeq x0 x1 x2 x3 x4 x5 x6 3 inb_S4x1x256_S1x1x256_3_0_0 inb_S4x3x256_S1x3x256_3_0_0⟩,
    ⟨Rect.unit (s := S4x256x512) ![2, 0, 0] S1x256x512.size inb_S4x256x512_S1x256x512_2_0_0, embSeq x0 x1 x2 x3 x4 x5 x6 2 inb_S4x1x256_S1x1x256_2_0_0 inb_S4x3x256_S1x3x256_2_0_0⟩,
    ⟨Rect.unit (s := S4x256x512) ![1, 0, 0] S1x256x512.size inb_S4x256x512_S1x256x512_1_0_0, embSeq x0 x1 x2 x3 x4 x5 x6 1 inb_S4x1x256_S1x1x256_1_0_0 inb_S4x3x256_S1x3x256_1_0_0⟩,
    ⟨Rect.unit (s := S4x256x512) ![0, 0, 0] S1x256x512.size inb_S4x256x512_S1x256x512_0_0_0, embSeq x0 x1 x2 x3 x4 x5 x6 0 inb_S4x1x256_S1x1x256_0_0_0 inb_S4x3x256_S1x3x256_0_0_0⟩]

/-- A load of a whole buffer holding `x` reads `x` at the rectangle's places. -/
theorem readAt_unread {sp : Space} {s : Shape} {e : EltTy} (m : Memref sig .tc sp s e) (h : m.IsWhole) (x : s.Idx → Elt F e) (r : Rect s) :
    m.view.readAt (Elt F) r.toLoadRect (h.unread x) = View.ld x r :=
  (View.readAt_eq_ld _ _ _).trans (congrArg (fun y => View.ld y r) (h.read_unread x))

section Run

variable (c : Dev nD) (i : grid0.Coords) (arg1 : Memref sig .tc .vmem S4x1x256 .i32) (harg1 : arg1.IsWhole) (arg2 : Memref sig .tc .vmem S4x1x256 .i32) (harg2 : arg2.IsWhole)
  (arg3 : Memref sig .tc .vmem S4x3x256 .f32) (harg3 : arg3.IsWhole) (arg4 : Memref sig .tc .vmem S128x512 .f32) (harg4 : arg4.IsWhole)
  (arg5 : Memref sig .tc .vmem S3x512 .f32) (harg5 : arg5.IsWhole) (arg6 : Memref sig .tc .vmem S1x512 .f32) (harg6 : arg6.IsWhole)
  (arg7 : Memref sig .tc .smem S2 .f32) (harg7 : arg7.IsWhole) (arg8 : Memref sig .tc .vmem S4x256x512 .f32) (harg8 : arg8.IsWhole)

theorem out0_eq : out0_A_7 c i arg1 harg1 arg2 harg2 arg3 harg3 arg4 harg4 arg5 harg5 arg6 harg6 arg7 harg7 arg8 harg8 x0 x1 x2 x3 x4 x5 x6 = storedE x0 x1 x2 x3 x4 x5 x6 := by
  refine (View.read_writes_junk_eq_canon _ _).trans ?_
  unfold kernelRun0_A storedE
  dsimp only
  unfold kernelRun0_A.sl.r kernelRun0_A.sl.r_2 kernelRun0_A.sl.r_3 kernelRun0_A.sl.r_4 kernelRun0_A.sl.r_5 kernelRun0_A.sl.r_6 kernelRun0_A.sl.r_7 kernelRun0_A.sl.r_8
    kernelRun0_A.sl.r_9 kernelRun0_A.sl.r_10 kernelRun0_A.sl.r_11 kernelRun0_A.sl.r_12 kernelRun0_A.sl.r_13 kernelRun0_A.sl.r_1 kernelRun0_A.sl.v1
  simp only [readAt_unread]
  exact congrArg View.canon (congrArg₂ List.cons (congrArg (Sigma.mk _) (embV_three _ _ _ _ _ _ _ _)) (congrArg₂ List.cons (congrArg (Sigma.mk _) (embV_two _ _ _ _ _ _ _ _))
    (congrArg₂ List.cons (congrArg (Sigma.mk _) (embV_one _ _ _ _ _ _ _ _)) rfl)))

end Run

end Cert.KernelIdeal.Layer

end
-- ==== Proof.LayerVec.lean ====
/-
  What one layer call's body computes for ONE of its four sequences, written once as a function of the values it loads:
  layer norm, the three projections, eight heads of attention, the output projection, the second layer norm and the
  feed-forward part. Every store of every layer call is this function of that call's own loads (`Stores1` and its
  neighbours).
-/
module

public import proofs.«01_k».proof.Proof.Gen.KernelIdeal

@[expose] public section

set_option synthInstance.maxSize 4096

noncomputable section

namespace Cert.KernelIdeal.Layer

open Idealize.ShloMosaic Idealize.SL.Sem Cert.KernelIdeal Cert.KernelIdeal.Gen

variable {F : FTy → Type} [FloatOps F]

/-- A row vector of 512 repeated over the 256 rows. -/
def rowV (b : Vec F S1x512 .f32) : FVec F S256x512 .f32 :=
  broadcastTo S256x512 (shapeCast S1x512 b shapeCasts_S1x512_S1x512) broadcasts_S1x512_S256x512

/-- Each row less its mean. -/
def centreV (x : FVec F S256x512 .f32) : FVec F S256x512 .f32 :=
  subf x (broadcastTo S256x512
    (divf (shapeCast S256x1 (multiReduction .add [1] S256 x 0x00000000#32 reduces_S256x512_S256 (.inl rfl) rfl) shapeCasts_S256_S256x1)
      (broadcast S256x1 (Scalar.ofBits .f32 0x44000000#32))) broadcasts_S256x1_S256x512)

/-- A layer norm of the rows: centred, times the reciprocal root of the variance, scaled and shifted. -/
def lnV (x : FVec F S256x512 .f32) (g b : Vec F S1x512 .f32) : FVec F S256x512 .f32 :=
  addf (mulf (mulf (centreV x) (broadcastTo S256x512
    (rsqrt (addf (divf (shapeCast S256x1 (multiReduction .add [1] S256 (mulf (centreV x) (centreV x)) 0x00000000#32 reduces_S256x512_S256 (.inl rfl) rfl) shapeCasts_S256_S256x1)
        (broadcast S256x1 (Scalar.ofBits .f32 0x44000000#32)))
      (broadcast S256x1 (Scalar.ofBits .f32 0x358637BD#32)))) broadcasts_S256x1_S256x512)) (rowV g)) (rowV b)

/-- A projection of the rows by a 512 × 512 weight, and its bias. -/
def projV (x : FVec F S256x512 .bf16) (w : Vec F S512x512 .bf16) (b : Vec F S1x512 .f32) : FVec F S256x512 .f32 :=
  addf (matmul dot_S256x512_S512x512_S256x512_1_0_0_1_n_n none x (shapeCast S512x512 w shapeCasts_S512x512_S512x512)
    (constant S256x512 .f32 0x00000000#32)) (rowV b)

/-- One head's scores: the products of the queries' and the keys' 64 columns from `o`. -/
def scoreV (o : ℕ) (h : S256x512.Slices ![0, o] S256x64) (q k : FVec F S256x512 .bf16) : FVec F S256x256 .f32 :=
  matmul dot_S256x64_S256x64_S256x256_1_1_0_0_n_n none (extractStridedSlice S256x64 ![0, o] q h) (extractStridedSlice S256x64 ![0, o] k h)
    (constant S256x256 .f32 0x00000000#32)

/-- The masked scores of one head. -/
def maskedV (p : IVec S1x256 1) (s : FVec F S256x256 .f32) : FVec F S256x256 .f32 :=
  select (broadcastTo S256x256 (shapeCast S1x256 p shapeCasts_S1x256_S1x256) broadcasts_S1x256_S256x256)
    (broadcast S256x256 (Scalar.ofBits .f32 0xCE6E6B28#32)) s

/-- The exponentials of the masked scores, each row less its maximum. -/
def expV (p : IVec S1x256 1) (s : FVec F S256x256 .f32) : FVec F S256x256 .f32 :=
  exp (subf (maskedV p s) (broadcastTo S256x256 (shapeCast S256x1 (multiReduction .maximumf [1] S256 (maskedV p s) 0xFF800000#32
    reduces_S256x256_S256 (.inl rfl) rfl) shapeCasts_S256_S256x1) broadcasts_S256x1_S256x256))

/-- One over each row's sum. -/
def invSumV (e : FVec F S256x256 .f32) : FVec F S256x1 .f32 :=
  divf (broadcast S256x1 (Scalar.ofBits .f32 0x3F800000#32))
    (shapeCast S256x1 (multiReduction .add [1] S256 e 0x00000000#32 reduces_S256x256_S256 (.inl rfl) rfl) shapeCasts_S256_S256x1)

/-- One head's context from its exponentials and the values' 64 columns from `o`. -/
def ctxV (o : ℕ) (h : S256x512.Slices ![0, o] S256x64) (e : FVec F S256x256 .f32) (v : FVec F S256x512 .bf16) : FVec F S256x64 .bf16 :=
  truncf .bf16 (mulf (matmul dot_S256x256_S256x64_S256x64_1_0_0_1_n_n none (truncf .bf16 e bitsLt_bf16_f32)
    (extractStridedSlice S256x64 ![0, o] v h) (constant S256x64 .f32 0x00000000#32))
    (broadcastTo S256x64 (invSumV e) broadcasts_S256x1_S256x64)) bitsLt_bf16_f32

/-- One head's part of the output projection: its context by its 64 rows of the weight. -/
def headV (o : ℕ) (h : S256x512.Slices ![0, o] S256x64) (p : IVec S1x256 1) (q k v : FVec F S256x512 .bf16) (w : Vec F S64x512 .bf16) :
    FVec F S256x512 .f32 :=
  matmul dot_S256x64_S64x512_S256x512_1_0_0_1_n_n none (ctxV o h (expV p (scoreV o h q k)) v)
    (shapeCast S64x512 w shapeCasts_S64x512_S64x512) (constant S256x512 .f32 0x00000000#32)

/-- The eight heads' parts, added in order. -/
def attnV (p : IVec S1x256 1) (q k v : FVec F S256x512 .bf16) (w0 w1 w2 w3 w4 w5 w6 w7 : Vec F S64x512 .bf16) : FVec F S256x512 .f32 :=
  addf (addf (addf (addf (addf (addf (addf (headV 0 slices_S256x512_o0_0_S256x64 p q k v w0) (headV 64 slices_S256x512_o0_64_S256x64 p q k v w1))
    (headV 128 slices_S256x512_o0_128_S256x64 p q k v w2)) (headV 192 slices_S256x512_o0_192_S256x64 p q k v w3))
    (headV 256 slices_S256x512_o0_256_S256x64 p q k v w4)) (headV 320 slices_S256x512_o0_320_S256x64 p q k v w5))
    (headV 384 slices_S256x512_o0_384_S256x64 p q k v w6)) (headV 448 slices_S256x512_o0_448_S256x64 p q k v w7)

/-- The feed-forward part before its last bias, added to what it is given. -/
def ffV (h : FVec F S256x512 .f32) (n : FVec F S256x512 .bf16) (w1 : Vec F S512x2048 .bf16) (b1 : Vec F S1x2048 .f32) (w2 : Vec F S2048x512 .bf16) :
    FVec F S256x512 .f32 :=
  addf h (matmul dot_S256x2048_S2048x512_S256x512_1_0_0_1_n_n none
    (truncf .bf16 (maximumf (addf (matmul dot_S256x512_S512x2048_S256x2048_1_0_0_1_n_n none n (shapeCast S512x2048 w1 shapeCasts_S512x2048_S512x2048)
        (constant S256x2048 .f32 0x00000000#32))
      (broadcastTo S256x2048 (shapeCast S1x2048 b1 shapeCasts_S1x2048_S1x2048) broadcasts_S1x2048_S256x2048))
      (broadcast S256x2048 (Scalar.ofBits .f32 0x00000000#32))) bitsLt_bf16_f32)
    (shapeCast S2048x512 w2 shapeCasts_S2048x512_S2048x512) (constant S256x512 .f32 0x00000000#32))

/-- The padding mask of a sequence's tokens. -/
def padV (x : Vec F S1x1x256 .i32) : IVec S1x256 1 :=
  cmpi .eq (shapeCast S1x256 x shapeCasts_S1x1x256_S1x256) (broadcast S1x256 0#32)

/-- The queries, scaled. -/
def queryV (n : FVec F S256x512 .bf16) (w : Vec F S512x512 .bf16) (b : Vec F S1x512 .f32) : FVec F S256x512 .bf16 :=
  truncf .bf16 (mulf (projV n w b) (broadcast S256x512 (Scalar.ofBits .f32 0x3E000000#32))) bitsLt_bf16_f32

/-- A sequence after the attention part and its residual. -/
def midV (x : FVec F S256x512 .f32) (p : IVec S1x256 1) (n : FVec F S256x512 .bf16) (wq : Vec F S512x512 .bf16) (bq : Vec F S1x512 .f32) (wk : Vec F S512x512 .bf16) (bk : Vec F S1x512 .f32)
    (wv : Vec F S512x512 .bf16) (bv : Vec F S1x512 .f32) (w0 w1 w2 w3 w4 w5 w6 w7 : Vec F S64x512 .bf16) (bo : Vec F S1x512 .f32) : FVec F S256x512 .f32 :=
  addf (addf x (attnV p (queryV n wq bq) (truncf .bf16 (projV n wk bk) bitsLt_bf16_f32) (truncf .bf16 (projV n wv bv) bitsLt_bf16_f32)
    w0 w1 w2 w3 w4 w5 w6 w7)) (rowV bo)

/-- A sequence after the whole layer, of what it is after the attention part. -/
def tailV (h : FVec F S256x512 .f32) (g2 b2 : Vec F S1x512 .f32) (u1 : Vec F S512x2048 .bf16) (c1 : Vec F S1x2048 .f32) (u2 : Vec F S2048x512 .bf16)
    (c2 : Vec F S1x512 .f32) : FVec F S256x512 .f32 :=
  addf (ffV h (truncf .bf16 (lnV h g2 b2) bitsLt_bf16_f32) u1 c1 u2) (rowV c2)

/-- The layer of one sequence. -/
def layerV (t : Vec F S1x1x256 .i32) (x : Vec F S1x256x512 .f32) (g1 b1 : Vec F S1x512 .f32) (wq : Vec F S512x512 .bf16) (bq : Vec F S1x512 .f32)
    (wk : Vec F S512x512 .bf16) (bk : Vec F S1x512 .f32) (wv : Vec F S512x512 .bf16) (bv : Vec F S1x512 .f32) (w0 w1 w2 w3 w4 w5 w6 w7 : Vec F S64x512 .bf16)
    (bo g2 b2 : Vec F S1x512 .f32) (u1 : Vec F S512x2048 .bf16) (c1 : Vec F S1x2048 .f32) (u2 : Vec F S2048x512 .bf16) (c2 : Vec F S1x512 .f32) :
    FVec F S256x512 .f32 :=
  tailV (midV (shapeCast S256x512 x shapeCasts_S1x256x512_S256x512) (padV t)
    (truncf .bf16 (lnV (shapeCast S256x512 x shapeCasts_S1x256x512_S256x512) g1 b1) bitsLt_bf16_f32) wq bq wk bk wv bv w0 w1 w2 w3 w4 w5 w6 w7 bo)
    g2 b2 u1 c1 u2 c2

end Cert.KernelIdeal.Layer

end
-- ==== Proof.Stores.lean ====
/-
  What a layer call stores in its block: four stores, each the layer of one sequence of the loaded block (`storedV`); the
  last call's stores also carry the final layer norm (`storedLastV`). Every call's block is one of the two.
-/
module

public import proofs.«01_k».proof.Proof.LayerVec
public import proofs.«01_k».proof.Proof.Gen.KernelIdeal.Frame.Region1
public import proofs.«01_k».proof.Proof.Gen.KernelIdeal.Frame.Region2
public import proofs.«01_k».proof.Proof.Gen.KernelIdeal.Frame.Region3
public import proofs.«01_k».proof.Proof.Gen.KernelIdeal.Frame.Region4
public import proofs.«01_k».proof.Proof.Gen.KernelIdeal.Frame.Region5
public import proofs.«01_k».proof.Proof.Gen.KernelIdeal.Frame.Region6

@[expose] public section

set_option synthInstance.maxSize 4096

noncomputable section

namespace Cert.KernelIdeal.Layer

open Idealize.ShloMosaic Idealize.SL.Sem Cert.KernelIdeal Cert.KernelIdeal.Gen

variable {F : FTy → Type} [FloatOps F]
variable (x0 : Vec F S4x1x256 .i32) (x1 : Vec F S4x256x512 .f32) (x2 x3 : Vec F S1x512 .f32) (x4 : Vec F S512x512 .bf16) (x5 : Vec F S1x512 .f32)
  (x6 : Vec F S512x512 .bf16) (x7 : Vec F S1x512 .f32) (x8 : Vec F S512x512 .bf16) (x9 : Vec F S1x512 .f32) (x10 : Vec F S512x512 .bf16)
  (x11 x12 x13 : Vec F S1x512 .f32) (x14 : Vec F S512x2048 .bf16) (x15 : Vec F S1x2048 .f32) (x16 : Vec F S2048x512 .bf16) (x17 x18 x19 : Vec F S1x512 .f32)

/-- The layer of one sequence, of the loaded parameters. -/
def oneV (t : Vec F S1x1x256 .i32) (x : Vec F S1x256x512 .f32) : FVec F S256x512 .f32 :=
  layerV t x (View.ld x2 r1_2) (View.ld x3 r1_2) (View.ld x4 r1_3) (View.ld x5 r1_2) (View.ld x6 r1_3) (View.ld x7 r1_2) (View.ld x8 r1_3) (View.ld x9 r1_2)
    (View.ld x10 r1_10) (View.ld x10 r1_11) (View.ld x10 r1_12) (View.ld x10 r1_13) (View.ld x10 r1_14) (View.ld x10 r1_15) (View.ld x10 r1_16) (View.ld x10 r1_17)
    (View.ld x11 r1_2) (View.ld x12 r1_2) (View.ld x13 r1_2) (View.ld x14 r1_18) (View.ld x15 r1_19) (View.ld x16 r1_20) (View.ld x17 r1_2)

/-- One store's value. -/
abbrev seqV (t : Vec F S1x1x256 .i32) (x : Vec F S1x256x512 .f32) : FVec F S1x256x512 .f32 :=
  shapeCast S1x256x512 (oneV x2 x3 x4 x5 x6 x7 x8 x9 x10 x11 x12 x13 x14 x15 x16 x17 t x) shapeCasts_S256x512_S1x256x512

/-- One store's value in the last call: with the final layer norm. -/
abbrev seqLastV (t : Vec F S1x1x256 .i32) (x : Vec F S1x256x512 .f32) : FVec F S1x256x512 .f32 :=
  shapeCast S1x256x512 (lnV (oneV x2 x3 x4 x5 x6 x7 x8 x9 x10 x11 x12 x13 x14 x15 x16 x17 t x) (View.ld x18 r1_2) (View.ld x19 r1_2)) shapeCasts_S256x512_S1x256x512

/-- The block a layer call writes. -/
def storedV : Vec F S4x256x512 .f32 :=
  View.canon [⟨r1_9, seqV x2 x3 x4 x5 x6 x7 x8 x9 x10 x11 x12 x13 x14 x15 x16 x17 (View.ld x0 r1_8) (View.ld x1 r1_9)⟩,
    ⟨r1_7, seqV x2 x3 x4 x5 x6 x7 x8 x9 x10 x11 x12 x13 x14 x15 x16 x17 (View.ld x0 r1_6) (View.ld x1 r1_7)⟩,
    ⟨r1_5, seqV x2 x3 x4 x5 x6 x7 x8 x9 x10 x11 x12 x13 x14 x15 x16 x17 (View.ld x0 r1_4) (View.ld x1 r1_5)⟩,
    ⟨r1_1, seqV x2 x3 x4 x5 x6 x7 x8 x9 x10 x11 x12 x13 x14 x15 x16 x17 (View.ld x0 r1_0) (View.ld x1 r1_1)⟩]

/-- The block the last layer call writes. -/
def storedLastV : Vec F S4x256x512 .f32 :=
  View.canon [⟨r1_9, seqLastV x2 x3 x4 x5 x6 x7 x8 x9 x10 x11 x12 x13 x14 x15 x16 x17 x18 x19 (View.ld x0 r1_8) (View.ld x1 r1_9)⟩,
    ⟨r1_7, seqLastV x2 x3 x4 x5 x6 x7 x8 x9 x10 x11 x12 x13 x14 x15 x16 x17 x18 x19 (View.ld x0 r1_6) (View.ld x1 r1_7)⟩,
    ⟨r1_5, seqLastV x2 x3 x4 x5 x6 x7 x8 x9 x10 x11 x12 x13 x14 x15 x16 x17 x18 x19 (View.ld x0 r1_4) (View.ld x1 r1_5)⟩,
    ⟨r1_1, seqLastV x2 x3 x4 x5 x6 x7 x8 x9 x10 x11 x12 x13 x14 x15 x16 x17 x18 x19 (View.ld x0 r1_0) (View.ld x1 r1_1)⟩]

theorem out1_eq : out1_20 x0 x1 x2 x3 x4 x5 x6 x7 x8 x9 x10 x11 x12 x13 x14 x15 x16 x17 x18 x19 = storedV x0 x1 x2 x3 x4 x5 x6 x7 x8 x9 x10 x11 x12 x13 x14 x15 x16 x17 := rfl
theorem out2_eq : out2_20 x0 x1 x2 x3 x4 x5 x6 x7 x8 x9 x10 x11 x12 x13 x14 x15 x16 x17 x18 x19 = storedV x0 x1 x2 x3 x4 x5 x6 x7 x8 x9 x10 x11 x12 x13 x14 x15 x16 x17 := rfl
theorem out3_eq : out3_20 x0 x1 x2 x3 x4 x5 x6 x7 x8 x9 x10 x11 x12 x13 x14 x15 x16 x17 x18 x19 = storedV x0 x1 x2 x3 x4 x5 x6 x7 x8 x9 x10 x11 x12 x13 x14 x15 x16 x17 := rfl
theorem out4_eq : out4_20 x0 x1 x2 x3 x4 x5 x6 x7 x8 x9 x10 x11 x12 x13 x14 x15 x16 x17 x18 x19 = storedV x0 x1 x2 x3 x4 x5 x6 x7 x8 x9 x10 x11 x12 x13 x14 x15 x16 x17 := rfl
theorem out5_eq : out5_20 x0 x1 x2 x3 x4 x5 x6 x7 x8 x9 x10 x11 x12 x13 x14 x15 x16 x17 x18 x19 = storedV x0 x1 x2 x3 x4 x5 x6 x7 x8 x9 x10 x11 x12 x13 x14 x15 x16 x17 := rfl
theorem out6_eq : out6_20 x0 x1 x2 x3 x4 x5 x6 x7 x8 x9 x10 x11 x12 x13 x14 x15 x16 x17 x18 x19 = storedLastV x0 x1 x2 x3 x4 x5 x6 x7 x8 x9 x10 x11 x12 x13 x14 x15 x16 x17 x18 x19 := rfl

end Cert.KernelIdeal.Layer

end
-- ==== Proof.Spec.lean ====
/-
  The mathematics of one encoder layer on one sequence, over the extended reals and with no arrays: `layerK` as the
  kernel computes it (scaled queries, a reciprocal root, one division per row, heads projected one by one) and `layerR`
  as the reference does (scaled scores, a square root, a division per entry, one projection). `layer_eq`: they are equal
  when what makes the attention scores is finite; the sequence, the values and the other parameters may hold anything.
-/
module

public import Idealize.ShloMosaic.PureOps.Ideal
public import Idealize.ShloMosaic.PureOps.Ideal.Laws
public import Idealize.ShloMosaic.Lib.IdealHost

@[expose] public section

noncomputable section

open scoped BigOperators

namespace Cert.Spec

open Idealize.ShloMosaic

/-! ## The literals -/

/-- 512, the mask's −10⁹, the layer norm's 10⁻⁶ and 1/8, as their words read. -/
abbrev c512 : EReal := Ideal.ofBits .f32 0x44000000#32
abbrev cneg : EReal := Ideal.ofBits .f32 0xCE6E6B28#32
abbrev ceps : EReal := Ideal.ofBits .f32 0x358637BD#32
abbrev ceighth : EReal := Ideal.ofBits .f32 0x3E000000#32

theorem ceps_pos : ∃ r : ℝ, 0 < r ∧ ceps = (r : EReal) := by
  refine ⟨_, ?_, by simp [ceps, Ideal.ofBits, Ideal.ieee]; rfl⟩
  positivity
theorem cneg_real : ∃ r : ℝ, cneg = (r : EReal) := ⟨_, by simp [cneg, Ideal.ofBits, Ideal.ieee]; rfl⟩
theorem ceighth_nonneg : ∃ r : ℝ, 0 ≤ r ∧ ceighth = (r : EReal) := by
  refine ⟨_, ?_, by simp [ceighth, Ideal.ofBits, Ideal.ieee]; rfl⟩
  positivity
theorem c512_pos : ∃ r : ℝ, 0 < r ∧ c512 = (r : EReal) := by
  refine ⟨_, ?_, by simp [c512, Ideal.ofBits, Ideal.ieee]; rfl⟩
  positivity
/-- Minus infinity's word is the bottom. -/
theorem ninf_eq : Ideal.ofBits .f32 0xFF800000#32 = ⊥ := by simp [Ideal.ofBits, Ideal.ieee]

/-! ## Finite values -/

/-- A value that is a real number. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sum {ι : Type*} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih

/-- A finite sum of reals is the real sum. -/
theorem coe_sum' {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum times a nonnegative real is the sum of the products, whatever the terms are. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-! ## The layer norm -/

variable {n : ℕ}

/-- A row's mean. -/
def mean (x : Fin n → EReal) : EReal := Ideal.div (∑ d, x d) c512
/-- A row less its mean. -/
def centre (x : Fin n → EReal) (d : Fin n) : EReal := x d - mean x
/-- A row's variance. -/
def var (x : Fin n → EReal) : EReal := Ideal.div (∑ d, centre x d * centre x d) c512
/-- The kernel's layer norm: times the reciprocal root. -/
def lnK (g b x : Fin n → EReal) (d : Fin n) : EReal := centre x d * Ideal.rsqrt (var x + ceps) * g d + b d
/-- The reference's layer norm: divided by the root. -/
def lnR (g b x : Fin n → EReal) (d : Fin n) : EReal := Ideal.div (centre x d) (Ideal.sqrt (var x + ceps)) * g d + b d

theorem sq_nonneg' (x : EReal) : 0 ≤ x * x := by
  induction x with
  | bot => simp
  | top => simp
  | coe r => rw [← EReal.coe_mul]; exact_mod_cast mul_self_nonneg r

theorem sumsq_nonneg (x : Fin n → EReal) : 0 ≤ ∑ d, centre x d * centre x d := Finset.sum_nonneg fun _ _ => sq_nonneg' _

theorem var_eq (x : Fin n → EReal) : ∃ r : ℝ, 0 < r ∧ var x = (∑ d, centre x d * centre x d) * (r : EReal) := by
  obtain ⟨r, hr, h⟩ := c512_pos
  refine ⟨1 / r, by positivity, ?_⟩
  rw [var, h, Ideal.div_coe hr.ne']

/-- The variance and the constant make the top or a positive real. -/
theorem var_add_cases (x : Fin n → EReal) : var x + ceps = ⊤ ∨ ∃ r : ℝ, 0 < r ∧ var x + ceps = (r : EReal) ∧ ∀ d, Fin' (centre x d) := by
  obtain ⟨r, hr, h⟩ := var_eq x
  obtain ⟨e, he, hE⟩ := ceps_pos
  have hs := sumsq_nonneg x
  rw [h, hE]
  by_cases ht : (∑ d, centre x d * centre x d) = ⊤
  · left; rw [ht, EReal.top_mul_coe_of_pos hr]; rfl
  · right
    have hb : (∑ d, centre x d * centre x d) ≠ ⊥ := fun hb => by rw [hb] at hs; exact absurd hs (by decide)
    obtain ⟨s, hsv⟩ : ∃ s : ℝ, (∑ d, centre x d * centre x d) = (s : EReal) := ⟨_, (EReal.coe_toReal ht hb).symm⟩
    have hs0 : 0 ≤ s := by rw [hsv] at hs; exact_mod_cast hs
    refine ⟨s * r + e, by positivity, by rw [hsv]; push_cast; rfl, fun d => ?_⟩
    have hle : centre x d * centre x d ≤ ∑ d, centre x d * centre x d :=
      Finset.single_le_sum (f := fun d => centre x d * centre x d) (fun _ _ => sq_nonneg' _) (Finset.mem_univ d)
    have hc : centre x d * centre x d ≠ ⊤ := fun hc => ht (top_le_iff.mp (hc ▸ hle))
    revert hc; generalize centre x d = c
    induction c with
    | bot => intro hc; exact absurd (by simp) hc
    | top => intro hc; exact absurd (by simp) hc
    | coe c => intro _; exact ⟨c, rfl⟩

theorem norm_eq (x : Fin n → EReal) (d : Fin n) :
    Ideal.div (centre x d) (Ideal.sqrt (var x + ceps)) = centre x d * Ideal.rsqrt (var x + ceps) := by
  rcases var_add_cases x with h | ⟨r, hr, h, -⟩
  · rw [h]; simp [Ideal.div]
  · have hs : Real.sqrt r ≠ 0 := (Real.sqrt_pos.mpr hr).ne'
    rw [h, Ideal.sqrt_coe, Ideal.rsqrt_coe, if_neg (not_lt.mpr hr.le), if_neg (not_lt.mpr hr.le), if_neg hr.ne', Ideal.div_coe hs, one_div]

/-- The two layer norms are one function. -/
theorem ln_eq (g b x : Fin n → EReal) : lnR g b x = lnK g b x := funext fun d => by rw [lnR, lnK, norm_eq]

/-- A layer norm with finite parameters is finite, whatever the row holds. -/
theorem lnK_fin {g b : Fin n → EReal} (hg : ∀ d, Fin' (g d)) (hb : ∀ d, Fin' (b d)) (x : Fin n → EReal) (d : Fin n) : Fin' (lnK g b x d) := by
  refine Fin'.add (Fin'.mul ?_ (hg d)) (hb d)
  rcases var_add_cases x with h | ⟨r, hr, h, hc⟩
  · rw [h]; exact ⟨0, by simp⟩
  · rw [h, Ideal.rsqrt_coe, if_neg (not_lt.mpr hr.le), if_neg hr.ne']; exact (hc d).mul ⟨_, rfl⟩

/-! ## The attention -/

/-- A row by a weight, and its bias. -/
def lin {a b : ℕ} (x : Fin a → EReal) (w : Fin a → Fin b → EReal) (c : Fin b → EReal) (j : Fin b) : EReal := (∑ k, x k * w k j) + c j

theorem lin_fin {a b : ℕ} {x : Fin a → EReal} {w : Fin a → Fin b → EReal} {c : Fin b → EReal} (hx : ∀ k, Fin' (x k)) (hw : ∀ k j, Fin' (w k j))
    (hc : ∀ j, Fin' (c j)) (j : Fin b) : Fin' (lin x w c j) := (Fin'.sum _ fun k => (hx k).mul (hw k j)).add (hc j)

/-- Column `c` of head `h`. -/
def hd (h : Fin 8) (c : Fin 64) : Fin 512 := ⟨64 * h.val + c.val, by omega⟩

/-- One head's scores. -/
def score (q k : Fin 256 → Fin 512 → EReal) (h : Fin 8) (i j : Fin 256) : EReal := ∑ c : Fin 64, q i (hd h c) * k j (hd h c)
/-- A row of scores, masked. -/
def masked (p : Fin 256 → Prop) [DecidablePred p] (s : Fin 256 → EReal) (j : Fin 256) : EReal := if p j then cneg else s j
/-- A row's maximum. -/
def rowmax (s : Fin 256 → EReal) : EReal := (Finset.univ : Finset (Fin 256)).fold max ⊥ s
/-- A row's exponentials, less its maximum. -/
def expo (s : Fin 256 → EReal) (j : Fin 256) : EReal := Ideal.exp (s j - rowmax s)
/-- A row's context, the kernel's way: the products summed, then times one over the row's sum. -/
def ctxK (e v : Fin 256 → EReal) : EReal := (∑ j, e j * v j) * Ideal.div 1 (∑ j, e j)
/-- A row's context, the reference's way: each exponential divided by the row's sum. -/
def ctxR (e v : Fin 256 → EReal) : EReal := ∑ j, v j * Ideal.div (e j) (∑ j, e j)

theorem rowmax_fin {s : Fin 256 → EReal} (h : ∀ j, Fin' (s j)) : Fin' (rowmax s) := by
  obtain ⟨j, -, hj⟩ := Finset.exists_mem_eq_sup (Finset.univ : Finset (Fin 256)) ⟨0, Finset.mem_univ _⟩ s
  have : rowmax s = s j := hj
  rw [this]; exact h j

/-- For a row of finite scores the two ways agree. -/
theorem ctx_eq {s : Fin 256 → EReal} (h : ∀ j, Fin' (s j)) (v : Fin 256 → EReal) : ctxR (expo s) v = ctxK (expo s) v := by
  have he : ∀ j, ∃ r : ℝ, 0 < r ∧ expo s j = (r : EReal) := fun j => by
    obtain ⟨r, hr⟩ := (h j).sub (rowmax_fin h)
    exact ⟨Real.exp r, Real.exp_pos r, by rw [expo, hr, Ideal.exp_coe]⟩
  choose e hpos heq using he
  have hS : (∑ j, expo s j) = ((∑ j, e j : ℝ) : EReal) := by
    rw [coe_sum']; exact Finset.sum_congr rfl fun j _ => heq j
  have hSpos : 0 < ∑ j, e j := Finset.sum_pos (fun j _ => hpos j) ⟨0, Finset.mem_univ _⟩
  rw [ctxR, ctxK, hS, Ideal.div_coe hSpos.ne', one_mul, sum_mul_real _ _ (by positivity)]
  refine Finset.sum_congr rfl fun j _ => ?_
  rw [Ideal.div_coe hSpos.ne', ← mul_assoc, mul_comm (v j)]

/-- A layer's parameters. -/
structure Par where
  g1 : Fin 512 → EReal
  b1 : Fin 512 → EReal
  wq : Fin 512 → Fin 512 → EReal
  bq : Fin 512 → EReal
  wk : Fin 512 → Fin 512 → EReal
  bk : Fin 512 → EReal
  wv : Fin 512 → Fin 512 → EReal
  bv : Fin 512 → EReal
  wo : Fin 512 → Fin 512 → EReal
  bo : Fin 512 → EReal
  g2 : Fin 512 → EReal
  b2 : Fin 512 → EReal
  u1 : Fin 512 → Fin 2048 → EReal
  c1 : Fin 2048 → EReal
  u2 : Fin 2048 → Fin 512 → EReal
  c2 : Fin 512 → EReal

/-- What makes the attention scores is finite. -/
structure Par.Finite (P : Par) : Prop where
  g1 : ∀ d, Fin' (P.g1 d)
  b1 : ∀ d, Fin' (P.b1 d)
  wq : ∀ d e, Fin' (P.wq d e)
  bq : ∀ d, Fin' (P.bq d)
  wk : ∀ d e, Fin' (P.wk d e)
  bk : ∀ d, Fin' (P.bk d)

variable (P : Par) (p : Fin 256 → Prop) [DecidablePred p]

/-- One head's context at a row and a column, the kernel's way. -/
def headK (h : Fin 8) (n : Fin 256 → Fin 512 → EReal) (i : Fin 256) (c : Fin 64) : EReal :=
  ctxK (expo (masked p (score (fun i d => lin (n i) P.wq P.bq d * ceighth) (fun i => lin (n i) P.wk P.bk) h i)))
    (fun j => lin (n j) P.wv P.bv (hd h c))
/-- The same, the reference's way. -/
def headR (h : Fin 8) (n : Fin 256 → Fin 512 → EReal) (i : Fin 256) (c : Fin 64) : EReal :=
  ctxR (expo (masked p fun j => score (fun i => lin (n i) P.wq P.bq) (fun i => lin (n i) P.wk P.bk) h i j * ceighth))
    (fun j => lin (n j) P.wv P.bv (hd h c))

theorem head_eq {P : Par} (hP : P.Finite) {n : Fin 256 → Fin 512 → EReal} (hn : ∀ i d, Fin' (n i d)) (h : Fin 8) (i : Fin 256) (c : Fin 64) :
    headR P p h n i c = headK P p h n i c := by
  obtain ⟨r, hr, h8⟩ := ceighth_nonneg
  have hs : (fun j => score (fun i => lin (n i) P.wq P.bq) (fun i => lin (n i) P.wk P.bk) h i j * ceighth)
      = score (fun i d => lin (n i) P.wq P.bq d * ceighth) (fun i => lin (n i) P.wk P.bk) h i := funext fun j => by
    rw [score, score, h8, sum_mul_real _ _ hr]
    exact Finset.sum_congr rfl fun c _ => mul_right_comm _ _ _
  rw [headR, hs, headK]
  refine ctx_eq (fun j => ?_) _
  rw [masked]
  split
  · exact cneg_real
  · exact Fin'.sum _ fun c => ((lin_fin (hn i) hP.wq hP.bq _).mul ⟨r, h8⟩).mul (lin_fin (hn j) hP.wk hP.bk _)

/-- One head's part of the output projection. -/
def part (t : Fin 64 → EReal) (h : Fin 8) (d : Fin 512) : EReal := ∑ c, t c * P.wo (hd h c) d
/-- The feed-forward part before its last bias. -/
def ff (n : Fin 512 → EReal) (d : Fin 512) : EReal := ∑ f, max (lin n P.u1 P.c1 f) 0 * P.u2 f d

/-- A sequence after the attention part, the kernel's way: the heads' projections added in order. -/
def midK (x : Fin 256 → Fin 512 → EReal) (i : Fin 256) (d : Fin 512) : EReal :=
  let a := fun h => part P (headK P p h (fun i => lnK P.g1 P.b1 (x i)) i) h d
  x i d + (a 0 + a 1 + a 2 + a 3 + a 4 + a 5 + a 6 + a 7) + P.bo d
/-- The same, the reference's way: one projection of all 512 columns. -/
def midR (x : Fin 256 → Fin 512 → EReal) (i : Fin 256) (d : Fin 512) : EReal :=
  x i d + ((∑ e : Fin 512, headR P p ⟨e.val / 64, by omega⟩ (fun i => lnR P.g1 P.b1 (x i)) i ⟨e.val % 64, by omega⟩ * P.wo e d) + P.bo d)

/-- A sequence after the whole layer, the kernel's way. -/
def layerK (x : Fin 256 → Fin 512 → EReal) (i : Fin 256) (d : Fin 512) : EReal :=
  midK P p x i d + ff P (lnK P.g2 P.b2 (midK P p x i)) d + P.c2 d
/-- A sequence after the whole layer, the reference's way. -/
def layerR (x : Fin 256 → Fin 512 → EReal) (i : Fin 256) (d : Fin 512) : EReal :=
  midR P p x i d + (ff P (lnR P.g2 P.b2 (midR P p x i)) d + P.c2 d)

/-- Equivalent masks make one layer. -/
theorem layerK_congr (P : Par) {p q : Fin 256 → Prop} [hp : DecidablePred p] [hq : DecidablePred q] (h : ∀ j, p j ↔ q j) (x : Fin 256 → Fin 512 → EReal) :
    layerK P p x = layerK P q x := by
  obtain rfl : p = q := funext fun j => propext (h j)
  obtain rfl : hp = hq := Subsingleton.elim _ _
  rfl

/-- A sum over the 512 columns by heads. -/
theorem sum_heads (f : Fin 512 → EReal) : (∑ e, f e) = ∑ h : Fin 8, ∑ c : Fin 64, f (hd h c) := by
  rw [← Equiv.sum_comp (finProdFinEquiv (m := 8) (n := 64)) f, Fintype.sum_prod_type]
  refine Finset.sum_congr rfl fun h _ => Finset.sum_congr rfl fun c _ => ?_
  congr 1
  exact Fin.ext (by simp [finProdFinEquiv, hd]; omega)

theorem mid_eq {P : Par} (hP : P.Finite) (x : Fin 256 → Fin 512 → EReal) : midR P p x = midK P p x := by
  funext i d
  rw [midR, midK, ← add_assoc]
  congr 2
  rw [sum_heads, Fin.sum_univ_eight]
  have hln : (fun i => lnR P.g1 P.b1 (x i)) = fun i => lnK P.g1 P.b1 (x i) := funext fun i => ln_eq _ _ _
  have hh : ∀ h : Fin 8, (∑ c : Fin 64, headR P p ⟨(hd h c).val / 64, by omega⟩ (fun i => lnR P.g1 P.b1 (x i)) i ⟨(hd h c).val % 64, by omega⟩
      * P.wo (hd h c) d) = part P (headK P p h (fun i => lnK P.g1 P.b1 (x i)) i) h d := fun h => by
    refine Finset.sum_congr rfl fun c _ => ?_
    have e1 : (⟨(hd h c).val / 64, by omega⟩ : Fin 8) = h := Fin.ext (by simp only [hd]; omega)
    have e2 : (⟨(hd h c).val % 64, by omega⟩ : Fin 64) = c := Fin.ext (by simp only [hd]; omega)
    rw [e1, e2, hln, head_eq p hP (fun i d => lnK_fin hP.g1 hP.b1 _ _)]
  rw [hh, hh, hh, hh, hh, hh, hh, hh]

/-- The layer the two ways is one function, when what makes the attention scores is finite. -/
theorem layer_eq {P : Par} (hP : P.Finite) (x : Fin 256 → Fin 512 → EReal) : layerR P p x = layerK P p x := by
  funext i d
  rw [layerR, layerK, mid_eq p hP, ln_eq, ← add_assoc]

end Cert.Spec

end
-- ==== Proof.LayerAt.lean ====
/-
  The layer call's one sequence read at an index, over the extended reals: `layerV` at row `i` and column `d` is the
  mathematical `layerK` of its parameters (`layerV_apply`).
-/
module

public import proofs.«01_k».proof.Proof.LayerVec
public import proofs.«01_k».proof.Proof.Spec
public import Idealize.ShloMosaic.Lib.ValueIdx
public import Idealize.ShloMosaic.Lib.ValueLayout

@[expose] public section

set_option synthInstance.maxSize 4096

noncomputable section

open scoped BigOperators

namespace Cert.KernelIdeal.Layer

open Idealize.ShloMosaic Idealize.ShloMosaic.ValueIdx Idealize.SL.Sem Cert.KernelIdeal Cert.KernelIdeal.Gen Cert.Spec

/-! ## Layout -/

/-- A row vector repeated over the rows reads its own column. -/
theorem rowBroadcast_apply {a b : ℕ} (x : (⟨2, ![1, b]⟩ : Shape).Idx → EReal) (h : (⟨2, ![1, b]⟩ : Shape).Broadcasts ⟨2, ![a, b]⟩)
    (i : Fin a) (d : Fin b) : broadcastTo ⟨2, ![a, b]⟩ x h (ix2 i d) = x (ix2 (0 : Fin 1) d) :=
  broadcastTo_apply _ _ _ _ fun c => match c with
    | ⟨0, _⟩ => rfl
    | ⟨1, _⟩ => by
      show d.val = if b = 1 then 0 else d.val
      split
      · have := d.isLt; omega
      · rfl

/-- A column vector repeated over the columns reads its own row. -/
theorem colBroadcast_apply {a b : ℕ} (x : (⟨2, ![a, 1]⟩ : Shape).Idx → EReal) (h : (⟨2, ![a, 1]⟩ : Shape).Broadcasts ⟨2, ![a, b]⟩)
    (i : Fin a) (d : Fin b) : broadcastTo ⟨2, ![a, b]⟩ x h (ix2 i d) = x (ix2 i (0 : Fin 1)) :=
  broadcastTo_apply _ _ _ _ fun c => match c with
    | ⟨0, _⟩ => by
      show i.val = if a = 1 then 0 else i.val
      split
      · have := i.isLt; omega
      · rfl
    | ⟨1, _⟩ => rfl

/-- A vector cast to a column reads its own row. -/
theorem colCast_apply {a : ℕ} (x : (⟨1, ![a]⟩ : Shape).Idx → EReal) (h : (⟨1, ![a]⟩ : Shape).ShapeCasts ⟨2, ![a, 1]⟩) (i : Fin a) :
    shapeCast ⟨2, ![a, 1]⟩ x h (ix2 i (0 : Fin 1)) = x (ix1 i) :=
  shapeCast_apply _ _ _ _ (by rw [Shape.rowMajor_val_one, Shape.rowMajor_val_two]; show i.val = i.val * 1 + 0; omega)

/-- A sum over the columns, at a row. -/
theorem rowSum_apply {a b : ℕ} (x : FVec Ideal ⟨2, ![a, b]⟩ .f32) (h : (⟨2, ![a, b]⟩ : Shape).Reduces [1] ⟨1, ![a]⟩)
    (hf : FKind.Formats .f32) (hacc : (0x00000000#32 : BitVec 32) = FKind.add.neutral .f32 hf) (i : Fin a) :
    multiReduction .add [1] ⟨1, ![a]⟩ x 0x00000000#32 h hf hacc (ix1 i) = ∑ d : Fin b, x (ix2 i d) := by
  rw [Ideal.multiReduction_add_single]
  refine Finset.sum_congr rfl fun d _ => congrArg x ?_
  funext c
  match c with
  | ⟨0, _⟩ => exact Fin.ext rfl
  | ⟨1, _⟩ => exact Fin.ext rfl

/-- A maximum over the columns, at a row. -/
theorem rowMax_apply (x : FVec Ideal S256x256 .f32) (h : S256x256.Reduces [1] S256)
    (hf : FKind.Formats .f32) (hacc : (0xFF800000#32 : BitVec 32) = FKind.maximumf.neutral .f32 hf) (i : Fin 256) :
    multiReduction .maximumf [1] S256 x 0xFF800000#32 h hf hacc (ix1 i) = rowmax fun d => x (ix2 i d) := by
  rw [Ideal.multiReduction_maximumf_single]
  have hb : (FloatOps.ofBits .f32 0xFF800000#32 : Ideal .f32) = ⊥ := ninf_eq
  rw [hb]
  refine congrArg (fun f => (Finset.univ : Finset (Fin 256)).fold max ⊥ f) ?_
  funext d
  refine congrArg x ?_
  funext c
  match c with
  | ⟨0, _⟩ => exact Fin.ext rfl
  | ⟨1, _⟩ => exact Fin.ext rfl

/-- The row sums as a column, at a row. -/
theorem sumCol512_apply (x : FVec Ideal S256x512 .f32) (i : Fin 256) :
    shapeCast S256x1 (multiReduction .add [1] S256 x 0x00000000#32 reduces_S256x512_S256 (.inl rfl) rfl) shapeCasts_S256_S256x1 (ix2 i (0 : Fin 1))
      = ∑ d : Fin 512, x (ix2 i d) := (colCast_apply _ _ _).trans (rowSum_apply _ _ _ _ _)
theorem sumCol256_apply (x : FVec Ideal S256x256 .f32) (i : Fin 256) :
    shapeCast S256x1 (multiReduction .add [1] S256 x 0x00000000#32 reduces_S256x256_S256 (.inl rfl) rfl) shapeCasts_S256_S256x1 (ix2 i (0 : Fin 1))
      = ∑ d : Fin 256, x (ix2 i d) := (colCast_apply _ _ _).trans (rowSum_apply _ _ _ _ _)
/-- The row maxima as a column, at a row. -/
theorem maxCol_apply (x : FVec Ideal S256x256 .f32) (i : Fin 256) :
    shapeCast S256x1 (multiReduction .maximumf [1] S256 x 0xFF800000#32 reduces_S256x256_S256 (.inl rfl) rfl) shapeCasts_S256_S256x1 (ix2 i (0 : Fin 1))
      = rowmax fun d => x (ix2 i d) := (colCast_apply _ _ _).trans (rowMax_apply _ _ _ _ _)

/-! ## The products -/

/-- A product over one contracted axis: the sum over that axis's coordinates of the operands at the indices `L` and `R`. -/
theorem dot_apply {sl sr so : Shape} {φ₁ φ₂ : FTy} (D : DotDims sl sr so) (K : ℕ) (hr : D.contr.rank = 1) (hk : D.contr.size ⟨0, by omega⟩ = K)
    (x : FVec Ideal sl φ₁) (w : FVec Ideal sr φ₂) (j : so.Idx) (L : Fin K → sl.Idx) (R : Fin K → sr.Idx)
    (hL : ∀ c, D.lhsIdx j ((contrEquiv1 D K hr hk).symm c) = L c) (hR : ∀ c, D.rhsIdx j ((contrEquiv1 D K hr hk).symm c) = R c) :
    matmul D none x w (constant so .f32 0x00000000#32) j = ∑ c : Fin K, x (L c) * w (R c) := by
  refine (Ideal.matmul_constant_zero_apply D none x w j).trans ?_
  rw [← Equiv.sum_comp (contrEquiv1 D K hr hk).symm]
  exact Finset.sum_congr rfl fun c _ => by rw [hL c, hR c]

theorem proj_dot (x : FVec Ideal S256x512 .bf16) (w : FVec Ideal S512x512 .bf16) (i : Fin 256) (d : Fin 512) :
    matmul dot_S256x512_S512x512_S256x512_1_0_0_1_n_n none x w (constant S256x512 .f32 0x00000000#32) (ix2 i d)
      = ∑ k : Fin 512, x (ix2 i k) * w (ix2 k d) :=
  dot_apply dot_S256x512_S512x512_S256x512_1_0_0_1_n_n 512 rfl rfl x w _ (fun k => ix2 i k) (fun k => ix2 k d)
    (fun c => funext fun | ⟨0, _⟩ => rfl | ⟨1, _⟩ => Fin.ext (contrEquiv1_symm_val dot_S256x512_S512x512_S256x512_1_0_0_1_n_n 512 rfl rfl c))
    (fun c => funext fun | ⟨0, _⟩ => Fin.ext (contrEquiv1_symm_val dot_S256x512_S512x512_S256x512_1_0_0_1_n_n 512 rfl rfl c) | ⟨1, _⟩ => rfl)

theorem score_dot (x y : FVec Ideal S256x64 .bf16) (i j : Fin 256) :
    matmul dot_S256x64_S256x64_S256x256_1_1_0_0_n_n none x y (constant S256x256 .f32 0x00000000#32) (ix2 i j)
      = ∑ k : Fin 64, x (ix2 i k) * y (ix2 j k) :=
  dot_apply dot_S256x64_S256x64_S256x256_1_1_0_0_n_n 64 rfl rfl x y _ (fun k => ix2 i k) (fun k => ix2 j k)
    (fun c => funext fun | ⟨0, _⟩ => rfl | ⟨1, _⟩ => Fin.ext (contrEquiv1_symm_val dot_S256x64_S256x64_S256x256_1_1_0_0_n_n 64 rfl rfl c))
    (fun c => funext fun | ⟨0, _⟩ => rfl | ⟨1, _⟩ => Fin.ext (contrEquiv1_symm_val dot_S256x64_S256x64_S256x256_1_1_0_0_n_n 64 rfl rfl c))

theorem ctx_dot (x : FVec Ideal S256x256 .bf16) (w : FVec Ideal S256x64 .bf16) (i : Fin 256) (d : Fin 64) :
    matmul dot_S256x256_S256x64_S256x64_1_0_0_1_n_n none x w (constant S256x64 .f32 0x00000000#32) (ix2 i d)
      = ∑ k : Fin 256, x (ix2 i k) * w (ix2 k d) :=
  dot_apply dot_S256x256_S256x64_S256x64_1_0_0_1_n_n 256 rfl rfl x w _ (fun k => ix2 i k) (fun k => ix2 k d)
    (fun c => funext fun | ⟨0, _⟩ => rfl | ⟨1, _⟩ => Fin.ext (contrEquiv1_symm_val dot_S256x256_S256x64_S256x64_1_0_0_1_n_n 256 rfl rfl c))
    (fun c => funext fun | ⟨0, _⟩ => Fin.ext (contrEquiv1_symm_val dot_S256x256_S256x64_S256x64_1_0_0_1_n_n 256 rfl rfl c) | ⟨1, _⟩ => rfl)

theorem out_dot (x : FVec Ideal S256x64 .bf16) (w : FVec Ideal S64x512 .bf16) (i : Fin 256) (d : Fin 512) :
    matmul dot_S256x64_S64x512_S256x512_1_0_0_1_n_n none x w (constant S256x512 .f32 0x00000000#32) (ix2 i d)
      = ∑ k : Fin 64, x (ix2 i k) * w (ix2 k d) :=
  dot_apply dot_S256x64_S64x512_S256x512_1_0_0_1_n_n 64 rfl rfl x w _ (fun k => ix2 i k) (fun k => ix2 k d)
    (fun c => funext fun | ⟨0, _⟩ => rfl | ⟨1, _⟩ => Fin.ext (contrEquiv1_symm_val dot_S256x64_S64x512_S256x512_1_0_0_1_n_n 64 rfl rfl c))
    (fun c => funext fun | ⟨0, _⟩ => Fin.ext (contrEquiv1_symm_val dot_S256x64_S64x512_S256x512_1_0_0_1_n_n 64 rfl rfl c) | ⟨1, _⟩ => rfl)

theorem up_dot (x : FVec Ideal S256x512 .bf16) (w : FVec Ideal S512x2048 .bf16) (i : Fin 256) (d : Fin 2048) :
    matmul dot_S256x512_S512x2048_S256x2048_1_0_0_1_n_n none x w (constant S256x2048 .f32 0x00000000#32) (ix2 i d)
      = ∑ k : Fin 512, x (ix2 i k) * w (ix2 k d) :=
  dot_apply dot_S256x512_S512x2048_S256x2048_1_0_0_1_n_n 512 rfl rfl x w _ (fun k => ix2 i k) (fun k => ix2 k d)
    (fun c => funext fun | ⟨0, _⟩ => rfl | ⟨1, _⟩ => Fin.ext (contrEquiv1_symm_val dot_S256x512_S512x2048_S256x2048_1_0_0_1_n_n 512 rfl rfl c))
    (fun c => funext fun | ⟨0, _⟩ => Fin.ext (contrEquiv1_symm_val dot_S256x512_S512x2048_S256x2048_1_0_0_1_n_n 512 rfl rfl c) | ⟨1, _⟩ => rfl)

theorem down_dot (x : FVec Ideal S256x2048 .bf16) (w : FVec Ideal S2048x512 .bf16) (i : Fin 256) (d : Fin 512) :
    matmul dot_S256x2048_S2048x512_S256x512_1_0_0_1_n_n none x w (constant S256x512 .f32 0x00000000#32) (ix2 i d)
      = ∑ k : Fin 2048, x (ix2 i k) * w (ix2 k d) :=
  dot_apply dot_S256x2048_S2048x512_S256x512_1_0_0_1_n_n 2048 rfl rfl x w _ (fun k => ix2 i k) (fun k => ix2 k d)
    (fun c => funext fun | ⟨0, _⟩ => rfl | ⟨1, _⟩ => Fin.ext (contrEquiv1_symm_val dot_S256x2048_S2048x512_S256x512_1_0_0_1_n_n 2048 rfl rfl c))
    (fun c => funext fun | ⟨0, _⟩ => Fin.ext (contrEquiv1_symm_val dot_S256x2048_S2048x512_S256x512_1_0_0_1_n_n 2048 rfl rfl c) | ⟨1, _⟩ => rfl)

/-! ## The pieces -/

theorem rowV_apply (b : Vec Ideal S1x512 .f32) (i : Fin 256) (d : Fin 512) : rowV b (ix2 i d) = b (ix2 (0 : Fin 1) d) := by
  rw [rowV, shapeCast_self]; exact rowBroadcast_apply _ _ _ _

theorem centreV_apply (x : FVec Ideal S256x512 .f32) (i : Fin 256) (d : Fin 512) :
    centreV x (ix2 i d) = centre (fun d => x (ix2 i d)) d := by
  show x (ix2 i d) - broadcastTo S256x512 _ broadcasts_S256x1_S256x512 (ix2 i d) = _
  rw [colBroadcast_apply]
  show x (ix2 i d) - Ideal.div (shapeCast S256x1 _ shapeCasts_S256_S256x1 (ix2 i 0)) c512 = _
  rw [sumCol512_apply]
  rfl

theorem lnV_apply (x : FVec Ideal S256x512 .f32) (g b : Vec Ideal S1x512 .f32) (i : Fin 256) (d : Fin 512) :
    lnV x g b (ix2 i d) = lnK (fun d => g (ix2 (0 : Fin 1) d)) (fun d => b (ix2 (0 : Fin 1) d)) (fun d => x (ix2 i d)) d := by
  show centreV x (ix2 i d) * broadcastTo S256x512 _ broadcasts_S256x1_S256x512 (ix2 i d) * rowV g (ix2 i d) + rowV b (ix2 i d) = _
  rw [colBroadcast_apply, rowV_apply, rowV_apply, centreV_apply]
  show _ * Ideal.rsqrt (Ideal.div (shapeCast S256x1 _ shapeCasts_S256_S256x1 (ix2 i 0)) c512 + ceps) * _ + _ = _
  rw [sumCol512_apply]
  simp only [mulf_apply, centreV_apply]
  rfl

theorem projV_apply (x : FVec Ideal S256x512 .bf16) (w : Vec Ideal S512x512 .bf16) (b : Vec Ideal S1x512 .f32) (i : Fin 256) (d : Fin 512) :
    projV x w b (ix2 i d) = lin (fun k => x (ix2 i k)) (fun k j => w (ix2 k j)) (fun j => b (ix2 (0 : Fin 1) j)) d := by
  rw [projV, addf_apply, rowV_apply, shapeCast_self, proj_dot]; rfl

theorem scoreV_apply (h : Fin 8) {o : ℕ} (ho : o = 64 * h.val) (hs : S256x512.Slices ![0, o] S256x64) (q k : FVec Ideal S256x512 .bf16) (i j : Fin 256) :
    scoreV o hs q k (ix2 i j) = score (fun i d => q (ix2 i d)) (fun i d => k (ix2 i d)) h i j := by
  rw [scoreV, score_dot]
  exact Finset.sum_congr rfl fun c _ => congrArg₂ (· * ·) (slice2_axis1_apply _ _ _ _ _ (hd h c) (by rw [ho]; rfl)) (slice2_axis1_apply _ _ _ _ _ (hd h c) (by rw [ho]; rfl))

/-- A row of the padding mask: where it is set. -/
abbrev padded (p : IVec S1x256 1) (j : Fin 256) : Prop := p (ix2 (0 : Fin 1) j) = 1#1

theorem maskRow_apply (p : IVec S1x256 1) (i j : Fin 256) :
    broadcastTo S256x256 (shapeCast S1x256 p shapeCasts_S1x256_S1x256) broadcasts_S1x256_S256x256 (ix2 i j) = p (ix2 (0 : Fin 1) j) := by
  rw [shapeCast_self]
  exact broadcastTo_apply _ _ _ _ fun c => match c with
    | ⟨0, _⟩ => rfl
    | ⟨1, _⟩ => rfl

theorem maskedV_apply {m : Fin 256 → Prop} [DecidablePred m] (p : IVec S1x256 1) (hp : ∀ j, padded p j ↔ m j) (s : FVec Ideal S256x256 .f32)
    (i j : Fin 256) : maskedV p s (ix2 i j) = masked m (fun j => s (ix2 i j)) j := by
  rw [maskedV, select_apply, maskRow_apply, masked]
  rcases (by decide +kernel : ∀ b : BitVec 1, b = 0#1 ∨ b = 1#1) (p (ix2 (0 : Fin 1) j)) with h | h
  · rw [if_neg (by rw [← hp, padded, h]; decide), h, select_zero]
  · rw [if_pos ((hp j).mp h), h, select_one]; rfl

theorem expV_apply {m : Fin 256 → Prop} [DecidablePred m] (p : IVec S1x256 1) (hp : ∀ j, padded p j ↔ m j) (s : FVec Ideal S256x256 .f32)
    (i j : Fin 256) : expV p s (ix2 i j) = expo (masked m fun j => s (ix2 i j)) j := by
  show Ideal.exp (maskedV p s (ix2 i j) - broadcastTo S256x256 _ broadcasts_S256x1_S256x256 (ix2 i j)) = _
  rw [colBroadcast_apply, maxCol_apply, maskedV_apply p hp]
  simp only [maskedV_apply p hp]
  rfl

theorem ctxV_apply (h : Fin 8) {o : ℕ} (ho : o = 64 * h.val) (hs : S256x512.Slices ![0, o] S256x64) (e : FVec Ideal S256x256 .f32) (v : FVec Ideal S256x512 .bf16)
    (i : Fin 256) (c : Fin 64) :
    ctxV o hs e v (ix2 i c) = ctxK (fun j => e (ix2 i j)) (fun j => v (ix2 j (hd h c))) := by
  rw [ctxV, truncf_apply, mulf_apply, ctx_dot, colBroadcast_apply, invSumV, divf_apply, sumCol256_apply, ctxK]
  refine congrArg₂ (· * ·) (Finset.sum_congr rfl fun j _ => congrArg₂ (· * ·) rfl (slice2_axis1_apply _ _ _ _ _ (hd h c) (by rw [ho]; rfl))) ?_
  refine congrArg (Ideal.div · _) ?_
  exact Ideal.ofBits_one_f32

theorem headV_apply {m : Fin 256 → Prop} [DecidablePred m] (P : Par) (p : IVec S1x256 1) (hp : ∀ j, padded p j ↔ m j) (n : Fin 256 → Fin 512 → EReal) (h : Fin 8) {o : ℕ} (ho : o = 64 * h.val) (hs : S256x512.Slices ![0, o] S256x64)
    (q k v : FVec Ideal S256x512 .bf16) (w : Vec Ideal S64x512 .bf16) (hq : ∀ i d, q (ix2 i d) = lin (n i) P.wq P.bq d * ceighth)
    (hk : ∀ i d, k (ix2 i d) = lin (n i) P.wk P.bk d) (hv : ∀ i d, v (ix2 i d) = lin (n i) P.wv P.bv d)
    (hw : ∀ c d, w (ix2 c d) = P.wo (hd h c) d) (i : Fin 256) (d : Fin 512) :
    headV o hs p q k v w (ix2 i d) = part P (headK P m h n i) h d := by
  rw [headV, out_dot, shapeCast_self, part]
  refine Finset.sum_congr rfl fun c _ => congrArg₂ (· * ·) ?_ (hw c d)
  rw [ctxV_apply h ho, headK]
  simp only [expV_apply p hp, scoreV_apply h ho, hq, hk, hv]

/-- The layer's parameters read off the vectors it loads; the output projection comes as eight bands of 64 rows. -/
def par (g1 b1 : Vec Ideal S1x512 .f32) (wq : Vec Ideal S512x512 .bf16) (bq : Vec Ideal S1x512 .f32) (wk : Vec Ideal S512x512 .bf16)
    (bk : Vec Ideal S1x512 .f32) (wv : Vec Ideal S512x512 .bf16) (bv : Vec Ideal S1x512 .f32) (wo : Vec Ideal S512x512 .bf16)
    (bo g2 b2 : Vec Ideal S1x512 .f32) (u1 : Vec Ideal S512x2048 .bf16) (c1 : Vec Ideal S1x2048 .f32) (u2 : Vec Ideal S2048x512 .bf16)
    (c2 : Vec Ideal S1x512 .f32) : Par where
  g1 d := g1 (ix2 (0 : Fin 1) d)
  b1 d := b1 (ix2 (0 : Fin 1) d)
  wq k d := wq (ix2 k d)
  bq d := bq (ix2 (0 : Fin 1) d)
  wk k d := wk (ix2 k d)
  bk d := bk (ix2 (0 : Fin 1) d)
  wv k d := wv (ix2 k d)
  bv d := bv (ix2 (0 : Fin 1) d)
  wo k d := wo (ix2 k d)
  bo d := bo (ix2 (0 : Fin 1) d)
  g2 d := g2 (ix2 (0 : Fin 1) d)
  b2 d := b2 (ix2 (0 : Fin 1) d)
  u1 k f := u1 (ix2 k f)
  c1 f := c1 (ix2 (0 : Fin 1) f)
  u2 f d := u2 (ix2 f d)
  c2 d := c2 (ix2 (0 : Fin 1) d)

theorem ffV_apply (h : FVec Ideal S256x512 .f32) (n : FVec Ideal S256x512 .bf16) (w1 : Vec Ideal S512x2048 .bf16) (b1 : Vec Ideal S1x2048 .f32)
    (w2 : Vec Ideal S2048x512 .bf16) (i : Fin 256) (d : Fin 512) :
    ffV h n w1 b1 w2 (ix2 i d) = h (ix2 i d) + ∑ f : Fin 2048,
      max (lin (fun k => n (ix2 i k)) (fun k f => w1 (ix2 k f)) (fun f => b1 (ix2 (0 : Fin 1) f)) f) 0 * w2 (ix2 f d) := by
  rw [ffV, addf_apply, down_dot, shapeCast_self w2]
  refine congrArg (h (ix2 i d) + ·) (Finset.sum_congr rfl fun f _ => congrArg (· * w2 (ix2 f d)) ?_)
  rw [truncf_apply, maximumf_apply, addf_apply, up_dot, shapeCast_self, shapeCast_self, rowBroadcast_apply]
  exact congrArg (max _) Ideal.ofBits_zero_f32

variable (t : Vec Ideal S1x1x256 .i32) (x : Vec Ideal S1x256x512 .f32) (g1 b1 : Vec Ideal S1x512 .f32) (wq : Vec Ideal S512x512 .bf16)
  (bq : Vec Ideal S1x512 .f32) (wk : Vec Ideal S512x512 .bf16) (bk : Vec Ideal S1x512 .f32) (wv : Vec Ideal S512x512 .bf16) (bv : Vec Ideal S1x512 .f32)
  (w0 w1 w2 w3 w4 w5 w6 w7 : Vec Ideal S64x512 .bf16) (wo : Vec Ideal S512x512 .bf16) (bo g2 b2 : Vec Ideal S1x512 .f32) (u1 : Vec Ideal S512x2048 .bf16)
  (c1 : Vec Ideal S1x2048 .f32) (u2 : Vec Ideal S2048x512 .bf16) (c2 : Vec Ideal S1x512 .f32)

/-- Eight bands of rows of one weight. -/
structure Bands : Prop where
  b0 : ∀ c d, w0 (ix2 c d) = wo (ix2 (hd 0 c) d)
  b1 : ∀ c d, w1 (ix2 c d) = wo (ix2 (hd 1 c) d)
  b2 : ∀ c d, w2 (ix2 c d) = wo (ix2 (hd 2 c) d)
  b3 : ∀ c d, w3 (ix2 c d) = wo (ix2 (hd 3 c) d)
  b4 : ∀ c d, w4 (ix2 c d) = wo (ix2 (hd 4 c) d)
  b5 : ∀ c d, w5 (ix2 c d) = wo (ix2 (hd 5 c) d)
  b6 : ∀ c d, w6 (ix2 c d) = wo (ix2 (hd 6 c) d)
  b7 : ∀ c d, w7 (ix2 c d) = wo (ix2 (hd 7 c) d)

variable {w0 w1 w2 w3 w4 w5 w6 w7 wo} (hB : Bands w0 w1 w2 w3 w4 w5 w6 w7 wo)

/-- The sequence's padded places: where its token is 0. -/
abbrev isPad (t : Vec Ideal S1x1x256 .i32) (j : Fin 256) : Prop := t (ix3 (0 : Fin 1) (0 : Fin 1) j) = 0#32

theorem padded_iff (j : Fin 256) : padded (padV t) j ↔ isPad t j := by
  have e : padV t (ix2 (0 : Fin 1) j) = IntOp.cmpi .eq (t (ix3 (0 : Fin 1) (0 : Fin 1) j)) 0#32 := by
    show IntOp.cmpi .eq (shapeCast S1x256 t shapeCasts_S1x1x256_S1x256 (ix2 (0 : Fin 1) j)) 0#32 = _
    exact congrArg (fun x => IntOp.cmpi .eq x 0#32) (shapeCast_1ab_ab_apply t _ _ _)
  rw [padded, e, isPad]
  show BitVec.ofBool (t (ix3 (0 : Fin 1) (0 : Fin 1) j) == 0#32) = 1#1 ↔ _
  by_cases h : t (ix3 (0 : Fin 1) (0 : Fin 1) j) = 0#32
  · simp [h]
  · rw [beq_eq_false_iff_ne.mpr h]; simp [h]

/-- `layerV` at an index is the layer of its parameters on the sequence it loads. -/
theorem layerV_apply (hB : Bands w0 w1 w2 w3 w4 w5 w6 w7 wo) (i : Fin 256) (d : Fin 512) :
    layerV t x g1 b1 wq bq wk bk wv bv w0 w1 w2 w3 w4 w5 w6 w7 bo g2 b2 u1 c1 u2 c2 (ix2 i d)
      = layerK (par g1 b1 wq bq wk bk wv bv wo bo g2 b2 u1 c1 u2 c2) (isPad t) (fun i d => x (ix3 (0 : Fin 1) i d)) i d := by
  have hx : ∀ i d, shapeCast S256x512 x shapeCasts_S1x256x512_S256x512 (ix2 i d) = x (ix3 (0 : Fin 1) i d) := shapeCast_1ab_ab_apply x _
  set P := par g1 b1 wq bq wk bk wv bv wo bo g2 b2 u1 c1 u2 c2 with hP
  set n : FVec Ideal S256x512 .bf16 := truncf .bf16 (lnV (shapeCast S256x512 x shapeCasts_S1x256x512_S256x512) g1 b1) bitsLt_bf16_f32 with hn
  have hn' : ∀ i d, n (ix2 i d) = lnK P.g1 P.b1 (fun d => x (ix3 (0 : Fin 1) i d)) d := fun i d => by
    rw [hn, truncf_apply, lnV_apply]; simp only [hx]; rfl
  have hmid : ∀ i d, midV (shapeCast S256x512 x shapeCasts_S1x256x512_S256x512) (padV t) n wq bq wk bk wv bv w0 w1 w2 w3 w4 w5 w6 w7 bo (ix2 i d)
      = midK P (isPad t) (fun i d => x (ix3 (0 : Fin 1) i d)) i d := fun i d => by
    have hq : ∀ i d, queryV n wq bq (ix2 i d) = lin (lnK P.g1 P.b1 fun d => x (ix3 (0 : Fin 1) i d)) P.wq P.bq d * ceighth := fun i d => by
      rw [queryV, truncf_apply, mulf_apply, projV_apply]; simp only [hn']; rfl
    have hk : ∀ i d, truncf (F := Ideal) .bf16 (projV n wk bk) bitsLt_bf16_f32 (ix2 i d) = lin (lnK P.g1 P.b1 fun d => x (ix3 (0 : Fin 1) i d)) P.wk P.bk d := fun i d => by
      rw [truncf_apply, projV_apply]; simp only [hn']; rfl
    have hv : ∀ i d, truncf (F := Ideal) .bf16 (projV n wv bv) bitsLt_bf16_f32 (ix2 i d) = lin (lnK P.g1 P.b1 fun d => x (ix3 (0 : Fin 1) i d)) P.wv P.bv d := fun i d => by
      rw [truncf_apply, projV_apply]; simp only [hn']; rfl
    have hH := fun h {o} ho hs w hw => headV_apply P (padV t) (padded_iff t) (fun i => lnK P.g1 P.b1 fun d => x (ix3 (0 : Fin 1) i d)) h (o := o) ho hs _ _ _ w hq hk hv hw i d
    rw [midV, addf_apply, addf_apply, rowV_apply, hx, midK]
    refine congrArg (· + _) (congrArg (_ + ·) ?_)
    exact congrArg₂ (· + ·) (congrArg₂ (· + ·) (congrArg₂ (· + ·) (congrArg₂ (· + ·) (congrArg₂ (· + ·) (congrArg₂ (· + ·) (congrArg₂ (· + ·)
      (hH 0 rfl _ _ hB.b0) (hH 1 rfl _ _ hB.b1)) (hH 2 rfl _ _ hB.b2)) (hH 3 rfl _ _ hB.b3)) (hH 4 rfl _ _ hB.b4)) (hH 5 rfl _ _ hB.b5)) (hH 6 rfl _ _ hB.b6)) (hH 7 rfl _ _ hB.b7)
  rw [layerV, ← hn, tailV, addf_apply, rowV_apply, ffV_apply, hmid, layerK]
  simp only [truncf_apply, lnV_apply, hmid]
  rfl

end Cert.KernelIdeal.Layer

end
-- ==== Proof.StoresAt.lean ====
/-
  A layer call's block at an index, over the extended reals: the layer of the block's parameters on the sequence the index
  lies in (`storedV_apply`), and for the last call the final layer norm of that (`storedLastV_apply`).
-/
module

public import proofs.«01_k».proof.Proof.Stores
public import proofs.«01_k».proof.Proof.LayerAt

@[expose] public section

set_option synthInstance.maxSize 4096

noncomputable section

namespace Cert.KernelIdeal.Layer

open Idealize.ShloMosaic Idealize.ShloMosaic.ValueIdx Idealize.SL.Sem Cert.KernelIdeal Cert.KernelIdeal.Gen Cert.Spec

variable (x0 : Vec Ideal S4x1x256 .i32) (x1 : Vec Ideal S4x256x512 .f32) (x2 x3 : Vec Ideal S1x512 .f32) (x4 : Vec Ideal S512x512 .bf16)
  (x5 : Vec Ideal S1x512 .f32) (x6 : Vec Ideal S512x512 .bf16) (x7 : Vec Ideal S1x512 .f32) (x8 : Vec Ideal S512x512 .bf16)
  (x9 : Vec Ideal S1x512 .f32) (x10 : Vec Ideal S512x512 .bf16) (x11 x12 x13 : Vec Ideal S1x512 .f32) (x14 : Vec Ideal S512x2048 .bf16)
  (x15 : Vec Ideal S1x2048 .f32) (x16 : Vec Ideal S2048x512 .bf16) (x17 x18 x19 : Vec Ideal S1x512 .f32)

theorem off2 : (![0, 0] : Fin 2 → ℕ) = fun _ => 0 := by funext a; fin_cases a <;> rfl

theorem ld2 (x : Vec Ideal S1x512 .f32) : View.ld x r1_2 = x := View.ld_unit_zero (S := S1x512) off2 _ x
theorem ld3 (x : Vec Ideal S512x512 .bf16) : View.ld x r1_3 = x := View.ld_unit_zero (S := S512x512) off2 _ x
theorem ld18 (x : Vec Ideal S512x2048 .bf16) : View.ld x r1_18 = x := View.ld_unit_zero (S := S512x2048) off2 _ x
theorem ld19 (x : Vec Ideal S1x2048 .f32) : View.ld x r1_19 = x := View.ld_unit_zero (S := S1x2048) off2 _ x
theorem ld20 (x : Vec Ideal S2048x512 .bf16) : View.ld x r1_20 = x := View.ld_unit_zero (S := S2048x512) off2 _ x

/-- A band of 64 rows of a weight, at an index. -/
theorem ldBand (x : Vec Ideal S512x512 .bf16) (o : ℕ) (h : Fin 8) (ho : o = 64 * h.val) (inb) (c : Fin 64) (d : Fin 512) :
    View.ld x (Rect.unit (s := S512x512) ![o, 0] S64x512.size inb) (ix2 c d) = x (ix2 (hd h c) d) := by
  subst ho
  refine congrArg x (funext fun a => Fin.ext ?_)
  match a with
  | ⟨0, _⟩ => show 64 * h.val + 1 * c.val = 64 * h.val + c.val; omega
  | ⟨1, _⟩ => show 0 + 1 * d.val = d.val; omega

theorem bands (x : Vec Ideal S512x512 .bf16) : Bands (View.ld x r1_10) (View.ld x r1_11) (View.ld x r1_12) (View.ld x r1_13) (View.ld x r1_14)
    (View.ld x r1_15) (View.ld x r1_16) (View.ld x r1_17) x :=
  ⟨ldBand x 0 0 rfl _, ldBand x 64 1 rfl _, ldBand x 128 2 rfl _, ldBand x 192 3 rfl _, ldBand x 256 4 rfl _, ldBand x 320 5 rfl _,
    ldBand x 384 6 rfl _, ldBand x 448 7 rfl _⟩

/-- One sequence's layer at an index, of the loaded parameters. -/
theorem oneV_apply (t : Vec Ideal S1x1x256 .i32) (x : Vec Ideal S1x256x512 .f32) (i : Fin 256) (d : Fin 512) :
    oneV x2 x3 x4 x5 x6 x7 x8 x9 x10 x11 x12 x13 x14 x15 x16 x17 t x (ix2 i d) = layerK (par x2 x3 x4 x5 x6 x7 x8 x9 x10 x11 x12 x13 x14 x15 x16 x17) (isPad t) (fun i d => x (ix3 (0 : Fin 1) i d)) i d := by
  rw [oneV, layerV_apply (hB := bands x10)]
  rw [ld2, ld2, ld3, ld2, ld3, ld2, ld3, ld2, ld2, ld2, ld2, ld18, ld19, ld20, ld2]

/-- A sequence of the block of tokens and of the block of rows. -/
theorem ldTok (b : ℕ) (hb : b < 4) (inb) (j : Fin 256) :
    View.ld x0 (Rect.unit (s := S4x1x256) ![b, 0, 0] S1x1x256.size inb) (ix3 (0 : Fin 1) (0 : Fin 1) j) = x0 (ix3 ⟨b, hb⟩ (0 : Fin 1) j) := by
  refine congrArg x0 (funext fun a => Fin.ext ?_)
  match a with
  | ⟨0, _⟩ => show b + 1 * 0 = b; omega
  | ⟨1, _⟩ => rfl
  | ⟨2, _⟩ => show 0 + 1 * j.val = j.val; omega

theorem embRow (b : ℕ) (hb : b < 4) (inb) (i : Fin 256) (d : Fin 512) :
    (Rect.unit (s := S4x256x512) ![b, 0, 0] S1x256x512.size inb).emb (ix3 (0 : Fin 1) i d) = ix3 ⟨b, hb⟩ i d := by
  refine funext fun a => Fin.ext ?_
  match a with
  | ⟨0, _⟩ => show b + 1 * 0 = b; omega
  | ⟨1, _⟩ => show 0 + 1 * i.val = i.val; omega
  | ⟨2, _⟩ => show 0 + 1 * d.val = d.val; omega

theorem ldRow (b : ℕ) (hb : b < 4) (inb) (i : Fin 256) (d : Fin 512) :
    View.ld x1 (Rect.unit (s := S4x256x512) ![b, 0, 0] S1x256x512.size inb) (ix3 (0 : Fin 1) i d) = x1 (ix3 ⟨b, hb⟩ i d) :=
  congrArg x1 (embRow b hb inb i d)

/-- The block the layer call writes, as a function of the index. -/
def blockF (y : S4x256x512.Idx) : EReal :=
  layerK (par x2 x3 x4 x5 x6 x7 x8 x9 x10 x11 x12 x13 x14 x15 x16 x17) (fun j => x0 (ix3 (y 0) (0 : Fin 1) j) = 0#32) (fun i d => x1 (ix3 (y 0) i d)) (y 1) (y 2)

/-- The same for the last call. -/
def blockLastF (y : S4x256x512.Idx) : EReal :=
  lnK (fun d => x18 (ix2 (0 : Fin 1) d)) (fun d => x19 (ix2 (0 : Fin 1) d)) (fun d => blockF x0 x1 x2 x3 x4 x5 x6 x7 x8 x9 x10 x11 x12 x13 x14 x15 x16 x17 (ix3 (y 0) (y 1) d)) (y 2)

theorem one_piece (b : ℕ) (hb : b < 4) (inb inb') (i : Fin 256) (d : Fin 512) :
    oneV x2 x3 x4 x5 x6 x7 x8 x9 x10 x11 x12 x13 x14 x15 x16 x17 (View.ld x0 (Rect.unit (s := S4x1x256) ![b, 0, 0] S1x1x256.size inb))
      (View.ld x1 (Rect.unit (s := S4x256x512) ![b, 0, 0] S1x256x512.size inb')) (ix2 i d) = blockF x0 x1 x2 x3 x4 x5 x6 x7 x8 x9 x10 x11 x12 x13 x14 x15 x16 x17 (ix3 ⟨b, hb⟩ i d) := by
  rw [oneV_apply, blockF]
  simp only [ldRow x1 b hb]
  exact congrFun (congrFun (layerK_congr _ (fun j => by rw [isPad, ldTok x0 b hb]) _) i) d

theorem seq_piece (b : ℕ) (hb : b < 4) (inb inb') (x : (Rect.unit (s := S4x256x512) ![b, 0, 0] S1x256x512.size inb').shape.Idx) :
    seqV x2 x3 x4 x5 x6 x7 x8 x9 x10 x11 x12 x13 x14 x15 x16 x17 (View.ld x0 (Rect.unit (s := S4x1x256) ![b, 0, 0] S1x1x256.size inb))
      (View.ld x1 (Rect.unit (s := S4x256x512) ![b, 0, 0] S1x256x512.size inb')) x
      = blockF x0 x1 x2 x3 x4 x5 x6 x7 x8 x9 x10 x11 x12 x13 x14 x15 x16 x17 ((Rect.unit (s := S4x256x512) ![b, 0, 0] S1x256x512.size inb').emb x) := by
  obtain ⟨u, i, d, rfl⟩ : ∃ (u : Fin 1) (i : Fin 256) (d : Fin 512), x = ix3 u i d := ⟨_, _, _, eq_ix3 x⟩
  obtain rfl : u = 0 := Subsingleton.elim _ _
  rw [embRow b hb, ← one_piece]
  exact shapeCast_ab_1ab_apply _ _ _ _ _

theorem seqLast_piece (b : ℕ) (hb : b < 4) (inb inb') (x : (Rect.unit (s := S4x256x512) ![b, 0, 0] S1x256x512.size inb').shape.Idx) :
    seqLastV x2 x3 x4 x5 x6 x7 x8 x9 x10 x11 x12 x13 x14 x15 x16 x17 x18 x19 (View.ld x0 (Rect.unit (s := S4x1x256) ![b, 0, 0] S1x1x256.size inb))
      (View.ld x1 (Rect.unit (s := S4x256x512) ![b, 0, 0] S1x256x512.size inb')) x
      = blockLastF x0 x1 x2 x3 x4 x5 x6 x7 x8 x9 x10 x11 x12 x13 x14 x15 x16 x17 x18 x19 ((Rect.unit (s := S4x256x512) ![b, 0, 0] S1x256x512.size inb').emb x) := by
  obtain ⟨u, i, d, rfl⟩ : ∃ (u : Fin 1) (i : Fin 256) (d : Fin 512), x = ix3 u i d := ⟨_, _, _, eq_ix3 x⟩
  obtain rfl : u = 0 := Subsingleton.elim _ _
  rw [embRow b hb]
  refine (shapeCast_ab_1ab_apply _ _ _ _ _).trans ?_
  rw [lnV_apply, ld2, ld2, blockLastF]
  simp only [one_piece x0 x1 x2 x3 x4 x5 x6 x7 x8 x9 x10 x11 x12 x13 x14 x15 x16 x17 b hb]

/-- The four sequences cover the block. -/
theorem mem_row (b : ℕ) (inb) (y : S4x256x512.Idx) (h : (y 0).val = b) : y ∈ (Rect.unit (s := S4x256x512) ![b, 0, 0] S1x256x512.size inb).set := by
  rw [Rect.mem_set_unit]
  intro a
  match a with
  | ⟨0, _⟩ => show b ≤ (y 0).val ∧ (y 0).val < b + 1; omega
  | ⟨1, _⟩ => exact ⟨Nat.zero_le _, by show (y 1).val < 0 + 256; have := (y 1).isLt; simpa using this⟩
  | ⟨2, _⟩ => exact ⟨Nat.zero_le _, by show (y 2).val < 0 + 512; have := (y 2).isLt; simpa using this⟩

theorem storedV_apply (y : S4x256x512.Idx) : storedV x0 x1 x2 x3 x4 x5 x6 x7 x8 x9 x10 x11 x12 x13 x14 x15 x16 x17 y = blockF x0 x1 x2 x3 x4 x5 x6 x7 x8 x9 x10 x11 x12 x13 x14 x15 x16 x17 y := by
  refine View.canon_apply_of_pieces (Val := Elt Ideal) (S := S4x256x512) (e := .f32) (blockF x0 x1 x2 x3 x4 x5 x6 x7 x8 x9 x10 x11 x12 x13 x14 x15 x16 x17) _ (fun p hp x => ?_) y ?_
  · simp only [List.mem_cons, List.not_mem_nil, or_false] at hp
    rcases hp with rfl | rfl | rfl | rfl
    · exact seq_piece x0 x1 x2 x3 x4 x5 x6 x7 x8 x9 x10 x11 x12 x13 x14 x15 x16 x17 3 (by omega) _ _ x
    · exact seq_piece x0 x1 x2 x3 x4 x5 x6 x7 x8 x9 x10 x11 x12 x13 x14 x15 x16 x17 2 (by omega) _ _ x
    · exact seq_piece x0 x1 x2 x3 x4 x5 x6 x7 x8 x9 x10 x11 x12 x13 x14 x15 x16 x17 1 (by omega) _ _ x
    · exact seq_piece x0 x1 x2 x3 x4 x5 x6 x7 x8 x9 x10 x11 x12 x13 x14 x15 x16 x17 0 (by omega) _ _ x
  · have hy : (y 0).val < 4 := (y 0).isLt
    rcases (by omega : (y 0).val = 3 ∨ (y 0).val = 2 ∨ (y 0).val = 1 ∨ (y 0).val = 0) with h | h | h | h
    · exact ⟨_, .head _, mem_row 3 inb_S4x256x512_S1x256x512_3_0_0 y h⟩
    · exact ⟨_, .tail _ (.head _), mem_row 2 inb_S4x256x512_S1x256x512_2_0_0 y h⟩
    · exact ⟨_, .tail _ (.tail _ (.head _)), mem_row 1 inb_S4x256x512_S1x256x512_1_0_0 y h⟩
    · exact ⟨_, .tail _ (.tail _ (.tail _ (.head _))), mem_row 0 inb_S4x256x512_S1x256x512_0_0_0 y h⟩

theorem storedLastV_apply (y : S4x256x512.Idx) : storedLastV x0 x1 x2 x3 x4 x5 x6 x7 x8 x9 x10 x11 x12 x13 x14 x15 x16 x17 x18 x19 y = blockLastF x0 x1 x2 x3 x4 x5 x6 x7 x8 x9 x10 x11 x12 x13 x14 x15 x16 x17 x18 x19 y := by
  refine View.canon_apply_of_pieces (Val := Elt Ideal) (S := S4x256x512) (e := .f32) (blockLastF x0 x1 x2 x3 x4 x5 x6 x7 x8 x9 x10 x11 x12 x13 x14 x15 x16 x17 x18 x19) _ (fun p hp x => ?_) y ?_
  · simp only [List.mem_cons, List.not_mem_nil, or_false] at hp
    rcases hp with rfl | rfl | rfl | rfl
    · exact seqLast_piece x0 x1 x2 x3 x4 x5 x6 x7 x8 x9 x10 x11 x12 x13 x14 x15 x16 x17 x18 x19 3 (by omega) _ _ x
    · exact seqLast_piece x0 x1 x2 x3 x4 x5 x6 x7 x8 x9 x10 x11 x12 x13 x14 x15 x16 x17 x18 x19 2 (by omega) _ _ x
    · exact seqLast_piece x0 x1 x2 x3 x4 x5 x6 x7 x8 x9 x10 x11 x12 x13 x14 x15 x16 x17 x18 x19 1 (by omega) _ _ x
    · exact seqLast_piece x0 x1 x2 x3 x4 x5 x6 x7 x8 x9 x10 x11 x12 x13 x14 x15 x16 x17 x18 x19 0 (by omega) _ _ x
  · have hy : (y 0).val < 4 := (y 0).isLt
    rcases (by omega : (y 0).val = 3 ∨ (y 0).val = 2 ∨ (y 0).val = 1 ∨ (y 0).val = 0) with h | h | h | h
    · exact ⟨_, .head _, mem_row 3 inb_S4x256x512_S1x256x512_3_0_0 y h⟩
    · exact ⟨_, .tail _ (.head _), mem_row 2 inb_S4x256x512_S1x256x512_2_0_0 y h⟩
    · exact ⟨_, .tail _ (.tail _ (.head _)), mem_row 1 inb_S4x256x512_S1x256x512_1_0_0 y h⟩
    · exact ⟨_, .tail _ (.tail _ (.tail _ (.head _))), mem_row 0 inb_S4x256x512_S1x256x512_0_0_0 y h⟩

end Cert.KernelIdeal.Layer

end
-- ==== Proof.EmbedSpec.lean ====
/-
  The embedding, element by element: row `i` of a sequence is the first rate times its token's row of the table plus, on
  rows 1 to 128, the second rate times its atom's row (`embAt`). A one-hot row times the table is the token's row
  (`hot_eq`), an infinite entry times 0 being 0.
-/
module

public import Idealize.ShloMosaic.PureOps.Ideal

@[expose] public section

noncomputable section

open scoped BigOperators

namespace Cert.Spec

/-- The one-hot row of a token, times a column of the table. -/
def hot (p : BitVec 32) (e : Fin 128 → EReal) : EReal := ∑ k : Fin 128, (if p = BitVec.ofNat 32 k.val then 1 else 0) * e k

/-- The row of the table a token names. -/
def rowOf (p : BitVec 32) : Fin 128 := Fin.ofNat 128 p.toNat

/-- The one-hot product is the token's row. -/
theorem hot_eq (p : BitVec 32) (h : p.toNat < 128) (e : Fin 128 → EReal) : hot p e = e (rowOf p) := by
  have hr : (rowOf p).val = p.toNat := Nat.mod_eq_of_lt h
  have hp : p = BitVec.ofNat 32 (rowOf p).val := by rw [hr, BitVec.ofNat_toNat, BitVec.setWidth_eq]
  unfold hot
  rw [Finset.sum_eq_single (rowOf p)]
  · rw [if_pos hp, one_mul]
  · intro k _ hk
    rw [if_neg, zero_mul]
    intro e'
    apply hk
    apply Fin.ext
    rw [hr, e', BitVec.toNat_ofNat, Nat.mod_eq_of_lt (by have := k.isLt; omega)]
  · intro h'; exact absurd (Finset.mem_univ _) h'

/-- An atom's row: its token's, plus its coordinates' product, plus the bias. -/
def atomAt (a : EReal) (ct cw : Fin 3 → EReal) (cb : EReal) : EReal := (a + ∑ k : Fin 3, ct k * cw k) + cb

/-- One element of the embedding: of row `i`. -/
def embAt (i : Fin 256) (t a r0 r1 : EReal) : EReal := r0 * t + r1 * (if 1 ≤ i.val ∧ i.val ≤ 128 then a else 0)

/-- The atom on row `i` of sequence `b`, where there is one. -/
def atomIdx (b i : Fin 256) : Fin 32768 := Fin.ofNat 32768 (128 * b.val + (i.val - 1))

theorem atomIdx_val (b i : Fin 256) (h : 1 ≤ i.val ∧ i.val ≤ 128) : (atomIdx b i).val = 128 * b.val + (i.val - 1) :=
  Nat.mod_eq_of_lt (by have := b.isLt; omega)

/-- Outside rows 1 to 128 the atom's value does not matter. -/
theorem embAt_congr (i : Fin 256) (t a a' r0 r1 : EReal) (h : 1 ≤ i.val ∧ i.val ≤ 128 → a = a') : embAt i t a r0 r1 = embAt i t a' r0 r1 := by
  unfold embAt
  by_cases hi : 1 ≤ i.val ∧ i.val ≤ 128
  · rw [h hi]
  · rw [if_neg hi, if_neg hi]

/-- The embedding of the arguments. -/
def embOf (x : Fin 256 → Fin 256 → BitVec 32) (coord : Fin 32768 → Fin 3 → EReal) (tok : Fin 32768 → BitVec 32) (e : Fin 128 → Fin 512 → EReal)
    (cw : Fin 3 → Fin 512 → EReal) (cb : Fin 512 → EReal) (r0 r1 : EReal) (b i : Fin 256) (d : Fin 512) : EReal :=
  embAt i (e (rowOf (x b i)) d) (atomAt (e (rowOf (tok (atomIdx b i))) d) (coord (atomIdx b i)) (fun k => cw k d) (cb d)) r0 r1

end Cert.Spec

end
-- ==== Proof.EmbedAt.lean ====
/-
  The embedding call's block read at an index, over the extended reals: a one-hot row times the table is a sum over its
  rows (`hot`), and row `i` of a sequence is the first rate times its token's row plus, on rows 1 to 128, the second rate
  times its atom's (`embAt`).
-/
module

public import proofs.«01_k».proof.Proof.EmbedVec
public import proofs.«01_k».proof.Proof.StoresAt
public import proofs.«01_k».proof.Proof.EmbedSpec

@[expose] public section

set_option synthInstance.maxSize 4096

noncomputable section

open scoped BigOperators

namespace Cert.KernelIdeal.Layer

open Idealize.ShloMosaic Idealize.ShloMosaic.ValueIdx Idealize.SL.Sem Cert.KernelIdeal Cert.KernelIdeal.Gen Cert.Spec

/-! ## One sequence -/

theorem hot_dot (x : FVec Ideal S128x256 .f32) (w : FVec Ideal S128x512 .f32) (i : Fin 256) (d : Fin 512) :
    matmul dot_S128x256_S128x512_S256x512_0_0_1_1_n_n none x w (constant S256x512 .f32 0x00000000#32) (ix2 i d)
      = ∑ k : Fin 128, x (ix2 k i) * w (ix2 k d) :=
  dot_apply dot_S128x256_S128x512_S256x512_0_0_1_1_n_n 128 rfl rfl x w _ (fun k => ix2 k i) (fun k => ix2 k d)
    (fun c => funext fun | ⟨0, _⟩ => Fin.ext (contrEquiv1_symm_val dot_S128x256_S128x512_S256x512_0_0_1_1_n_n 128 rfl rfl c) | ⟨1, _⟩ => rfl)
    (fun c => funext fun | ⟨0, _⟩ => Fin.ext (contrEquiv1_symm_val dot_S128x256_S128x512_S256x512_0_0_1_1_n_n 128 rfl rfl c) | ⟨1, _⟩ => rfl)

theorem coord_dot (x : FVec Ideal S3x256 .f32) (w : FVec Ideal S3x512 .f32) (i : Fin 256) (d : Fin 512) :
    matmul dot_S3x256_S3x512_S256x512_0_0_1_1_n_n none x w (constant S256x512 .f32 0x00000000#32) (ix2 i d)
      = ∑ k : Fin 3, x (ix2 k i) * w (ix2 k d) :=
  dot_apply dot_S3x256_S3x512_S256x512_0_0_1_1_n_n 3 rfl rfl x w _ (fun k => ix2 k i) (fun k => ix2 k d)
    (fun c => funext fun | ⟨0, _⟩ => Fin.ext (contrEquiv1_symm_val dot_S3x256_S3x512_S256x512_0_0_1_1_n_n 3 rfl rfl c) | ⟨1, _⟩ => rfl)
    (fun c => funext fun | ⟨0, _⟩ => Fin.ext (contrEquiv1_symm_val dot_S3x256_S3x512_S256x512_0_0_1_1_n_n 3 rfl rfl c) | ⟨1, _⟩ => rfl)

/-- The one-hot matrix: 1 where the token of the column is the row's number. -/
theorem hotMat_apply (t : Vec Ideal S1x1x256 .i32) (k : Fin 128) (i : Fin 256) :
    select (cmpi .eq (broadcastTo S128x256 (shapeCast S1x256 t shapeCasts_S1x1x256_S1x256) broadcasts_S1x256_S128x256) (iota .tc S128x256 32 [0] iota_S128x256_d0_w32))
        (broadcast S128x256 (Scalar.ofBits (F := Ideal) .f32 0x3F800000#32)) (broadcast S128x256 (Scalar.ofBits (F := Ideal) .f32 0x00000000#32)) (ix2 k i)
      = if t (ix3 (0 : Fin 1) (0 : Fin 1) i) = BitVec.ofNat 32 k.val then (1 : EReal) else 0 := by
  have hb : broadcastTo S128x256 (shapeCast S1x256 t shapeCasts_S1x1x256_S1x256) broadcasts_S1x256_S128x256 (ix2 k i) = t (ix3 (0 : Fin 1) (0 : Fin 1) i) :=
    (broadcastTo_apply _ _ _ (ix2 (0 : Fin 1) i) fun c => match c with
      | ⟨0, _⟩ => rfl
      | ⟨1, _⟩ => rfl).trans (shapeCast_1ab_ab_apply t _ _ _)
  have hi : iota .tc S128x256 32 [0] iota_S128x256_d0_w32 (ix2 k i) = BitVec.ofNat 32 k.val :=
    congrArg (BitVec.ofNat 32) (by show 0 * 128 + k.val = k.val; omega)
  show Scalar.select (IntOp.cmpi .eq _ _) (Ideal.ofBits .f32 0x3F800000#32) (Ideal.ofBits .f32 0x00000000#32) = _
  rw [hb, hi, Ideal.ofBits_one_f32, Ideal.ofBits_zero_f32, WordCmp.cmpi_eq_eq, WordCmp.select_decide]

theorem pay3_apply (e : Vec Ideal S128x512 .f32) (t : Vec Ideal S1x1x256 .i32) (i : Fin 256) (d : Fin 512) :
    k0_pay3 e t (ix2 i d) = hot (t (ix3 (0 : Fin 1) (0 : Fin 1) i)) fun k => e (ix2 k d) := by
  refine (hot_dot _ _ i d).trans ?_
  exact Finset.sum_congr rfl fun k _ => congrArg (· * e (ix2 k d)) (hotMat_apply t k i)

theorem pay4_apply (e : Vec Ideal S128x512 .f32) (a : Vec Ideal S1x1x256 .i32) (ct : Vec Ideal S1x3x256 .f32) (cw : Vec Ideal S3x512 .f32) (cb : Vec Ideal S1x512 .f32)
    (i : Fin 256) (d : Fin 512) : k0_pay4 e a ct cw cb (ix2 i d)
      = atomAt (hot (a (ix3 (0 : Fin 1) (0 : Fin 1) i)) fun k => e (ix2 k d)) (fun k => ct (ix3 (0 : Fin 1) k i)) (fun k => cw (ix2 k d)) (cb (ix2 (0 : Fin 1) d)) := by
  refine congrArg₂ (· + ·) (congrArg₂ (· + ·) (pay3_apply e a i d) ((coord_dot _ _ i d).trans ?_)) (rowV_apply cb i d)
  exact Finset.sum_congr rfl fun k _ => congrArg (· * cw (ix2 k d)) (shapeCast_1ab_ab_apply ct _ _ _)

/-- The rows with an atom: 1 to 128. -/
theorem pay2_apply : ∀ i : Fin 256, k0_pay2 (ix2 i (0 : Fin 1)) = BitVec.ofBool (decide (1 ≤ i.val ∧ i.val ≤ 128)) := by decide +kernel

theorem pay5_apply (x y : FVec Ideal S256x512 .f32) (r0 r1 : EReal) (i : Fin 256) (d : Fin 512) :
    k0_pay5 (F := Ideal) k0_pay2 x y r0 r1 (ix3 (0 : Fin 1) i d) = embAt i (x (ix2 i d)) (y (ix2 i d)) r0 r1 := by
  unfold k0_pay5
  refine (shapeCast_ab_1ab_apply _ _ _ _ _).trans ?_
  refine congrArg (fun z => r0 * x (ix2 i d) + r1 * z) ?_
  have hm : broadcastTo S256x512 (shapeCast S256x1 k0_pay2 shapeCasts_S256x1_S256x1) broadcasts_S256x1_S256x512 (ix2 i d) = BitVec.ofBool (decide (1 ≤ i.val ∧ i.val ≤ 128)) := by
    rw [shapeCast_self]
    exact (broadcastTo_apply _ _ _ (ix2 i (0 : Fin 1)) fun c => match c with
      | ⟨0, _⟩ => rfl
      | ⟨1, _⟩ => rfl).trans (pay2_apply i)
  show Scalar.select (broadcastTo S256x512 (shapeCast S256x1 k0_pay2 shapeCasts_S256x1_S256x1) broadcasts_S256x1_S256x512 (ix2 i d)) (y (ix2 i d)) (Ideal.ofBits .f32 0x00000000#32) = _
  rw [hm, Ideal.ofBits_zero_f32, WordCmp.select_decide]

theorem embV_apply (t a : Vec Ideal S1x1x256 .i32) (ct : Vec Ideal S1x3x256 .f32) (e : Vec Ideal S128x512 .f32) (cw : Vec Ideal S3x512 .f32) (cb : Vec Ideal S1x512 .f32)
    (r0 r1 : EReal) (i : Fin 256) (d : Fin 512) : embV t a ct e cw cb r0 r1 (ix3 (0 : Fin 1) i d)
      = embAt i (hot (t (ix3 (0 : Fin 1) (0 : Fin 1) i)) fun k => e (ix2 k d))
          (atomAt (hot (a (ix3 (0 : Fin 1) (0 : Fin 1) i)) fun k => e (ix2 k d)) (fun k => ct (ix3 (0 : Fin 1) k i)) (fun k => cw (ix2 k d)) (cb (ix2 (0 : Fin 1) d))) r0 r1 := by
  rw [embV, pay5_apply, pay3_apply, pay4_apply]

/-! ## The block and the array -/

/-- The embedding of `n` sequences. -/
def embF {n : ℕ} (x0 x1 : (⟨3, ![n, 1, 256]⟩ : Shape).Idx → BitVec 32) (x2 : (⟨3, ![n, 3, 256]⟩ : Shape).Idx → EReal) (x3 : Vec Ideal S128x512 .f32) (x4 : Vec Ideal S3x512 .f32)
    (x5 : Vec Ideal S1x512 .f32) (x6 : Vec Ideal S2 .f32) (b : Fin n) (i : Fin 256) (d : Fin 512) : EReal :=
  embAt i (hot (x0 (ix3 b (0 : Fin 1) i)) fun k => x3 (ix2 k d))
    (atomAt (hot (x1 (ix3 b (0 : Fin 1) i)) fun k => x3 (ix2 k d)) (fun k => x2 (ix3 b k i)) (fun k => x4 (ix2 k d)) (x5 (ix2 (0 : Fin 1) d)))
    (x6 (ix1 (0 : Fin 2))) (x6 (ix1 (1 : Fin 2)))

variable (x0 x1 : Vec Ideal S4x1x256 .i32) (x2 : Vec Ideal S4x3x256 .f32) (x3 : Vec Ideal S128x512 .f32) (x4 : Vec Ideal S3x512 .f32) (x5 : Vec Ideal S1x512 .f32) (x6 : Vec Ideal S2 .f32)

theorem rate0_eq : rate0 x6 = x6 (ix1 (0 : Fin 2)) := congrArg x6 (funext fun | ⟨0, _⟩ => rfl)
theorem rate1_eq : rate1 x6 = x6 (ix1 (1 : Fin 2)) := congrArg x6 (funext fun | ⟨0, _⟩ => rfl)

/-- The rectangle of one sequence of a block. -/
theorem oneIdx {α : Type} {p q : ℕ} (x : (⟨3, ![4, p, q]⟩ : Shape).Idx → α) (b : ℕ) (hb : b < 4) (inb) (k : Fin p) (j : Fin q) :
    x ((Rect.unit (s := ⟨3, ![4, p, q]⟩) ![b, 0, 0] ![1, p, q] inb).idx (ix3 (0 : Fin 1) k j)) = x (ix3 (⟨b, hb⟩ : Fin 4) k j) :=
  congrArg x (funext fun a => Fin.ext (match a with
    | ⟨0, _⟩ => by show b + 1 * 0 = b; omega
    | ⟨1, _⟩ => by show 0 + 1 * k.val = k.val; omega
    | ⟨2, _⟩ => by show 0 + 1 * j.val = j.val; omega))

theorem embSeq_piece (b : ℕ) (hb : b < 4) (ht hc inb) (x : (Rect.unit (s := S4x256x512) ![b, 0, 0] S1x256x512.size inb).shape.Idx) :
    embSeq x0 x1 x2 x3 x4 x5 x6 b ht hc x
      = (fun y : S4x256x512.Idx => embF x0 x1 x2 x3 x4 x5 x6 (y 0) (y 1) (y 2)) ((Rect.unit (s := S4x256x512) ![b, 0, 0] S1x256x512.size inb).emb x) := by
  obtain ⟨u, i, d, rfl⟩ : ∃ (u : Fin 1) (i : Fin 256) (d : Fin 512), x = ix3 u i d := ⟨_, _, _, eq_ix3 x⟩
  obtain rfl : u = 0 := Subsingleton.elim _ _
  rw [embRow b hb]
  refine (embV_apply _ _ _ _ _ _ _ _ i d).trans ?_
  rw [rate0_eq, rate1_eq, View.ld_unit_zero (S := S128x512) off2 _ x3, View.ld_unit_zero (S := S3x512) off2 _ x4, View.ld_unit_zero (S := S1x512) off2 _ x5]
  exact congrArg₂ (fun t a => embAt i t a (x6 (ix1 (0 : Fin 2))) (x6 (ix1 (1 : Fin 2))))
    (congrArg (fun w => hot w fun k => x3 (ix2 k d)) (oneIdx x0 b hb _ _ _))
    (congrArg₂ (fun w ct => atomAt (hot w fun k => x3 (ix2 k d)) ct (fun k => x4 (ix2 k d)) (x5 (ix2 (0 : Fin 1) d))) (oneIdx x1 b hb _ _ _) (funext fun k => oneIdx x2 b hb _ _ _))

theorem storedE_apply (y : S4x256x512.Idx) : storedE x0 x1 x2 x3 x4 x5 x6 y = embF x0 x1 x2 x3 x4 x5 x6 (y 0) (y 1) (y 2) := by
  refine View.canon_apply_of_pieces (Val := Elt Ideal) (S := S4x256x512) (e := .f32) (fun y => embF x0 x1 x2 x3 x4 x5 x6 (y 0) (y 1) (y 2)) _ (fun p hp x => ?_) y ?_
  · simp only [List.mem_cons, List.not_mem_nil, or_false] at hp
    rcases hp with rfl | rfl | rfl | rfl
    · exact embSeq_piece x0 x1 x2 x3 x4 x5 x6 3 (by omega) _ _ inb_S4x256x512_S1x256x512_3_0_0 x
    · exact embSeq_piece x0 x1 x2 x3 x4 x5 x6 2 (by omega) _ _ inb_S4x256x512_S1x256x512_2_0_0 x
    · exact embSeq_piece x0 x1 x2 x3 x4 x5 x6 1 (by omega) _ _ inb_S4x256x512_S1x256x512_1_0_0 x
    · exact embSeq_piece x0 x1 x2 x3 x4 x5 x6 0 (by omega) _ _ inb_S4x256x512_S1x256x512_0_0_0 x
  · have hy : (y 0).val < 4 := (y 0).isLt
    rcases (by omega : (y 0).val = 3 ∨ (y 0).val = 2 ∨ (y 0).val = 1 ∨ (y 0).val = 0) with h | h | h | h
    · exact ⟨_, .head _, mem_row 3 inb_S4x256x512_S1x256x512_3_0_0 y h⟩
    · exact ⟨_, .tail _ (.head _), mem_row 2 inb_S4x256x512_S1x256x512_2_0_0 y h⟩
    · exact ⟨_, .tail _ (.tail _ (.head _)), mem_row 1 inb_S4x256x512_S1x256x512_1_0_0 y h⟩
    · exact ⟨_, .tail _ (.tail _ (.tail _ (.head _))), mem_row 0 inb_S4x256x512_S1x256x512_0_0_0 y h⟩

end Cert.KernelIdeal.Layer

end
-- ==== Proof.Arrays.lean ====
/-
  What the array a layer call writes holds after it: at sequence `b`, row `i` and column `d` the layer of the call's
  parameters on sequence `b` of the array it reads (`arrF`), and for the last call the final layer norm of that.
  Each of the 64 points writes four whole sequences, and they cover the array.
-/
module

public import proofs.«01_k».proof.Proof.StoresAt
public import proofs.«01_k».proof.Proof.Gen.KernelIdeal.Points

@[expose] public section

set_option synthInstance.maxSize 4096

noncomputable section

namespace Cert.KernelIdeal.Layer

open Idealize.ShloMosaic Idealize.ShloMosaic.TcCoe Idealize.ShloMosaic.ValueIdx Idealize.SL.Sem Cert.KernelIdeal Cert.KernelIdeal.Gen Cert.Spec
open Idealize.ShloMosaic.Pipeline (Dat Cfg Window)

/-! ## The function -/

section Function

variable (T : Vec Ideal S256x1x256 .i32) (X : Vec Ideal S256x256x512 .f32) (X2 X3 : Vec Ideal S1x512 .f32) (X4 : Vec Ideal S512x512 .bf16)
  (X5 : Vec Ideal S1x512 .f32) (X6 : Vec Ideal S512x512 .bf16) (X7 : Vec Ideal S1x512 .f32) (X8 : Vec Ideal S512x512 .bf16)
  (X9 : Vec Ideal S1x512 .f32) (X10 : Vec Ideal S512x512 .bf16) (X11 X12 X13 : Vec Ideal S1x512 .f32) (X14 : Vec Ideal S512x2048 .bf16)
  (X15 : Vec Ideal S1x2048 .f32) (X16 : Vec Ideal S2048x512 .bf16) (X17 X18 X19 : Vec Ideal S1x512 .f32)

/-- The array after a layer call, of the tokens, the sequences and the parameters. -/
def arrF (y : S256x256x512.Idx) : EReal :=
  layerK (par X2 X3 X4 X5 X6 X7 X8 X9 X10 X11 X12 X13 X14 X15 X16 X17) (fun j => T (ix3 (y 0) (0 : Fin 1) j) = 0#32) (fun i d => X (ix3 (y 0) i d)) (y 1) (y 2)

/-- The same after the last one: with the final layer norm. -/
def arrLastF (y : S256x256x512.Idx) : EReal :=
  lnK (fun d => X18 (ix2 (0 : Fin 1) d)) (fun d => X19 (ix2 (0 : Fin 1) d)) (fun d => arrF T X X2 X3 X4 X5 X6 X7 X8 X9 X10 X11 X12 X13 X14 X15 X16 X17 (ix3 (y 0) (y 1) d)) (y 2)

end Function

variable {T : Vec Ideal S256x1x256 .i32} {X : Vec Ideal S256x256x512 .f32} {X2 X3 : Vec Ideal S1x512 .f32} {X4 : Vec Ideal S512x512 .bf16}
  {X5 : Vec Ideal S1x512 .f32} {X6 : Vec Ideal S512x512 .bf16} {X7 : Vec Ideal S1x512 .f32} {X8 : Vec Ideal S512x512 .bf16}
  {X9 : Vec Ideal S1x512 .f32} {X10 : Vec Ideal S512x512 .bf16} {X11 X12 X13 : Vec Ideal S1x512 .f32} {X14 : Vec Ideal S512x2048 .bf16}
  {X15 : Vec Ideal S1x2048 .f32} {X16 : Vec Ideal S2048x512 .bf16} {X17 X18 X19 : Vec Ideal S1x512 .f32}
variable {x0 : Vec Ideal S4x1x256 .i32} {x1 : Vec Ideal S4x256x512 .f32} {x2 x3 : Vec Ideal S1x512 .f32} {x4 : Vec Ideal S512x512 .bf16}
  {x5 : Vec Ideal S1x512 .f32} {x6 : Vec Ideal S512x512 .bf16} {x7 : Vec Ideal S1x512 .f32} {x8 : Vec Ideal S512x512 .bf16}
  {x9 : Vec Ideal S1x512 .f32} {x10 : Vec Ideal S512x512 .bf16} {x11 x12 x13 : Vec Ideal S1x512 .f32} {x14 : Vec Ideal S512x2048 .bf16}
  {x15 : Vec Ideal S1x2048 .f32} {x16 : Vec Ideal S2048x512 .bf16} {x17 x18 x19 : Vec Ideal S1x512 .f32}

/-- Sequence `b` of block `t`. -/
def seqOf (t : ℕ) (ht : t < 64) (b : Fin 4) : Fin 256 := ⟨4 * t + b.val, by omega⟩

/-- A block's function is the array's at the block's place. -/
theorem blockF_eq {t : ℕ} {ht : t < 64} (h0 : ∀ (b : Fin 4) (j : Fin 256), x0 (ix3 b (0 : Fin 1) j) = T (ix3 (seqOf t ht b) (0 : Fin 1) j))
    (h1 : ∀ (b : Fin 4) (i : Fin 256) (d : Fin 512), x1 (ix3 b i d) = X (ix3 (seqOf t ht b) i d))
    (h2 : x2 = X2) (h3 : x3 = X3) (h4 : x4 = X4) (h5 : x5 = X5) (h6 : x6 = X6) (h7 : x7 = X7) (h8 : x8 = X8) (h9 : x9 = X9)
    (h10 : x10 = X10) (h11 : x11 = X11) (h12 : x12 = X12) (h13 : x13 = X13) (h14 : x14 = X14) (h15 : x15 = X15) (h16 : x16 = X16) (h17 : x17 = X17)
    (b : Fin 4) (i : Fin 256) (d : Fin 512) : blockF x0 x1 x2 x3 x4 x5 x6 x7 x8 x9 x10 x11 x12 x13 x14 x15 x16 x17 (ix3 b i d) = arrF T X X2 X3 X4 X5 X6 X7 X8 X9 X10 X11 X12 X13 X14 X15 X16 X17 (ix3 (seqOf t ht b) i d) := by
  subst h2 h3 h4 h5 h6 h7 h8 h9 h10 h11 h12 h13 h14 h15 h16 h17
  rw [blockF, arrF]
  simp only [h1]
  exact congrFun (congrFun (layerK_congr _ (fun j => by rw [h0]) _) i) d

theorem blockLastF_eq {t : ℕ} {ht : t < 64} (h : ∀ (b : Fin 4) (i : Fin 256) (d : Fin 512), blockF x0 x1 x2 x3 x4 x5 x6 x7 x8 x9 x10 x11 x12 x13 x14 x15 x16 x17 (ix3 b i d) = arrF T X X2 X3 X4 X5 X6 X7 X8 X9 X10 X11 X12 X13 X14 X15 X16 X17 (ix3 (seqOf t ht b) i d))
    (h18 : x18 = X18) (h19 : x19 = X19) (b : Fin 4) (i : Fin 256) (d : Fin 512) :
    blockLastF x0 x1 x2 x3 x4 x5 x6 x7 x8 x9 x10 x11 x12 x13 x14 x15 x16 x17 x18 x19 (ix3 b i d) = arrLastF T X X2 X3 X4 X5 X6 X7 X8 X9 X10 X11 X12 X13 X14 X15 X16 X17 X18 X19 (ix3 (seqOf t ht b) i d) := by
  subst h18 h19
  rw [blockLastF, arrLastF]
  exact congrFun (congrArg _ (funext fun d => h b i d)) d

/-- A whole reference read through the block at index zero is its contents. -/
theorem readWhole (r : Ref sig .tc) {idx : Fin r.ty.shape.rank → ℕ} (hz : ∀ a, idx a = 0)
    (h : ∀ a, idx a * r.ty.shape.size a + r.ty.shape.size a ≤ r.ty.shape.size a) (f : r.ty.Contents (Elt Ideal)) :
    ((Memref.whole r).access (Rect.unit (fun a => idx a * r.ty.shape.size a) r.ty.shape.size h)).read (Elt Ideal) f = f :=
  Memref.read_access_unit_zero (Elt Ideal) r (funext fun a => by rw [hz a, Nat.zero_mul]) h f

end Cert.KernelIdeal.Layer

end
-- ==== Proof.Call0.lean ====
/-
  The embedding call: the array it writes, after it (`arr0`). Each of the 64 points writes four whole sequences, and they
  cover the array.
-/
module

public import proofs.«01_k».proof.Proof.EmbedAt
public import proofs.«01_k».proof.Proof.Arrays

@[expose] public section

set_option synthInstance.maxSize 4096

noncomputable section

namespace Cert.KernelIdeal.Layer

open Idealize.ShloMosaic Idealize.ShloMosaic.TcCoe Idealize.ShloMosaic.ValueIdx Idealize.SL.Sem Cert.KernelIdeal Cert.KernelIdeal.Gen Cert.Spec
open Idealize.ShloMosaic.Pipeline (Dat Cfg Window)

variable (V : (c : Dev nD) → (b : Ref sig .tc) → Buf (Elt Ideal) ((c : Thread nD τ).loc b)) (c : Dev nD)

/-- The parameters' windows are their whole arrays at every point; the other four move four sequences a point. -/
theorem z0 : ∀ (w : Fin cfg0.W), 3 ≤ w.val → w.val < 7 → ∀ (t : Fin cfg0.N) a, (cfg0.win w).index t a = 0 := by
  intro w
  fin_cases w <;> first | (intro h; exact absurd h (by decide)) | (intro _ h; exact absurd h (by decide)) | (intro _ _; decide +kernel)

theorem i0 : ∀ (t : Fin cfg0.N), (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_7.index t 0 = t.val ∧ win0_7.index t 1 = 0 ∧ win0_7.index t 2 = 0) := by decide +kernel

theorem lt0 (t : Fin cfg0.N) : t.val < 64 := lt_of_lt_of_eq t.isLt N_0

theorem tok0 (t : Fin cfg0.N) (b : Fin 4) (j : Fin 256) :
    iblk0 V c 0 t (ix3 b (0 : Fin 1) j) = V c main_v1 (ix3 (seqOf t.val (lt0 t) b) (0 : Fin 1) j) := by
  refine congrArg (V c main_v1) (funext fun a => Fin.ext ?_)
  obtain ⟨⟨e0, e1, e2⟩, -, -, -⟩ := i0 t
  match a with
  | ⟨0, _⟩ => show win0_0.index t 0 * 4 + 1 * b.val = 4 * t.val + b.val; rw [e0]; omega
  | ⟨1, _⟩ => show win0_0.index t 1 * 1 + 1 * 0 = 0; rw [e1]
  | ⟨2, _⟩ => show win0_0.index t 2 * 256 + 1 * j.val = j.val; rw [e2]; omega

theorem atom0 (t : Fin cfg0.N) (b : Fin 4) (j : Fin 256) :
    iblk0 V c 1 t (ix3 b (0 : Fin 1) j) = V c main_v4 (ix3 (seqOf t.val (lt0 t) b) (0 : Fin 1) j) := by
  refine congrArg (V c main_v4) (funext fun a => Fin.ext ?_)
  obtain ⟨-, ⟨e0, e1, e2⟩, -, -⟩ := i0 t
  match a with
  | ⟨0, _⟩ => show win0_1.index t 0 * 4 + 1 * b.val = 4 * t.val + b.val; rw [e0]; omega
  | ⟨1, _⟩ => show win0_1.index t 1 * 1 + 1 * 0 = 0; rw [e1]
  | ⟨2, _⟩ => show win0_1.index t 2 * 256 + 1 * j.val = j.val; rw [e2]; omega

theorem coord0 (t : Fin cfg0.N) (b : Fin 4) (k : Fin 3) (j : Fin 256) :
    iblk0 V c 2 t (ix3 b k j) = V c main_v7 (ix3 (seqOf t.val (lt0 t) b) k j) := by
  refine congrArg (V c main_v7) (funext fun a => Fin.ext ?_)
  obtain ⟨-, -, ⟨e0, e1, e2⟩, -⟩ := i0 t
  match a with
  | ⟨0, _⟩ => show win0_2.index t 0 * 4 + 1 * b.val = 4 * t.val + b.val; rw [e0]; omega
  | ⟨1, _⟩ => show win0_2.index t 1 * 3 + 1 * k.val = k.val; rw [e1]; omega
  | ⟨2, _⟩ => show win0_2.index t 2 * 256 + 1 * j.val = j.val; rw [e2]; omega

theorem emb0 (t : Fin cfg0.N) (b : Fin 4) (i : Fin 256) (d : Fin 512) :
    ((cfg0.win 7).blk t).view.emb (ix3 b i d) = ix3 (seqOf t.val (lt0 t) b) i d := by
  refine funext fun a => Fin.ext ?_
  obtain ⟨-, -, -, e0, e1, e2⟩ := i0 t
  match a with
  | ⟨0, _⟩ => show win0_7.index t 0 * 4 + 1 * b.val = 4 * t.val + b.val; rw [e0]; omega
  | ⟨1, _⟩ => show win0_7.index t 1 * 256 + 1 * i.val = i.val; rw [e1]; omega
  | ⟨2, _⟩ => show win0_7.index t 2 * 512 + 1 * d.val = d.val; rw [e2]; omega

/-- Every element of the array is in the block of its own four sequences. -/
theorem cover0 (y : S256x256x512.Idx) : ∃ t : Fin cfg0.N, (cfg0.win 7).flush t = true ∧ y ∈ ((cfg0.win 7).blk t).view.set := by
  have h0 : (y 0).val < 256 := (y 0).isLt
  have hN : cfg0.N = 64 := N_0
  have ht : (y 0).val / 4 < cfg0.N := by omega
  refine ⟨⟨(y 0).val / 4, ht⟩, flush0_7 _, ?_⟩
  have e : y = ((cfg0.win 7).blk ⟨(y 0).val / 4, ht⟩).view.emb (ix3 (⟨(y 0).val % 4, by omega⟩ : Fin 4) (y 1) (y 2)) := by
    refine Eq.trans ?_ (emb0 ⟨(y 0).val / 4, ht⟩ _ _ _).symm
    refine funext fun a => Fin.ext ?_
    match a with
    | ⟨0, _⟩ => show (y 0).val = 4 * ((y 0).val / 4) + (y 0).val % 4; omega
    | ⟨1, _⟩ => rfl
    | ⟨2, _⟩ => rfl
  exact Eq.mpr (congrArg (· ∈ ((cfg0.win 7).blk ⟨(y 0).val / 4, ht⟩).view.set) e) (View.emb_mem_set _ _)

/-- The embedding of the arrays the call reads. -/
def embArr (y : S256x256x512.Idx) : EReal :=
  embF (n := 256) (V c main_v1) (V c main_v4) (V c main_v7) (V c main_arg5) (V c main_arg6) (V c main_v9) (V c main_v8) (y 0) (y 1) (y 2)

/-- The array the embedding call writes, after it. -/
theorem arr0 : (dat0 V c).arrAt 7 cfg0.N = embArr V c := by
  refine Dat.arrAt_eq_of_cover (dat0 V c) 7 _ (fun t _ => ?_) cover0
  show (cfg0.win 7).cut (grid0.coords t) ((dat0 V c).after 7 t) = _
  rw [after0_7, outsAt0, out0_eq]
  funext y
  obtain ⟨b, i, d, rfl⟩ : ∃ (b : Fin 4) (i : Fin 256) (d : Fin 512), y = ix3 b i d := ⟨_, _, _, eq_ix3 y⟩
  refine Eq.trans ?_ (congrArg (embArr V c) (emb0 t b i d)).symm
  refine (storedE_apply _ _ _ _ _ _ _ _).trans ?_
  have e3 : iblk0 V c 3 t = V c main_arg5 := readWhole main_arg5 (z0 3 (by decide) (by decide) t) _ _
  have e4 : iblk0 V c 4 t = V c main_arg6 := readWhole main_arg6 (z0 4 (by decide) (by decide) t) _ _
  have e5 : iblk0 V c 5 t = V c main_v9 := readWhole main_v9 (z0 5 (by decide) (by decide) t) _ _
  have e6 : iblk0 V c 6 t = V c main_v8 := readWhole main_v8 (z0 6 (by decide) (by decide) t) _ _
  show embF (iblk0 V c 0 t) (iblk0 V c 1 t) (iblk0 V c 2 t) (iblk0 V c 3 t) (iblk0 V c 4 t) (iblk0 V c 5 t) (iblk0 V c 6 t) b i d = _
  rw [e3, e4, e5, e6]
  unfold embF embArr embF
  rw [tok0, atom0]
  simp only [coord0]

end Cert.KernelIdeal.Layer

end
-- ==== Proof.Params.lean ====
/-
  A layer's parameters: `parS … j` is layer `j`'s slice of the stacked arguments, and `hostK` says that the operations
  before layer call K leave exactly those slices in the call's windows.
-/
module

public import proofs.«01_k».proof.Proof.LayerAt
public import proofs.«01_k».proof.Proof.Gen.KernelIdeal.Frame.Fold0
public import Idealize.ShloMosaic.Lib.StableHlo.RunRead

@[expose] public section

set_option synthInstance.maxSize 4096

noncomputable section

namespace Cert.KernelIdeal.Layer

open Idealize.ShloMosaic Idealize.ShloMosaic.TcCoe Idealize.ShloMosaic.ValueIdx Idealize.SL.Sem Cert.KernelIdeal Cert.KernelIdeal.Gen Cert.Spec

/-- Layer `j` of the stacked parameters. -/
def parS (A10 A11 : Vec Ideal S6x512 .f32) (A12 : Vec Ideal S6x512x512 .f32) (A13 : Vec Ideal S6x512 .f32) (A14 : Vec Ideal S6x512x512 .f32)
    (A15 : Vec Ideal S6x512 .f32) (A16 : Vec Ideal S6x512x512 .f32) (A17 : Vec Ideal S6x512 .f32) (A18 : Vec Ideal S6x512x512 .f32)
    (A19 A20 A21 : Vec Ideal S6x512 .f32) (A22 : Vec Ideal S6x512x2048 .f32) (A23 : Vec Ideal S6x2048 .f32)
    (A24 : Vec Ideal S6x2048x512 .f32) (A25 : Vec Ideal S6x512 .f32) (j : Fin 6) : Par where
  g1 d := A10 (ix2 j d)
  b1 d := A11 (ix2 j d)
  wq k d := A12 (ix3 j k d)
  bq d := A13 (ix2 j d)
  wk k d := A14 (ix3 j k d)
  bk d := A15 (ix2 j d)
  wv k d := A16 (ix3 j k d)
  bv d := A17 (ix2 j d)
  wo k d := A18 (ix3 j k d)
  bo d := A19 (ix2 j d)
  g2 d := A20 (ix2 j d)
  b2 d := A21 (ix2 j d)
  u1 k f := A22 (ix3 j k f)
  c1 f := A23 (ix2 j f)
  u2 f d := A24 (ix3 j f d)
  c2 d := A25 (ix2 j d)

/-- A row of a stack, cut out and cast to a vector and back to a row, at a column. -/
theorem stackRow_apply {n : ℕ} (j : Fin 6) (x : (⟨2, ![6, n]⟩ : Shape).Idx → EReal) (h : (⟨2, ![6, n]⟩ : Shape).Slices ![j.val, 0] ⟨2, ![1, n]⟩)
    (h1 : (⟨2, ![1, n]⟩ : Shape).ShapeCasts ⟨1, ![n]⟩) (h2 : (⟨1, ![n]⟩ : Shape).ShapeCasts ⟨2, ![1, n]⟩) (d : Fin n) :
    shapeCast ⟨2, ![1, n]⟩ (shapeCast ⟨1, ![n]⟩ (extractStridedSlice ⟨2, ![1, n]⟩ ![j.val, 0] x h) h1) h2 (ix2 (0 : Fin 1) d) = x (ix2 j d) := by
  rw [shapeCast_apply _ _ (ix2 (0 : Fin 1) d) (ix1 d)
      (by rw [Shape.rowMajor_val_one, Shape.rowMajor_val_two]; show d.val = 0 * n + d.val; omega),
    shapeCast_apply _ _ (ix1 d) (ix2 (0 : Fin 1) d)
      (by rw [Shape.rowMajor_val_one, Shape.rowMajor_val_two]; show 0 * n + d.val = d.val; omega)]
  refine extractStridedSlice_apply _ _ _ _ _ fun a => ?_
  match a with
  | ⟨0, _⟩ => show j.val = j.val + 0; omega
  | ⟨1, _⟩ => show d.val = 0 + d.val; omega

/-- A matrix of a stack, cut out and cast to a matrix, at an index. -/
theorem stackMat_apply {n k : ℕ} (j : Fin 6) (x : (⟨3, ![6, n, k]⟩ : Shape).Idx → EReal)
    (h : (⟨3, ![6, n, k]⟩ : Shape).Slices ![j.val, 0, 0] ⟨3, ![1, n, k]⟩)
    (h1 : (⟨3, ![1, n, k]⟩ : Shape).ShapeCasts ⟨2, ![n, k]⟩) (i : Fin n) (d : Fin k) :
    shapeCast ⟨2, ![n, k]⟩ (extractStridedSlice ⟨3, ![1, n, k]⟩ ![j.val, 0, 0] x h) h1 (ix2 i d) = x (ix3 j i d) := by
  rw [shapeCast_apply _ _ (ix2 i d) (ix3 (0 : Fin 1) i d)
      (by rw [Shape.rowMajor_val_three, Shape.rowMajor_val_two]; show (0 * n + i.val) * k + d.val = i.val * k + d.val; rw [Nat.zero_mul, Nat.zero_add])]
  refine extractStridedSlice_apply _ _ _ _ _ fun a => ?_
  match a with
  | ⟨0, _⟩ => show j.val = j.val + 0; omega
  | ⟨1, _⟩ => show i.val = 0 + i.val; omega
  | ⟨2, _⟩ => show d.val = 0 + d.val; omega

variable (V : Valuation τ sig (Elt Ideal))

/-- Layer `j` of the stacks as contents `V` hold them (the matrices' stacks in their cast buffers). -/
def parOf (j : Fin 6) : Par :=
  parS (V main_arg10) (V main_arg11) (V main_v11) (V main_arg13) (V main_v12) (V main_arg15) (V main_v13) (V main_arg17) (V main_v14)
    (V main_arg19) (V main_arg20) (V main_arg21) (V main_v15) (V main_arg23) (V main_v16) (V main_arg25) j

/-- What the operations before layer call 1 leave in its parameters' windows. -/
theorem host1 : par (StableHlo.after hostOps1 V main_v21) (StableHlo.after hostOps1 V main_v24) (StableHlo.after hostOps1 V main_v26)
    (StableHlo.after hostOps1 V main_v29) (StableHlo.after hostOps1 V main_v31) (StableHlo.after hostOps1 V main_v34) (StableHlo.after hostOps1 V main_v36)
    (StableHlo.after hostOps1 V main_v39) (StableHlo.after hostOps1 V main_v41) (StableHlo.after hostOps1 V main_v44) (StableHlo.after hostOps1 V main_v47)
    (StableHlo.after hostOps1 V main_v50) (StableHlo.after hostOps1 V main_v52) (StableHlo.after hostOps1 V main_v55) (StableHlo.after hostOps1 V main_v57)
    (StableHlo.after hostOps1 V main_v60)
    = parS (V main_arg10) (V main_arg11) (V main_arg12) (V main_arg13) (V main_arg14) (V main_arg15) (V main_arg16) (V main_arg17) (V main_arg18)
      (V main_arg19) (V main_arg20) (V main_arg21) (V main_arg22) (V main_arg23) (V main_arg24) (V main_arg25) 0 := by
  after_reads_simp
  unfold par parS
  congr 1 <;> first
    | exact funext fun d => stackRow_apply 0 _ _ _ _ d
    | exact funext fun i => funext fun d => stackMat_apply 0 _ _ _ i d

/-- What the operations before layer call 2 leave in its parameters' windows. -/
theorem host2 : par (StableHlo.after hostOps2 V main_v64) (StableHlo.after hostOps2 V main_v67) (StableHlo.after hostOps2 V main_v69)
    (StableHlo.after hostOps2 V main_v72) (StableHlo.after hostOps2 V main_v74) (StableHlo.after hostOps2 V main_v77) (StableHlo.after hostOps2 V main_v79)
    (StableHlo.after hostOps2 V main_v82) (StableHlo.after hostOps2 V main_v84) (StableHlo.after hostOps2 V main_v87) (StableHlo.after hostOps2 V main_v90)
    (StableHlo.after hostOps2 V main_v93) (StableHlo.after hostOps2 V main_v95) (StableHlo.after hostOps2 V main_v98) (StableHlo.after hostOps2 V main_v100)
    (StableHlo.after hostOps2 V main_v103)
    = parOf V 1 := by
  after_reads_simp
  unfold par parOf parS
  congr 1 <;> first
    | exact funext fun d => stackRow_apply 1 _ _ _ _ d
    | exact funext fun i => funext fun d => stackMat_apply 1 _ _ _ i d

/-- What the operations before layer call 3 leave in its parameters' windows. -/
theorem host3 : par (StableHlo.after hostOps3 V main_v107) (StableHlo.after hostOps3 V main_v110) (StableHlo.after hostOps3 V main_v112)
    (StableHlo.after hostOps3 V main_v115) (StableHlo.after hostOps3 V main_v117) (StableHlo.after hostOps3 V main_v120) (StableHlo.after hostOps3 V main_v122)
    (StableHlo.after hostOps3 V main_v125) (StableHlo.after hostOps3 V main_v127) (StableHlo.after hostOps3 V main_v130) (StableHlo.after hostOps3 V main_v133)
    (StableHlo.after hostOps3 V main_v136) (StableHlo.after hostOps3 V main_v138) (StableHlo.after hostOps3 V main_v141) (StableHlo.after hostOps3 V main_v143)
    (StableHlo.after hostOps3 V main_v146)
    = parOf V 2 := by
  after_reads_simp
  unfold par parOf parS
  congr 1 <;> first
    | exact funext fun d => stackRow_apply 2 _ _ _ _ d
    | exact funext fun i => funext fun d => stackMat_apply 2 _ _ _ i d

/-- What the operations before layer call 4 leave in its parameters' windows. -/
theorem host4 : par (StableHlo.after hostOps4 V main_v150) (StableHlo.after hostOps4 V main_v153) (StableHlo.after hostOps4 V main_v155)
    (StableHlo.after hostOps4 V main_v158) (StableHlo.after hostOps4 V main_v160) (StableHlo.after hostOps4 V main_v163) (StableHlo.after hostOps4 V main_v165)
    (StableHlo.after hostOps4 V main_v168) (StableHlo.after hostOps4 V main_v170) (StableHlo.after hostOps4 V main_v173) (StableHlo.after hostOps4 V main_v176)
    (StableHlo.after hostOps4 V main_v179) (StableHlo.after hostOps4 V main_v181) (StableHlo.after hostOps4 V main_v184) (StableHlo.after hostOps4 V main_v186)
    (StableHlo.after hostOps4 V main_v189)
    = parOf V 3 := by
  after_reads_simp
  unfold par parOf parS
  congr 1 <;> first
    | exact funext fun d => stackRow_apply 3 _ _ _ _ d
    | exact funext fun i => funext fun d => stackMat_apply 3 _ _ _ i d

/-- What the operations before layer call 5 leave in its parameters' windows. -/
theorem host5 : par (StableHlo.after hostOps5 V main_v193) (StableHlo.after hostOps5 V main_v196) (StableHlo.after hostOps5 V main_v198)
    (StableHlo.after hostOps5 V main_v201) (StableHlo.after hostOps5 V main_v203) (StableHlo.after hostOps5 V main_v206) (StableHlo.after hostOps5 V main_v208)
    (StableHlo.after hostOps5 V main_v211) (StableHlo.after hostOps5 V main_v213) (StableHlo.after hostOps5 V main_v216) (StableHlo.after hostOps5 V main_v219)
    (StableHlo.after hostOps5 V main_v222) (StableHlo.after hostOps5 V main_v224) (StableHlo.after hostOps5 V main_v227) (StableHlo.after hostOps5 V main_v229)
    (StableHlo.after hostOps5 V main_v232)
    = parOf V 4 := by
  after_reads_simp
  unfold par parOf parS
  congr 1 <;> first
    | exact funext fun d => stackRow_apply 4 _ _ _ _ d
    | exact funext fun i => funext fun d => stackMat_apply 4 _ _ _ i d

/-- What the operations before layer call 6 leave in its parameters' windows. -/
theorem host6 : par (StableHlo.after hostOps6 V main_v236) (StableHlo.after hostOps6 V main_v239) (StableHlo.after hostOps6 V main_v241)
    (StableHlo.after hostOps6 V main_v244) (StableHlo.after hostOps6 V main_v246) (StableHlo.after hostOps6 V main_v249) (StableHlo.after hostOps6 V main_v251)
    (StableHlo.after hostOps6 V main_v254) (StableHlo.after hostOps6 V main_v256) (StableHlo.after hostOps6 V main_v259) (StableHlo.after hostOps6 V main_v262)
    (StableHlo.after hostOps6 V main_v265) (StableHlo.after hostOps6 V main_v267) (StableHlo.after hostOps6 V main_v270) (StableHlo.after hostOps6 V main_v272)
    (StableHlo.after hostOps6 V main_v275)
    = parOf V 5 := by
  after_reads_simp
  unfold par parOf parS
  congr 1 <;> first
    | exact funext fun d => stackRow_apply 5 _ _ _ _ d
    | exact funext fun i => funext fun d => stackMat_apply 5 _ _ _ i d

/-- What the operations before the first layer call leave in the matrices' stacks: the casts are the identity. -/
theorem host1_parOf (j : Fin 6) : parOf (StableHlo.after hostOps1 V) j
    = parS (V main_arg10) (V main_arg11) (V main_arg12) (V main_arg13) (V main_arg14) (V main_arg15) (V main_arg16) (V main_arg17) (V main_arg18)
      (V main_arg19) (V main_arg20) (V main_arg21) (V main_arg22) (V main_arg23) (V main_arg24) (V main_arg25) j := by
  unfold parOf
  after_reads_simp
  rfl

end Cert.KernelIdeal.Layer
-- ==== Proof.Call1.lean ====
/-
  Layer call 1: the array it writes, after it (`arr1`). Each of the 64 points writes four whole sequences, and they cover
  the array.
-/
module

public import proofs.«01_k».proof.Proof.Arrays

@[expose] public section

set_option synthInstance.maxSize 4096

noncomputable section

namespace Cert.KernelIdeal.Layer

open Idealize.ShloMosaic Idealize.ShloMosaic.TcCoe Idealize.ShloMosaic.ValueIdx Idealize.SL.Sem Cert.KernelIdeal Cert.KernelIdeal.Gen Cert.Spec
open Idealize.ShloMosaic.Pipeline (Dat Cfg Window)

variable (V : (c : Dev nD) → (b : Ref sig .tc) → Buf (Elt Ideal) ((c : Thread nD τ).loc b)) (c : Dev nD)

/-- The parameters' windows are their whole arrays at every point; the other three move four sequences a point. -/
theorem z1 : ∀ (w : Fin cfg1.W), 2 ≤ w.val → w.val < 20 → ∀ (t : Fin cfg1.N) a, (cfg1.win w).index t a = 0 := by
  intro w
  fin_cases w <;> first | (intro h; exact absurd h (by decide)) | (intro _ h; exact absurd h (by decide)) | (intro _ _; decide +kernel)

theorem i1 : ∀ (t : Fin cfg1.N), (win1_0.index t 0 = t.val ∧ win1_0.index t 1 = 0 ∧ win1_0.index t 2 = 0)
    ∧ (win1_1.index t 0 = t.val ∧ win1_1.index t 1 = 0 ∧ win1_1.index t 2 = 0)
    ∧ (win1_20.index t 0 = t.val ∧ win1_20.index t 1 = 0 ∧ win1_20.index t 2 = 0) := by decide +kernel

theorem lt1 (t : Fin cfg1.N) : t.val < 64 := lt_of_lt_of_eq t.isLt N_1

theorem tok1 (t : Fin cfg1.N) (b : Fin 4) (j : Fin 256) :
    iblk1 V c 0 t (ix3 b (0 : Fin 1) j) = V c main_v1 (ix3 (seqOf t.val (lt1 t) b) (0 : Fin 1) j) := by
  refine congrArg (V c main_v1) (funext fun a => Fin.ext ?_)
  obtain ⟨⟨e0, e1, e2⟩, -, -⟩ := i1 t
  match a with
  | ⟨0, _⟩ => show win1_0.index t 0 * 4 + 1 * b.val = 4 * t.val + b.val; rw [e0]; omega
  | ⟨1, _⟩ => show win1_0.index t 1 * 1 + 1 * 0 = 0; rw [e1]
  | ⟨2, _⟩ => show win1_0.index t 2 * 256 + 1 * j.val = j.val; rw [e2]; omega

theorem row1 (t : Fin cfg1.N) (b : Fin 4) (i : Fin 256) (d : Fin 512) :
    iblk1 V c 1 t (ix3 b i d) = V c main_v10 (ix3 (seqOf t.val (lt1 t) b) i d) := by
  refine congrArg (V c main_v10) (funext fun a => Fin.ext ?_)
  obtain ⟨-, ⟨e0, e1, e2⟩, -⟩ := i1 t
  match a with
  | ⟨0, _⟩ => show win1_1.index t 0 * 4 + 1 * b.val = 4 * t.val + b.val; rw [e0]; omega
  | ⟨1, _⟩ => show win1_1.index t 1 * 256 + 1 * i.val = i.val; rw [e1]; omega
  | ⟨2, _⟩ => show win1_1.index t 2 * 512 + 1 * d.val = d.val; rw [e2]; omega

theorem emb1 (t : Fin cfg1.N) (b : Fin 4) (i : Fin 256) (d : Fin 512) :
    ((cfg1.win 20).blk t).view.emb (ix3 b i d) = ix3 (seqOf t.val (lt1 t) b) i d := by
  refine funext fun a => Fin.ext ?_
  obtain ⟨-, -, e0, e1, e2⟩ := i1 t
  match a with
  | ⟨0, _⟩ => show win1_20.index t 0 * 4 + 1 * b.val = 4 * t.val + b.val; rw [e0]; omega
  | ⟨1, _⟩ => show win1_20.index t 1 * 256 + 1 * i.val = i.val; rw [e1]; omega
  | ⟨2, _⟩ => show win1_20.index t 2 * 512 + 1 * d.val = d.val; rw [e2]; omega

/-- Every element of the array is in the block of its own four sequences. -/
theorem cover1 (y : S256x256x512.Idx) : ∃ t : Fin cfg1.N, (cfg1.win 20).flush t = true ∧ y ∈ ((cfg1.win 20).blk t).view.set := by
  have h0 : (y 0).val < 256 := (y 0).isLt
  have hN : cfg1.N = 64 := N_1
  have ht : (y 0).val / 4 < cfg1.N := by omega
  refine ⟨⟨(y 0).val / 4, ht⟩, flush1_20 _, ?_⟩
  have e : y = ((cfg1.win 20).blk ⟨(y 0).val / 4, ht⟩).view.emb (ix3 (⟨(y 0).val % 4, by omega⟩ : Fin 4) (y 1) (y 2)) := by
    refine Eq.trans ?_ (emb1 ⟨(y 0).val / 4, ht⟩ _ _ _).symm
    refine funext fun a => Fin.ext ?_
    match a with
    | ⟨0, _⟩ => show (y 0).val = 4 * ((y 0).val / 4) + (y 0).val % 4; omega
    | ⟨1, _⟩ => rfl
    | ⟨2, _⟩ => rfl
  exact Eq.mpr (congrArg (· ∈ ((cfg1.win 20).blk ⟨(y 0).val / 4, ht⟩).view.set) e) (View.emb_mem_set _ _)

/-- The array call 1 writes, after it. -/
theorem arr1 : (dat1 V c).arrAt 20 cfg1.N = arrF (V c main_v1) (V c main_v10) (V c main_v21) (V c main_v24) (V c main_v26) (V c main_v29) (V c main_v31) (V c main_v34) (V c main_v36) (V c main_v39) (V c main_v41) (V c main_v44) (V c main_v47) (V c main_v50) (V c main_v52) (V c main_v55) (V c main_v57) (V c main_v60) := by
  refine Dat.arrAt_eq_of_cover (dat1 V c) 20 _ (fun t _ => ?_) cover1
  show (cfg1.win 20).cut (grid1.coords t) ((dat1 V c).after 20 t) = _
  rw [after1_20, out1_eq]
  funext y
  obtain ⟨b, i, d, rfl⟩ : ∃ (b : Fin 4) (i : Fin 256) (d : Fin 512), y = ix3 b i d := ⟨_, _, _, eq_ix3 y⟩
  refine Eq.trans ?_ (congrArg (arrF (V c main_v1) (V c main_v10) (V c main_v21) (V c main_v24) (V c main_v26) (V c main_v29) (V c main_v31) (V c main_v34) (V c main_v36) (V c main_v39) (V c main_v41) (V c main_v44) (V c main_v47) (V c main_v50) (V c main_v52) (V c main_v55) (V c main_v57) (V c main_v60)) (emb1 t b i d)).symm
  refine (storedV_apply _ _ _ _ _ _ _ _ _ _ _ _ _ _ _ _ _ _ _).trans ?_
  exact blockF_eq (tok1 V c t) (row1 V c t)
    (readWhole main_v21 (z1 2 (by decide) (by decide) t) _ _) (readWhole main_v24 (z1 3 (by decide) (by decide) t) _ _) (readWhole main_v26 (z1 4 (by decide) (by decide) t) _ _)
    (readWhole main_v29 (z1 5 (by decide) (by decide) t) _ _) (readWhole main_v31 (z1 6 (by decide) (by decide) t) _ _) (readWhole main_v34 (z1 7 (by decide) (by decide) t) _ _)
    (readWhole main_v36 (z1 8 (by decide) (by decide) t) _ _) (readWhole main_v39 (z1 9 (by decide) (by decide) t) _ _) (readWhole main_v41 (z1 10 (by decide) (by decide) t) _ _)
    (readWhole main_v44 (z1 11 (by decide) (by decide) t) _ _) (readWhole main_v47 (z1 12 (by decide) (by decide) t) _ _) (readWhole main_v50 (z1 13 (by decide) (by decide) t) _ _)
    (readWhole main_v52 (z1 14 (by decide) (by decide) t) _ _) (readWhole main_v55 (z1 15 (by decide) (by decide) t) _ _) (readWhole main_v57 (z1 16 (by decide) (by decide) t) _ _)
    (readWhole main_v60 (z1 17 (by decide) (by decide) t) _ _) b i d

end Cert.KernelIdeal.Layer

end
-- ==== Proof.Call2.lean ====
/-
  Layer call 2: the array it writes, after it (`arr2`). Each of the 64 points writes four whole sequences, and they cover
  the array.
-/
module

public import proofs.«01_k».proof.Proof.Arrays

@[expose] public section

set_option synthInstance.maxSize 4096

noncomputable section

namespace Cert.KernelIdeal.Layer

open Idealize.ShloMosaic Idealize.ShloMosaic.TcCoe Idealize.ShloMosaic.ValueIdx Idealize.SL.Sem Cert.KernelIdeal Cert.KernelIdeal.Gen Cert.Spec
open Idealize.ShloMosaic.Pipeline (Dat Cfg Window)

variable (V : (c : Dev nD) → (b : Ref sig .tc) → Buf (Elt Ideal) ((c : Thread nD τ).loc b)) (c : Dev nD)

/-- The parameters' windows are their whole arrays at every point; the other three move four sequences a point. -/
theorem z2 : ∀ (w : Fin cfg2.W), 2 ≤ w.val → w.val < 20 → ∀ (t : Fin cfg2.N) a, (cfg2.win w).index t a = 0 := by
  intro w
  fin_cases w <;> first | (intro h; exact absurd h (by decide)) | (intro _ h; exact absurd h (by decide)) | (intro _ _; decide +kernel)

theorem i2 : ∀ (t : Fin cfg2.N), (win2_0.index t 0 = t.val ∧ win2_0.index t 1 = 0 ∧ win2_0.index t 2 = 0)
    ∧ (win2_1.index t 0 = t.val ∧ win2_1.index t 1 = 0 ∧ win2_1.index t 2 = 0)
    ∧ (win2_20.index t 0 = t.val ∧ win2_20.index t 1 = 0 ∧ win2_20.index t 2 = 0) := by decide +kernel

theorem lt2 (t : Fin cfg2.N) : t.val < 64 := lt_of_lt_of_eq t.isLt N_2

theorem tok2 (t : Fin cfg2.N) (b : Fin 4) (j : Fin 256) :
    iblk2 V c 0 t (ix3 b (0 : Fin 1) j) = V c main_v1 (ix3 (seqOf t.val (lt2 t) b) (0 : Fin 1) j) := by
  refine congrArg (V c main_v1) (funext fun a => Fin.ext ?_)
  obtain ⟨⟨e0, e1, e2⟩, -, -⟩ := i2 t
  match a with
  | ⟨0, _⟩ => show win2_0.index t 0 * 4 + 1 * b.val = 4 * t.val + b.val; rw [e0]; omega
  | ⟨1, _⟩ => show win2_0.index t 1 * 1 + 1 * 0 = 0; rw [e1]
  | ⟨2, _⟩ => show win2_0.index t 2 * 256 + 1 * j.val = j.val; rw [e2]; omega

theorem row2 (t : Fin cfg2.N) (b : Fin 4) (i : Fin 256) (d : Fin 512) :
    iblk2 V c 1 t (ix3 b i d) = V c main_v61 (ix3 (seqOf t.val (lt2 t) b) i d) := by
  refine congrArg (V c main_v61) (funext fun a => Fin.ext ?_)
  obtain ⟨-, ⟨e0, e1, e2⟩, -⟩ := i2 t
  match a with
  | ⟨0, _⟩ => show win2_1.index t 0 * 4 + 1 * b.val = 4 * t.val + b.val; rw [e0]; omega
  | ⟨1, _⟩ => show win2_1.index t 1 * 256 + 1 * i.val = i.val; rw [e1]; omega
  | ⟨2, _⟩ => show win2_1.index t 2 * 512 + 1 * d.val = d.val; rw [e2]; omega

theorem emb2 (t : Fin cfg2.N) (b : Fin 4) (i : Fin 256) (d : Fin 512) :
    ((cfg2.win 20).blk t).view.emb (ix3 b i d) = ix3 (seqOf t.val (lt2 t) b) i d := by
  refine funext fun a => Fin.ext ?_
  obtain ⟨-, -, e0, e1, e2⟩ := i2 t
  match a with
  | ⟨0, _⟩ => show win2_20.index t 0 * 4 + 1 * b.val = 4 * t.val + b.val; rw [e0]; omega
  | ⟨1, _⟩ => show win2_20.index t 1 * 256 + 1 * i.val = i.val; rw [e1]; omega
  | ⟨2, _⟩ => show win2_20.index t 2 * 512 + 1 * d.val = d.val; rw [e2]; omega

/-- Every element of the array is in the block of its own four sequences. -/
theorem cover2 (y : S256x256x512.Idx) : ∃ t : Fin cfg2.N, (cfg2.win 20).flush t = true ∧ y ∈ ((cfg2.win 20).blk t).view.set := by
  have h0 : (y 0).val < 256 := (y 0).isLt
  have hN : cfg2.N = 64 := N_2
  have ht : (y 0).val / 4 < cfg2.N := by omega
  refine ⟨⟨(y 0).val / 4, ht⟩, flush2_20 _, ?_⟩
  have e : y = ((cfg2.win 20).blk ⟨(y 0).val / 4, ht⟩).view.emb (ix3 (⟨(y 0).val % 4, by omega⟩ : Fin 4) (y 1) (y 2)) := by
    refine Eq.trans ?_ (emb2 ⟨(y 0).val / 4, ht⟩ _ _ _).symm
    refine funext fun a => Fin.ext ?_
    match a with
    | ⟨0, _⟩ => show (y 0).val = 4 * ((y 0).val / 4) + (y 0).val % 4; omega
    | ⟨1, _⟩ => rfl
    | ⟨2, _⟩ => rfl
  exact Eq.mpr (congrArg (· ∈ ((cfg2.win 20).blk ⟨(y 0).val / 4, ht⟩).view.set) e) (View.emb_mem_set _ _)

/-- The array call 2 writes, after it. -/
theorem arr2 : (dat2 V c).arrAt 20 cfg2.N = arrF (V c main_v1) (V c main_v61) (V c main_v64) (V c main_v67) (V c main_v69) (V c main_v72) (V c main_v74) (V c main_v77) (V c main_v79) (V c main_v82) (V c main_v84) (V c main_v87) (V c main_v90) (V c main_v93) (V c main_v95) (V c main_v98) (V c main_v100) (V c main_v103) := by
  refine Dat.arrAt_eq_of_cover (dat2 V c) 20 _ (fun t _ => ?_) cover2
  show (cfg2.win 20).cut (grid2.coords t) ((dat2 V c).after 20 t) = _
  rw [after2_20, out2_eq]
  funext y
  obtain ⟨b, i, d, rfl⟩ : ∃ (b : Fin 4) (i : Fin 256) (d : Fin 512), y = ix3 b i d := ⟨_, _, _, eq_ix3 y⟩
  refine Eq.trans ?_ (congrArg (arrF (V c main_v1) (V c main_v61) (V c main_v64) (V c main_v67) (V c main_v69) (V c main_v72) (V c main_v74) (V c main_v77) (V c main_v79) (V c main_v82) (V c main_v84) (V c main_v87) (V c main_v90) (V c main_v93) (V c main_v95) (V c main_v98) (V c main_v100) (V c main_v103)) (emb2 t b i d)).symm
  refine (storedV_apply _ _ _ _ _ _ _ _ _ _ _ _ _ _ _ _ _ _ _).trans ?_
  exact blockF_eq (tok2 V c t) (row2 V c t)
    (readWhole main_v64 (z2 2 (by decide) (by decide) t) _ _) (readWhole main_v67 (z2 3 (by decide) (by decide) t) _ _) (readWhole main_v69 (z2 4 (by decide) (by decide) t) _ _)
    (readWhole main_v72 (z2 5 (by decide) (by decide) t) _ _) (readWhole main_v74 (z2 6 (by decide) (by decide) t) _ _) (readWhole main_v77 (z2 7 (by decide) (by decide) t) _ _)
    (readWhole main_v79 (z2 8 (by decide) (by decide) t) _ _) (readWhole main_v82 (z2 9 (by decide) (by decide) t) _ _) (readWhole main_v84 (z2 10 (by decide) (by decide) t) _ _)
    (readWhole main_v87 (z2 11 (by decide) (by decide) t) _ _) (readWhole main_v90 (z2 12 (by decide) (by decide) t) _ _) (readWhole main_v93 (z2 13 (by decide) (by decide) t) _ _)
    (readWhole main_v95 (z2 14 (by decide) (by decide) t) _ _) (readWhole main_v98 (z2 15 (by decide) (by decide) t) _ _) (readWhole main_v100 (z2 16 (by decide) (by decide) t) _ _)
    (readWhole main_v103 (z2 17 (by decide) (by decide) t) _ _) b i d

end Cert.KernelIdeal.Layer

end
-- ==== Proof.Call3.lean ====
/-
  Layer call 3: the array it writes, after it (`arr3`). Each of the 64 points writes four whole sequences, and they cover
  the array.
-/
module

public import proofs.«01_k».proof.Proof.Arrays

@[expose] public section

set_option synthInstance.maxSize 4096

noncomputable section

namespace Cert.KernelIdeal.Layer

open Idealize.ShloMosaic Idealize.ShloMosaic.TcCoe Idealize.ShloMosaic.ValueIdx Idealize.SL.Sem Cert.KernelIdeal Cert.KernelIdeal.Gen Cert.Spec
open Idealize.ShloMosaic.Pipeline (Dat Cfg Window)

variable (V : (c : Dev nD) → (b : Ref sig .tc) → Buf (Elt Ideal) ((c : Thread nD τ).loc b)) (c : Dev nD)

/-- The parameters' windows are their whole arrays at every point; the other three move four sequences a point. -/
theorem z3 : ∀ (w : Fin cfg3.W), 2 ≤ w.val → w.val < 20 → ∀ (t : Fin cfg3.N) a, (cfg3.win w).index t a = 0 := by
  intro w
  fin_cases w <;> first | (intro h; exact absurd h (by decide)) | (intro _ h; exact absurd h (by decide)) | (intro _ _; decide +kernel)

theorem i3 : ∀ (t : Fin cfg3.N), (win3_0.index t 0 = t.val ∧ win3_0.index t 1 = 0 ∧ win3_0.index t 2 = 0)
    ∧ (win3_1.index t 0 = t.val ∧ win3_1.index t 1 = 0 ∧ win3_1.index t 2 = 0)
    ∧ (win3_20.index t 0 = t.val ∧ win3_20.index t 1 = 0 ∧ win3_20.index t 2 = 0) := by decide +kernel

theorem lt3 (t : Fin cfg3.N) : t.val < 64 := lt_of_lt_of_eq t.isLt N_3

theorem tok3 (t : Fin cfg3.N) (b : Fin 4) (j : Fin 256) :
    iblk3 V c 0 t (ix3 b (0 : Fin 1) j) = V c main_v1 (ix3 (seqOf t.val (lt3 t) b) (0 : Fin 1) j) := by
  refine congrArg (V c main_v1) (funext fun a => Fin.ext ?_)
  obtain ⟨⟨e0, e1, e2⟩, -, -⟩ := i3 t
  match a with
  | ⟨0, _⟩ => show win3_0.index t 0 * 4 + 1 * b.val = 4 * t.val + b.val; rw [e0]; omega
  | ⟨1, _⟩ => show win3_0.index t 1 * 1 + 1 * 0 = 0; rw [e1]
  | ⟨2, _⟩ => show win3_0.index t 2 * 256 + 1 * j.val = j.val; rw [e2]; omega

theorem row3 (t : Fin cfg3.N) (b : Fin 4) (i : Fin 256) (d : Fin 512) :
    iblk3 V c 1 t (ix3 b i d) = V c main_v104 (ix3 (seqOf t.val (lt3 t) b) i d) := by
  refine congrArg (V c main_v104) (funext fun a => Fin.ext ?_)
  obtain ⟨-, ⟨e0, e1, e2⟩, -⟩ := i3 t
  match a with
  | ⟨0, _⟩ => show win3_1.index t 0 * 4 + 1 * b.val = 4 * t.val + b.val; rw [e0]; omega
  | ⟨1, _⟩ => show win3_1.index t 1 * 256 + 1 * i.val = i.val; rw [e1]; omega
  | ⟨2, _⟩ => show win3_1.index t 2 * 512 + 1 * d.val = d.val; rw [e2]; omega

theorem emb3 (t : Fin cfg3.N) (b : Fin 4) (i : Fin 256) (d : Fin 512) :
    ((cfg3.win 20).blk t).view.emb (ix3 b i d) = ix3 (seqOf t.val (lt3 t) b) i d := by
  refine funext fun a => Fin.ext ?_
  obtain ⟨-, -, e0, e1, e2⟩ := i3 t
  match a with
  | ⟨0, _⟩ => show win3_20.index t 0 * 4 + 1 * b.val = 4 * t.val + b.val; rw [e0]; omega
  | ⟨1, _⟩ => show win3_20.index t 1 * 256 + 1 * i.val = i.val; rw [e1]; omega
  | ⟨2, _⟩ => show win3_20.index t 2 * 512 + 1 * d.val = d.val; rw [e2]; omega

/-- Every element of the array is in the block of its own four sequences. -/
theorem cover3 (y : S256x256x512.Idx) : ∃ t : Fin cfg3.N, (cfg3.win 20).flush t = true ∧ y ∈ ((cfg3.win 20).blk t).view.set := by
  have h0 : (y 0).val < 256 := (y 0).isLt
  have hN : cfg3.N = 64 := N_3
  have ht : (y 0).val / 4 < cfg3.N := by omega
  refine ⟨⟨(y 0).val / 4, ht⟩, flush3_20 _, ?_⟩
  have e : y = ((cfg3.win 20).blk ⟨(y 0).val / 4, ht⟩).view.emb (ix3 (⟨(y 0).val % 4, by omega⟩ : Fin 4) (y 1) (y 2)) := by
    refine Eq.trans ?_ (emb3 ⟨(y 0).val / 4, ht⟩ _ _ _).symm
    refine funext fun a => Fin.ext ?_
    match a with
    | ⟨0, _⟩ => show (y 0).val = 4 * ((y 0).val / 4) + (y 0).val % 4; omega
    | ⟨1, _⟩ => rfl
    | ⟨2, _⟩ => rfl
  exact Eq.mpr (congrArg (· ∈ ((cfg3.win 20).blk ⟨(y 0).val / 4, ht⟩).view.set) e) (View.emb_mem_set _ _)

/-- The array call 3 writes, after it. -/
theorem arr3 : (dat3 V c).arrAt 20 cfg3.N = arrF (V c main_v1) (V c main_v104) (V c main_v107) (V c main_v110) (V c main_v112) (V c main_v115) (V c main_v117) (V c main_v120) (V c main_v122) (V c main_v125) (V c main_v127) (V c main_v130) (V c main_v133) (V c main_v136) (V c main_v138) (V c main_v141) (V c main_v143) (V c main_v146) := by
  refine Dat.arrAt_eq_of_cover (dat3 V c) 20 _ (fun t _ => ?_) cover3
  show (cfg3.win 20).cut (grid3.coords t) ((dat3 V c).after 20 t) = _
  rw [after3_20, out3_eq]
  funext y
  obtain ⟨b, i, d, rfl⟩ : ∃ (b : Fin 4) (i : Fin 256) (d : Fin 512), y = ix3 b i d := ⟨_, _, _, eq_ix3 y⟩
  refine Eq.trans ?_ (congrArg (arrF (V c main_v1) (V c main_v104) (V c main_v107) (V c main_v110) (V c main_v112) (V c main_v115) (V c main_v117) (V c main_v120) (V c main_v122) (V c main_v125) (V c main_v127) (V c main_v130) (V c main_v133) (V c main_v136) (V c main_v138) (V c main_v141) (V c main_v143) (V c main_v146)) (emb3 t b i d)).symm
  refine (storedV_apply _ _ _ _ _ _ _ _ _ _ _ _ _ _ _ _ _ _ _).trans ?_
  exact blockF_eq (tok3 V c t) (row3 V c t)
    (readWhole main_v107 (z3 2 (by decide) (by decide) t) _ _) (readWhole main_v110 (z3 3 (by decide) (by decide) t) _ _) (readWhole main_v112 (z3 4 (by decide) (by decide) t) _ _)
    (readWhole main_v115 (z3 5 (by decide) (by decide) t) _ _) (readWhole main_v117 (z3 6 (by decide) (by decide) t) _ _) (readWhole main_v120 (z3 7 (by decide) (by decide) t) _ _)
    (readWhole main_v122 (z3 8 (by decide) (by decide) t) _ _) (readWhole main_v125 (z3 9 (by decide) (by decide) t) _ _) (readWhole main_v127 (z3 10 (by decide) (by decide) t) _ _)
    (readWhole main_v130 (z3 11 (by decide) (by decide) t) _ _) (readWhole main_v133 (z3 12 (by decide) (by decide) t) _ _) (readWhole main_v136 (z3 13 (by decide) (by decide) t) _ _)
    (readWhole main_v138 (z3 14 (by decide) (by decide) t) _ _) (readWhole main_v141 (z3 15 (by decide) (by decide) t) _ _) (readWhole main_v143 (z3 16 (by decide) (by decide) t) _ _)
    (readWhole main_v146 (z3 17 (by decide) (by decide) t) _ _) b i d

end Cert.KernelIdeal.Layer

end
-- ==== Proof.Call4.lean ====
/-
  Layer call 4: the array it writes, after it (`arr4`). Each of the 64 points writes four whole sequences, and they cover
  the array.
-/
module

public import proofs.«01_k».proof.Proof.Arrays

@[expose] public section

set_option synthInstance.maxSize 4096

noncomputable section

namespace Cert.KernelIdeal.Layer

open Idealize.ShloMosaic Idealize.ShloMosaic.TcCoe Idealize.ShloMosaic.ValueIdx Idealize.SL.Sem Cert.KernelIdeal Cert.KernelIdeal.Gen Cert.Spec
open Idealize.ShloMosaic.Pipeline (Dat Cfg Window)

variable (V : (c : Dev nD) → (b : Ref sig .tc) → Buf (Elt Ideal) ((c : Thread nD τ).loc b)) (c : Dev nD)

/-- The parameters' windows are their whole arrays at every point; the other three move four sequences a point. -/
theorem z4 : ∀ (w : Fin cfg4.W), 2 ≤ w.val → w.val < 20 → ∀ (t : Fin cfg4.N) a, (cfg4.win w).index t a = 0 := by
  intro w
  fin_cases w <;> first | (intro h; exact absurd h (by decide)) | (intro _ h; exact absurd h (by decide)) | (intro _ _; decide +kernel)

theorem i4 : ∀ (t : Fin cfg4.N), (win4_0.index t 0 = t.val ∧ win4_0.index t 1 = 0 ∧ win4_0.index t 2 = 0)
    ∧ (win4_1.index t 0 = t.val ∧ win4_1.index t 1 = 0 ∧ win4_1.index t 2 = 0)
    ∧ (win4_20.index t 0 = t.val ∧ win4_20.index t 1 = 0 ∧ win4_20.index t 2 = 0) := by decide +kernel

theorem lt4 (t : Fin cfg4.N) : t.val < 64 := lt_of_lt_of_eq t.isLt N_4

theorem tok4 (t : Fin cfg4.N) (b : Fin 4) (j : Fin 256) :
    iblk4 V c 0 t (ix3 b (0 : Fin 1) j) = V c main_v1 (ix3 (seqOf t.val (lt4 t) b) (0 : Fin 1) j) := by
  refine congrArg (V c main_v1) (funext fun a => Fin.ext ?_)
  obtain ⟨⟨e0, e1, e2⟩, -, -⟩ := i4 t
  match a with
  | ⟨0, _⟩ => show win4_0.index t 0 * 4 + 1 * b.val = 4 * t.val + b.val; rw [e0]; omega
  | ⟨1, _⟩ => show win4_0.index t 1 * 1 + 1 * 0 = 0; rw [e1]
  | ⟨2, _⟩ => show win4_0.index t 2 * 256 + 1 * j.val = j.val; rw [e2]; omega

theorem row4 (t : Fin cfg4.N) (b : Fin 4) (i : Fin 256) (d : Fin 512) :
    iblk4 V c 1 t (ix3 b i d) = V c main_v147 (ix3 (seqOf t.val (lt4 t) b) i d) := by
  refine congrArg (V c main_v147) (funext fun a => Fin.ext ?_)
  obtain ⟨-, ⟨e0, e1, e2⟩, -⟩ := i4 t
  match a with
  | ⟨0, _⟩ => show win4_1.index t 0 * 4 + 1 * b.val = 4 * t.val + b.val; rw [e0]; omega
  | ⟨1, _⟩ => show win4_1.index t 1 * 256 + 1 * i.val = i.val; rw [e1]; omega
  | ⟨2, _⟩ => show win4_1.index t 2 * 512 + 1 * d.val = d.val; rw [e2]; omega

theorem emb4 (t : Fin cfg4.N) (b : Fin 4) (i : Fin 256) (d : Fin 512) :
    ((cfg4.win 20).blk t).view.emb (ix3 b i d) = ix3 (seqOf t.val (lt4 t) b) i d := by
  refine funext fun a => Fin.ext ?_
  obtain ⟨-, -, e0, e1, e2⟩ := i4 t
  match a with
  | ⟨0, _⟩ => show win4_20.index t 0 * 4 + 1 * b.val = 4 * t.val + b.val; rw [e0]; omega
  | ⟨1, _⟩ => show win4_20.index t 1 * 256 + 1 * i.val = i.val; rw [e1]; omega
  | ⟨2, _⟩ => show win4_20.index t 2 * 512 + 1 * d.val = d.val; rw [e2]; omega

/-- Every element of the array is in the block of its own four sequences. -/
theorem cover4 (y : S256x256x512.Idx) : ∃ t : Fin cfg4.N, (cfg4.win 20).flush t = true ∧ y ∈ ((cfg4.win 20).blk t).view.set := by
  have h0 : (y 0).val < 256 := (y 0).isLt
  have hN : cfg4.N = 64 := N_4
  have ht : (y 0).val / 4 < cfg4.N := by omega
  refine ⟨⟨(y 0).val / 4, ht⟩, flush4_20 _, ?_⟩
  have e : y = ((cfg4.win 20).blk ⟨(y 0).val / 4, ht⟩).view.emb (ix3 (⟨(y 0).val % 4, by omega⟩ : Fin 4) (y 1) (y 2)) := by
    refine Eq.trans ?_ (emb4 ⟨(y 0).val / 4, ht⟩ _ _ _).symm
    refine funext fun a => Fin.ext ?_
    match a with
    | ⟨0, _⟩ => show (y 0).val = 4 * ((y 0).val / 4) + (y 0).val % 4; omega
    | ⟨1, _⟩ => rfl
    | ⟨2, _⟩ => rfl
  exact Eq.mpr (congrArg (· ∈ ((cfg4.win 20).blk ⟨(y 0).val / 4, ht⟩).view.set) e) (View.emb_mem_set _ _)

/-- The array call 4 writes, after it. -/
theorem arr4 : (dat4 V c).arrAt 20 cfg4.N = arrF (V c main_v1) (V c main_v147) (V c main_v150) (V c main_v153) (V c main_v155) (V c main_v158) (V c main_v160) (V c main_v163) (V c main_v165) (V c main_v168) (V c main_v170) (V c main_v173) (V c main_v176) (V c main_v179) (V c main_v181) (V c main_v184) (V c main_v186) (V c main_v189) := by
  refine Dat.arrAt_eq_of_cover (dat4 V c) 20 _ (fun t _ => ?_) cover4
  show (cfg4.win 20).cut (grid4.coords t) ((dat4 V c).after 20 t) = _
  rw [after4_20, out4_eq]
  funext y
  obtain ⟨b, i, d, rfl⟩ : ∃ (b : Fin 4) (i : Fin 256) (d : Fin 512), y = ix3 b i d := ⟨_, _, _, eq_ix3 y⟩
  refine Eq.trans ?_ (congrArg (arrF (V c main_v1) (V c main_v147) (V c main_v150) (V c main_v153) (V c main_v155) (V c main_v158) (V c main_v160) (V c main_v163) (V c main_v165) (V c main_v168) (V c main_v170) (V c main_v173) (V c main_v176) (V c main_v179) (V c main_v181) (V c main_v184) (V c main_v186) (V c main_v189)) (emb4 t b i d)).symm
  refine (storedV_apply _ _ _ _ _ _ _ _ _ _ _ _ _ _ _ _ _ _ _).trans ?_
  exact blockF_eq (tok4 V c t) (row4 V c t)
    (readWhole main_v150 (z4 2 (by decide) (by decide) t) _ _) (readWhole main_v153 (z4 3 (by decide) (by decide) t) _ _) (readWhole main_v155 (z4 4 (by decide) (by decide) t) _ _)
    (readWhole main_v158 (z4 5 (by decide) (by decide) t) _ _) (readWhole main_v160 (z4 6 (by decide) (by decide) t) _ _) (readWhole main_v163 (z4 7 (by decide) (by decide) t) _ _)
    (readWhole main_v165 (z4 8 (by decide) (by decide) t) _ _) (readWhole main_v168 (z4 9 (by decide) (by decide) t) _ _) (readWhole main_v170 (z4 10 (by decide) (by decide) t) _ _)
    (readWhole main_v173 (z4 11 (by decide) (by decide) t) _ _) (readWhole main_v176 (z4 12 (by decide) (by decide) t) _ _) (readWhole main_v179 (z4 13 (by decide) (by decide) t) _ _)
    (readWhole main_v181 (z4 14 (by decide) (by decide) t) _ _) (readWhole main_v184 (z4 15 (by decide) (by decide) t) _ _) (readWhole main_v186 (z4 16 (by decide) (by decide) t) _ _)
    (readWhole main_v189 (z4 17 (by decide) (by decide) t) _ _) b i d

end Cert.KernelIdeal.Layer

end
-- ==== Proof.Call5.lean ====
/-
  Layer call 5: the array it writes, after it (`arr5`). Each of the 64 points writes four whole sequences, and they cover
  the array.
-/
module

public import proofs.«01_k».proof.Proof.Arrays

@[expose] public section

set_option synthInstance.maxSize 4096

noncomputable section

namespace Cert.KernelIdeal.Layer

open Idealize.ShloMosaic Idealize.ShloMosaic.TcCoe Idealize.ShloMosaic.ValueIdx Idealize.SL.Sem Cert.KernelIdeal Cert.KernelIdeal.Gen Cert.Spec
open Idealize.ShloMosaic.Pipeline (Dat Cfg Window)

variable (V : (c : Dev nD) → (b : Ref sig .tc) → Buf (Elt Ideal) ((c : Thread nD τ).loc b)) (c : Dev nD)

/-- The parameters' windows are their whole arrays at every point; the other three move four sequences a point. -/
theorem z5 : ∀ (w : Fin cfg5.W), 2 ≤ w.val → w.val < 20 → ∀ (t : Fin cfg5.N) a, (cfg5.win w).index t a = 0 := by
  intro w
  fin_cases w <;> first | (intro h; exact absurd h (by decide)) | (intro _ h; exact absurd h (by decide)) | (intro _ _; decide +kernel)

theorem i5 : ∀ (t : Fin cfg5.N), (win5_0.index t 0 = t.val ∧ win5_0.index t 1 = 0 ∧ win5_0.index t 2 = 0)
    ∧ (win5_1.index t 0 = t.val ∧ win5_1.index t 1 = 0 ∧ win5_1.index t 2 = 0)
    ∧ (win5_20.index t 0 = t.val ∧ win5_20.index t 1 = 0 ∧ win5_20.index t 2 = 0) := by decide +kernel

theorem lt5 (t : Fin cfg5.N) : t.val < 64 := lt_of_lt_of_eq t.isLt N_5

theorem tok5 (t : Fin cfg5.N) (b : Fin 4) (j : Fin 256) :
    iblk5 V c 0 t (ix3 b (0 : Fin 1) j) = V c main_v1 (ix3 (seqOf t.val (lt5 t) b) (0 : Fin 1) j) := by
  refine congrArg (V c main_v1) (funext fun a => Fin.ext ?_)
  obtain ⟨⟨e0, e1, e2⟩, -, -⟩ := i5 t
  match a with
  | ⟨0, _⟩ => show win5_0.index t 0 * 4 + 1 * b.val = 4 * t.val + b.val; rw [e0]; omega
  | ⟨1, _⟩ => show win5_0.index t 1 * 1 + 1 * 0 = 0; rw [e1]
  | ⟨2, _⟩ => show win5_0.index t 2 * 256 + 1 * j.val = j.val; rw [e2]; omega

theorem row5 (t : Fin cfg5.N) (b : Fin 4) (i : Fin 256) (d : Fin 512) :
    iblk5 V c 1 t (ix3 b i d) = V c main_v190 (ix3 (seqOf t.val (lt5 t) b) i d) := by
  refine congrArg (V c main_v190) (funext fun a => Fin.ext ?_)
  obtain ⟨-, ⟨e0, e1, e2⟩, -⟩ := i5 t
  match a with
  | ⟨0, _⟩ => show win5_1.index t 0 * 4 + 1 * b.val = 4 * t.val + b.val; rw [e0]; omega
  | ⟨1, _⟩ => show win5_1.index t 1 * 256 + 1 * i.val = i.val; rw [e1]; omega
  | ⟨2, _⟩ => show win5_1.index t 2 * 512 + 1 * d.val = d.val; rw [e2]; omega

theorem emb5 (t : Fin cfg5.N) (b : Fin 4) (i : Fin 256) (d : Fin 512) :
    ((cfg5.win 20).blk t).view.emb (ix3 b i d) = ix3 (seqOf t.val (lt5 t) b) i d := by
  refine funext fun a => Fin.ext ?_
  obtain ⟨-, -, e0, e1, e2⟩ := i5 t
  match a with
  | ⟨0, _⟩ => show win5_20.index t 0 * 4 + 1 * b.val = 4 * t.val + b.val; rw [e0]; omega
  | ⟨1, _⟩ => show win5_20.index t 1 * 256 + 1 * i.val = i.val; rw [e1]; omega
  | ⟨2, _⟩ => show win5_20.index t 2 * 512 + 1 * d.val = d.val; rw [e2]; omega

/-- Every element of the array is in the block of its own four sequences. -/
theorem cover5 (y : S256x256x512.Idx) : ∃ t : Fin cfg5.N, (cfg5.win 20).flush t = true ∧ y ∈ ((cfg5.win 20).blk t).view.set := by
  have h0 : (y 0).val < 256 := (y 0).isLt
  have hN : cfg5.N = 64 := N_5
  have ht : (y 0).val / 4 < cfg5.N := by omega
  refine ⟨⟨(y 0).val / 4, ht⟩, flush5_20 _, ?_⟩
  have e : y = ((cfg5.win 20).blk ⟨(y 0).val / 4, ht⟩).view.emb (ix3 (⟨(y 0).val % 4, by omega⟩ : Fin 4) (y 1) (y 2)) := by
    refine Eq.trans ?_ (emb5 ⟨(y 0).val / 4, ht⟩ _ _ _).symm
    refine funext fun a => Fin.ext ?_
    match a with
    | ⟨0, _⟩ => show (y 0).val = 4 * ((y 0).val / 4) + (y 0).val % 4; omega
    | ⟨1, _⟩ => rfl
    | ⟨2, _⟩ => rfl
  exact Eq.mpr (congrArg (· ∈ ((cfg5.win 20).blk ⟨(y 0).val / 4, ht⟩).view.set) e) (View.emb_mem_set _ _)

/-- The array call 5 writes, after it. -/
theorem arr5 : (dat5 V c).arrAt 20 cfg5.N = arrF (V c main_v1) (V c main_v190) (V c main_v193) (V c main_v196) (V c main_v198) (V c main_v201) (V c main_v203) (V c main_v206) (V c main_v208) (V c main_v211) (V c main_v213) (V c main_v216) (V c main_v219) (V c main_v222) (V c main_v224) (V c main_v227) (V c main_v229) (V c main_v232) := by
  refine Dat.arrAt_eq_of_cover (dat5 V c) 20 _ (fun t _ => ?_) cover5
  show (cfg5.win 20).cut (grid5.coords t) ((dat5 V c).after 20 t) = _
  rw [after5_20, out5_eq]
  funext y
  obtain ⟨b, i, d, rfl⟩ : ∃ (b : Fin 4) (i : Fin 256) (d : Fin 512), y = ix3 b i d := ⟨_, _, _, eq_ix3 y⟩
  refine Eq.trans ?_ (congrArg (arrF (V c main_v1) (V c main_v190) (V c main_v193) (V c main_v196) (V c main_v198) (V c main_v201) (V c main_v203) (V c main_v206) (V c main_v208) (V c main_v211) (V c main_v213) (V c main_v216) (V c main_v219) (V c main_v222) (V c main_v224) (V c main_v227) (V c main_v229) (V c main_v232)) (emb5 t b i d)).symm
  refine (storedV_apply _ _ _ _ _ _ _ _ _ _ _ _ _ _ _ _ _ _ _).trans ?_
  exact blockF_eq (tok5 V c t) (row5 V c t)
    (readWhole main_v193 (z5 2 (by decide) (by decide) t) _ _) (readWhole main_v196 (z5 3 (by decide) (by decide) t) _ _) (readWhole main_v198 (z5 4 (by decide) (by decide) t) _ _)
    (readWhole main_v201 (z5 5 (by decide) (by decide) t) _ _) (readWhole main_v203 (z5 6 (by decide) (by decide) t) _ _) (readWhole main_v206 (z5 7 (by decide) (by decide) t) _ _)
    (readWhole main_v208 (z5 8 (by decide) (by decide) t) _ _) (readWhole main_v211 (z5 9 (by decide) (by decide) t) _ _) (readWhole main_v213 (z5 10 (by decide) (by decide) t) _ _)
    (readWhole main_v216 (z5 11 (by decide) (by decide) t) _ _) (readWhole main_v219 (z5 12 (by decide) (by decide) t) _ _) (readWhole main_v222 (z5 13 (by decide) (by decide) t) _ _)
    (readWhole main_v224 (z5 14 (by decide) (by decide) t) _ _) (readWhole main_v227 (z5 15 (by decide) (by decide) t) _ _) (readWhole main_v229 (z5 16 (by decide) (by decide) t) _ _)
    (readWhole main_v232 (z5 17 (by decide) (by decide) t) _ _) b i d

end Cert.KernelIdeal.Layer

end
-- ==== Proof.Call6.lean ====
/-
  Layer call 6: the array it writes, after it (`arr6`). Each of the 64 points writes four whole sequences, and they cover
  the array.
-/
module

public import proofs.«01_k».proof.Proof.Arrays

@[expose] public section

set_option synthInstance.maxSize 4096

noncomputable section

namespace Cert.KernelIdeal.Layer

open Idealize.ShloMosaic Idealize.ShloMosaic.TcCoe Idealize.ShloMosaic.ValueIdx Idealize.SL.Sem Cert.KernelIdeal Cert.KernelIdeal.Gen Cert.Spec
open Idealize.ShloMosaic.Pipeline (Dat Cfg Window)

variable (V : (c : Dev nD) → (b : Ref sig .tc) → Buf (Elt Ideal) ((c : Thread nD τ).loc b)) (c : Dev nD)

/-- The parameters' windows are their whole arrays at every point; the other three move four sequences a point. -/
theorem z6 : ∀ (w : Fin cfg6.W), 2 ≤ w.val → w.val < 20 → ∀ (t : Fin cfg6.N) a, (cfg6.win w).index t a = 0 := by
  intro w
  fin_cases w <;> first | (intro h; exact absurd h (by decide)) | (intro _ h; exact absurd h (by decide)) | (intro _ _; decide +kernel)

theorem i6 : ∀ (t : Fin cfg6.N), (win6_0.index t 0 = t.val ∧ win6_0.index t 1 = 0 ∧ win6_0.index t 2 = 0)
    ∧ (win6_1.index t 0 = t.val ∧ win6_1.index t 1 = 0 ∧ win6_1.index t 2 = 0)
    ∧ (win6_20.index t 0 = t.val ∧ win6_20.index t 1 = 0 ∧ win6_20.index t 2 = 0) := by decide +kernel

theorem lt6 (t : Fin cfg6.N) : t.val < 64 := lt_of_lt_of_eq t.isLt N_6

theorem tok6 (t : Fin cfg6.N) (b : Fin 4) (j : Fin 256) :
    iblk6 V c 0 t (ix3 b (0 : Fin 1) j) = V c main_v1 (ix3 (seqOf t.val (lt6 t) b) (0 : Fin 1) j) := by
  refine congrArg (V c main_v1) (funext fun a => Fin.ext ?_)
  obtain ⟨⟨e0, e1, e2⟩, -, -⟩ := i6 t
  match a with
  | ⟨0, _⟩ => show win6_0.index t 0 * 4 + 1 * b.val = 4 * t.val + b.val; rw [e0]; omega
  | ⟨1, _⟩ => show win6_0.index t 1 * 1 + 1 * 0 = 0; rw [e1]
  | ⟨2, _⟩ => show win6_0.index t 2 * 256 + 1 * j.val = j.val; rw [e2]; omega

theorem row6 (t : Fin cfg6.N) (b : Fin 4) (i : Fin 256) (d : Fin 512) :
    iblk6 V c 1 t (ix3 b i d) = V c main_v233 (ix3 (seqOf t.val (lt6 t) b) i d) := by
  refine congrArg (V c main_v233) (funext fun a => Fin.ext ?_)
  obtain ⟨-, ⟨e0, e1, e2⟩, -⟩ := i6 t
  match a with
  | ⟨0, _⟩ => show win6_1.index t 0 * 4 + 1 * b.val = 4 * t.val + b.val; rw [e0]; omega
  | ⟨1, _⟩ => show win6_1.index t 1 * 256 + 1 * i.val = i.val; rw [e1]; omega
  | ⟨2, _⟩ => show win6_1.index t 2 * 512 + 1 * d.val = d.val; rw [e2]; omega

theorem emb6 (t : Fin cfg6.N) (b : Fin 4) (i : Fin 256) (d : Fin 512) :
    ((cfg6.win 20).blk t).view.emb (ix3 b i d) = ix3 (seqOf t.val (lt6 t) b) i d := by
  refine funext fun a => Fin.ext ?_
  obtain ⟨-, -, e0, e1, e2⟩ := i6 t
  match a with
  | ⟨0, _⟩ => show win6_20.index t 0 * 4 + 1 * b.val = 4 * t.val + b.val; rw [e0]; omega
  | ⟨1, _⟩ => show win6_20.index t 1 * 256 + 1 * i.val = i.val; rw [e1]; omega
  | ⟨2, _⟩ => show win6_20.index t 2 * 512 + 1 * d.val = d.val; rw [e2]; omega

/-- Every element of the array is in the block of its own four sequences. -/
theorem cover6 (y : S256x256x512.Idx) : ∃ t : Fin cfg6.N, (cfg6.win 20).flush t = true ∧ y ∈ ((cfg6.win 20).blk t).view.set := by
  have h0 : (y 0).val < 256 := (y 0).isLt
  have hN : cfg6.N = 64 := N_6
  have ht : (y 0).val / 4 < cfg6.N := by omega
  refine ⟨⟨(y 0).val / 4, ht⟩, flush6_20 _, ?_⟩
  have e : y = ((cfg6.win 20).blk ⟨(y 0).val / 4, ht⟩).view.emb (ix3 (⟨(y 0).val % 4, by omega⟩ : Fin 4) (y 1) (y 2)) := by
    refine Eq.trans ?_ (emb6 ⟨(y 0).val / 4, ht⟩ _ _ _).symm
    refine funext fun a => Fin.ext ?_
    match a with
    | ⟨0, _⟩ => show (y 0).val = 4 * ((y 0).val / 4) + (y 0).val % 4; omega
    | ⟨1, _⟩ => rfl
    | ⟨2, _⟩ => rfl
  exact Eq.mpr (congrArg (· ∈ ((cfg6.win 20).blk ⟨(y 0).val / 4, ht⟩).view.set) e) (View.emb_mem_set _ _)

/-- The array call 6 writes, after it. -/
theorem arr6 : (dat6 V c).arrAt 20 cfg6.N = arrLastF (V c main_v1) (V c main_v233) (V c main_v236) (V c main_v239) (V c main_v241) (V c main_v244) (V c main_v246) (V c main_v249) (V c main_v251) (V c main_v254) (V c main_v256) (V c main_v259) (V c main_v262) (V c main_v265) (V c main_v267) (V c main_v270) (V c main_v272) (V c main_v275) (V c main_v17) (V c main_v18) := by
  refine Dat.arrAt_eq_of_cover (dat6 V c) 20 _ (fun t _ => ?_) cover6
  show (cfg6.win 20).cut (grid6.coords t) ((dat6 V c).after 20 t) = _
  rw [after6_20, out6_eq]
  funext y
  obtain ⟨b, i, d, rfl⟩ : ∃ (b : Fin 4) (i : Fin 256) (d : Fin 512), y = ix3 b i d := ⟨_, _, _, eq_ix3 y⟩
  refine Eq.trans ?_ (congrArg (arrLastF (V c main_v1) (V c main_v233) (V c main_v236) (V c main_v239) (V c main_v241) (V c main_v244) (V c main_v246) (V c main_v249) (V c main_v251) (V c main_v254) (V c main_v256) (V c main_v259) (V c main_v262) (V c main_v265) (V c main_v267) (V c main_v270) (V c main_v272) (V c main_v275) (V c main_v17) (V c main_v18)) (emb6 t b i d)).symm
  refine (storedLastV_apply _ _ _ _ _ _ _ _ _ _ _ _ _ _ _ _ _ _ _ _ _).trans ?_
  exact blockLastF_eq (blockF_eq (tok6 V c t) (row6 V c t)
    (readWhole main_v236 (z6 2 (by decide) (by decide) t) _ _) (readWhole main_v239 (z6 3 (by decide) (by decide) t) _ _) (readWhole main_v241 (z6 4 (by decide) (by decide) t) _ _)
    (readWhole main_v244 (z6 5 (by decide) (by decide) t) _ _) (readWhole main_v246 (z6 6 (by decide) (by decide) t) _ _) (readWhole main_v249 (z6 7 (by decide) (by decide) t) _ _)
    (readWhole main_v251 (z6 8 (by decide) (by decide) t) _ _) (readWhole main_v254 (z6 9 (by decide) (by decide) t) _ _) (readWhole main_v256 (z6 10 (by decide) (by decide) t) _ _)
    (readWhole main_v259 (z6 11 (by decide) (by decide) t) _ _) (readWhole main_v262 (z6 12 (by decide) (by decide) t) _ _) (readWhole main_v265 (z6 13 (by decide) (by decide) t) _ _)
    (readWhole main_v267 (z6 14 (by decide) (by decide) t) _ _) (readWhole main_v270 (z6 15 (by decide) (by decide) t) _ _) (readWhole main_v272 (z6 16 (by decide) (by decide) t) _ _)
    (readWhole main_v275 (z6 17 (by decide) (by decide) t) _ _)) (readWhole main_v17 (z6 18 (by decide) (by decide) t) _ _) (readWhole main_v18 (z6 19 (by decide) (by decide) t) _ _) b i d

end Cert.KernelIdeal.Layer

end
-- ==== Proof.Fold.lean ====
/-
  The layer calls one after another: the program's result is the six layers and the last layer norm, applied to what the
  embedding call leaves (`result_apply`).
-/
module

public import proofs.«01_k».proof.Proof.Params
public import proofs.«01_k».proof.Proof.Call1
public import proofs.«01_k».proof.Proof.Call2
public import proofs.«01_k».proof.Proof.Call3
public import proofs.«01_k».proof.Proof.Call4
public import proofs.«01_k».proof.Proof.Call5
public import proofs.«01_k».proof.Proof.Call6

@[expose] public section

set_option synthInstance.maxSize 4096
set_option maxRecDepth 16384

noncomputable section

namespace Cert.KernelIdeal.Layer

open Idealize.ShloMosaic Idealize.ShloMosaic.TcCoe Idealize.ShloMosaic.ValueIdx Idealize.SL.Sem Cert.KernelIdeal Cert.KernelIdeal.Gen Cert.Spec

/-- The layers in order: layer `n`'s parameters are `P n`. -/
def runK (P : ℕ → Par) (p : Fin 256 → Prop) [DecidablePred p] (x : Fin 256 → Fin 512 → EReal) : ℕ → Fin 256 → Fin 512 → EReal
  | 0 => x
  | n + 1 => layerK (P n) p (runK P p x n)

/-- What the calls share: the arguments, the tokens, the cast stacks and the last layer norm's rows. -/
abbrev kept : List (Ref sig .tc) :=
  [main_arg10, main_arg11, main_arg13, main_arg15, main_arg17, main_arg19, main_arg20, main_arg21, main_arg23, main_arg25,
    main_v1, main_v11, main_v12, main_v13, main_v14, main_v15, main_v16, main_v17, main_v18]

theorem parOf_congr (V V' : Valuation τ sig (Elt Ideal)) (h : ∀ r ∈ kept, V r = V' r) (j : Fin 6) : parOf V j = parOf V' j := by
  unfold parOf
  rw [h main_arg10 (by decide), h main_arg11 (by decide), h main_v11 (by decide), h main_arg13 (by decide), h main_v12 (by decide),
    h main_arg15 (by decide), h main_v13 (by decide), h main_arg17 (by decide), h main_v14 (by decide), h main_arg19 (by decide),
    h main_arg20 (by decide), h main_arg21 (by decide), h main_v15 (by decide), h main_arg23 (by decide), h main_v16 (by decide),
    h main_arg25 (by decide)]

variable (m : (ℓ : Loc nD τ sig) → Buf (Elt Ideal) ℓ) (ρ : Dev nD → PrngReg) (c : Dev nD)

/-- Layer `n`'s parameters in the program's arguments. -/
def parM (n : ℕ) : Par :=
  parS (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19)) (m ((c : Thread nD τ).loc main_arg20)) (m ((c : Thread nD τ).loc main_arg21))
    (m ((c : Thread nD τ).loc main_arg22)) (m ((c : Thread nD τ).loc main_arg23)) (m ((c : Thread nD τ).loc main_arg24))
    (m ((c : Thread nD τ).loc main_arg25)) (Fin.ofNat 6 n)

theorem parS_W6 (j : Fin 6) : parS (W6 m ρ c main_arg10) (W6 m ρ c main_arg11) (W6 m ρ c main_arg12) (W6 m ρ c main_arg13) (W6 m ρ c main_arg14)
    (W6 m ρ c main_arg15) (W6 m ρ c main_arg16) (W6 m ρ c main_arg17) (W6 m ρ c main_arg18) (W6 m ρ c main_arg19) (W6 m ρ c main_arg20)
    (W6 m ρ c main_arg21) (W6 m ρ c main_arg22) (W6 m ρ c main_arg23) (W6 m ρ c main_arg24) (W6 m ρ c main_arg25) j
    = parM m c j.val := by
  have h := W6_args m ρ c
  rw [h main_arg10 (by decide), h main_arg11 (by decide), h main_arg12 (by decide), h main_arg13 (by decide), h main_arg14 (by decide),
    h main_arg15 (by decide), h main_arg16 (by decide), h main_arg17 (by decide), h main_arg18 (by decide), h main_arg19 (by decide),
    h main_arg20 (by decide), h main_arg21 (by decide), h main_arg22 (by decide), h main_arg23 (by decide), h main_arg24 (by decide),
    h main_arg25 (by decide)]
  unfold parM
  rw [show (Fin.ofNat 6 j.val) = j from Fin.ext (Nat.mod_eq_of_lt j.isLt)]

/-- Every later call finds layer `j`'s slices where the first one did. -/
theorem parOf_W7 (j : Fin 6) : parOf (W7 m ρ c) j = parM m c j.val := (host1_parOf (W6 m ρ c) j).trans (parS_W6 m ρ c j)

theorem keptOut1 : ∀ r ∈ kept, ∀ w : Fin cfg1.W, Pipeline.arrRef spec1 w = r → (cfg1.win w).isOut = false :=
  ListAll.forall_mem_of_all_decide (by decide +kernel)
theorem kept8 : ∀ r ∈ kept, W8 m ρ c r = W7 m ρ c r := fun r h => W8_of m ρ c r (keptOut1 r h)
theorem keptOut2 : ∀ r ∈ kept, ∀ w : Fin cfg2.W, Pipeline.arrRef spec2 w = r → (cfg2.win w).isOut = false :=
  ListAll.forall_mem_of_all_decide (by decide +kernel)
theorem keptHost2 : ∀ r ∈ kept, r ∉ hostOps2_W := ListAll.forall_mem_of_all_decide (by decide +kernel)
theorem kept9 : ∀ r ∈ kept, W9 m ρ c r = W7 m ρ c r := fun r h => (W9_of m ρ c r (keptHost2 r h)).trans (kept8 m ρ c r h)
theorem kept10 : ∀ r ∈ kept, W10 m ρ c r = W7 m ρ c r := fun r h => (W10_of m ρ c r (keptOut2 r h)).trans (kept9 m ρ c r h)
theorem keptOut3 : ∀ r ∈ kept, ∀ w : Fin cfg3.W, Pipeline.arrRef spec3 w = r → (cfg3.win w).isOut = false :=
  ListAll.forall_mem_of_all_decide (by decide +kernel)
theorem keptHost3 : ∀ r ∈ kept, r ∉ hostOps3_W := ListAll.forall_mem_of_all_decide (by decide +kernel)
theorem kept11 : ∀ r ∈ kept, W11 m ρ c r = W7 m ρ c r := fun r h => (W11_of m ρ c r (keptHost3 r h)).trans (kept10 m ρ c r h)
theorem kept12 : ∀ r ∈ kept, W12 m ρ c r = W7 m ρ c r := fun r h => (W12_of m ρ c r (keptOut3 r h)).trans (kept11 m ρ c r h)
theorem keptOut4 : ∀ r ∈ kept, ∀ w : Fin cfg4.W, Pipeline.arrRef spec4 w = r → (cfg4.win w).isOut = false :=
  ListAll.forall_mem_of_all_decide (by decide +kernel)
theorem keptHost4 : ∀ r ∈ kept, r ∉ hostOps4_W := ListAll.forall_mem_of_all_decide (by decide +kernel)
theorem kept13 : ∀ r ∈ kept, W13 m ρ c r = W7 m ρ c r := fun r h => (W13_of m ρ c r (keptHost4 r h)).trans (kept12 m ρ c r h)
theorem kept14 : ∀ r ∈ kept, W14 m ρ c r = W7 m ρ c r := fun r h => (W14_of m ρ c r (keptOut4 r h)).trans (kept13 m ρ c r h)
theorem keptOut5 : ∀ r ∈ kept, ∀ w : Fin cfg5.W, Pipeline.arrRef spec5 w = r → (cfg5.win w).isOut = false :=
  ListAll.forall_mem_of_all_decide (by decide +kernel)
theorem keptHost5 : ∀ r ∈ kept, r ∉ hostOps5_W := ListAll.forall_mem_of_all_decide (by decide +kernel)
theorem kept15 : ∀ r ∈ kept, W15 m ρ c r = W7 m ρ c r := fun r h => (W15_of m ρ c r (keptHost5 r h)).trans (kept14 m ρ c r h)
theorem kept16 : ∀ r ∈ kept, W16 m ρ c r = W7 m ρ c r := fun r h => (W16_of m ρ c r (keptOut5 r h)).trans (kept15 m ρ c r h)
theorem keptOut6 : ∀ r ∈ kept, ∀ w : Fin cfg6.W, Pipeline.arrRef spec6 w = r → (cfg6.win w).isOut = false :=
  ListAll.forall_mem_of_all_decide (by decide +kernel)
theorem keptHost6 : ∀ r ∈ kept, r ∉ hostOps6_W := ListAll.forall_mem_of_all_decide (by decide +kernel)
theorem kept17 : ∀ r ∈ kept, W17 m ρ c r = W7 m ρ c r := fun r h => (W17_of m ρ c r (keptHost6 r h)).trans (kept16 m ρ c r h)
theorem kept18 : ∀ r ∈ kept, W18 m ρ c r = W7 m ρ c r := fun r h => (W18_of m ρ c r (keptOut6 r h)).trans (kept17 m ρ c r h)

/-- The padding mask a sequence's tokens give. -/
def padM (T : Vec Ideal S256x1x256 .i32) (b : Fin 256) : Fin 256 → Prop := fun j => T (ix3 b (0 : Fin 1) j) = 0#32

instance (T : Vec Ideal S256x1x256 .i32) (b : Fin 256) : DecidablePred (padM T b) := fun j => inferInstanceAs (Decidable (_ = _))

section Step

variable {T T' : Vec Ideal S256x1x256 .i32} {X : Vec Ideal S256x256x512 .f32} {X2 X3 : Vec Ideal S1x512 .f32} {X4 : Vec Ideal S512x512 .bf16}
  {X5 : Vec Ideal S1x512 .f32} {X6 : Vec Ideal S512x512 .bf16} {X7 : Vec Ideal S1x512 .f32} {X8 : Vec Ideal S512x512 .bf16}
  {X9 : Vec Ideal S1x512 .f32} {X10 : Vec Ideal S512x512 .bf16} {X11 X12 X13 : Vec Ideal S1x512 .f32} {X14 : Vec Ideal S512x2048 .bf16}
  {X15 : Vec Ideal S1x2048 .f32} {X16 : Vec Ideal S2048x512 .bf16} {X17 X18 X19 : Vec Ideal S1x512 .f32}
  {P : ℕ → Par} {x : Fin 256 → Fin 512 → EReal} {b : Fin 256} (n : ℕ)

/-- One call takes the first `n` layers' rows to the first `n + 1` layers'. -/
theorem arrF_run (hp : par X2 X3 X4 X5 X6 X7 X8 X9 X10 X11 X12 X13 X14 X15 X16 X17 = P n) (hT : T = T')
    (hX : ∀ i d, X (ix3 b i d) = runK P (padM T' b) x n i d) (i : Fin 256) (d : Fin 512) :
    arrF T X X2 X3 X4 X5 X6 X7 X8 X9 X10 X11 X12 X13 X14 X15 X16 X17 (ix3 b i d) = runK P (padM T' b) x (n + 1) i d := by
  subst hT
  unfold arrF
  rw [hp]
  have e : (fun i d => X (ix3 b i d)) = runK P (padM T b) x n := funext fun i => funext fun d => hX i d
  show layerK (P n) (fun j => T (ix3 b (0 : Fin 1) j) = 0#32) (fun i d => X (ix3 b i d)) i d = layerK (P n) (padM T b) (runK P (padM T b) x n) i d
  rw [← e]
  exact congrFun (congrFun (layerK_congr (P n) (fun _ => Iff.rfl) _) i) d

/-- The last call also normalizes. -/
theorem arrLastF_run (hp : par X2 X3 X4 X5 X6 X7 X8 X9 X10 X11 X12 X13 X14 X15 X16 X17 = P n) (hT : T = T')
    (hX : ∀ i d, X (ix3 b i d) = runK P (padM T' b) x n i d) (i : Fin 256) (d : Fin 512) :
    arrLastF T X X2 X3 X4 X5 X6 X7 X8 X9 X10 X11 X12 X13 X14 X15 X16 X17 X18 X19 (ix3 b i d)
    = lnK (fun d => X18 (ix2 (0 : Fin 1) d)) (fun d => X19 (ix2 (0 : Fin 1) d)) (runK P (padM T' b) x (n + 1) i) d :=
  congrArg (fun r => lnK (fun d => X18 (ix2 (0 : Fin 1) d)) (fun d => X19 (ix2 (0 : Fin 1) d)) r d)
    (funext fun d => arrF_run n hp hT hX i d)

end Step

/-- After layer call 1. -/
theorem after1 (b i : Fin 256) (d : Fin 512) : W8 m ρ c main_v61 (ix3 b i d) = runK (parM m c) (padM (W7 m ρ c main_v1) b) (fun i d => W6 m ρ c main_v10 (ix3 b i d)) 1 i d := by
  rw [show W8 m ρ c main_v61 = _ from (W8_arr m ρ c 20).trans (arr1 (V7 m ρ) c)]
  have hp := (host1 (W6 m ρ c)).trans (parS_W6 m ρ c 0)
  have hx : W7 m ρ c main_v10 = W6 m ρ c main_v10 := W7_of m ρ c main_v10 (by decide)
  exact arrF_run 0 hp rfl (fun i d => congrFun hx _) i d

/-- After layer call 2. -/
theorem after2 (b i : Fin 256) (d : Fin 512) : W10 m ρ c main_v104 (ix3 b i d) = runK (parM m c) (padM (W7 m ρ c main_v1) b) (fun i d => W6 m ρ c main_v10 (ix3 b i d)) 2 i d := by
  rw [show W10 m ρ c main_v104 = _ from (W10_arr m ρ c 20).trans (arr2 (V9 m ρ) c)]
  have hp := (host2 (W8 m ρ c)).trans ((parOf_congr _ _ (kept8 m ρ c) 1).trans (parOf_W7 m ρ c 1))
  have ht : W9 m ρ c main_v1 = W7 m ρ c main_v1 := kept9 m ρ c main_v1 (by decide)
  have hx : W9 m ρ c main_v61 = W8 m ρ c main_v61 := W9_of m ρ c main_v61 (by decide)
  exact arrF_run 1 hp ht (fun i d => (congrFun hx _).trans (after1 m ρ c b i d)) i d

/-- After layer call 3. -/
theorem after3 (b i : Fin 256) (d : Fin 512) : W12 m ρ c main_v147 (ix3 b i d) = runK (parM m c) (padM (W7 m ρ c main_v1) b) (fun i d => W6 m ρ c main_v10 (ix3 b i d)) 3 i d := by
  rw [show W12 m ρ c main_v147 = _ from (W12_arr m ρ c 20).trans (arr3 (V11 m ρ) c)]
  have hp := (host3 (W10 m ρ c)).trans ((parOf_congr _ _ (kept10 m ρ c) 2).trans (parOf_W7 m ρ c 2))
  have ht : W11 m ρ c main_v1 = W7 m ρ c main_v1 := kept11 m ρ c main_v1 (by decide)
  have hx : W11 m ρ c main_v104 = W10 m ρ c main_v104 := W11_of m ρ c main_v104 (by decide)
  exact arrF_run 2 hp ht (fun i d => (congrFun hx _).trans (after2 m ρ c b i d)) i d

/-- After layer call 4. -/
theorem after4 (b i : Fin 256) (d : Fin 512) : W14 m ρ c main_v190 (ix3 b i d) = runK (parM m c) (padM (W7 m ρ c main_v1) b) (fun i d => W6 m ρ c main_v10 (ix3 b i d)) 4 i d := by
  rw [show W14 m ρ c main_v190 = _ from (W14_arr m ρ c 20).trans (arr4 (V13 m ρ) c)]
  have hp := (host4 (W12 m ρ c)).trans ((parOf_congr _ _ (kept12 m ρ c) 3).trans (parOf_W7 m ρ c 3))
  have ht : W13 m ρ c main_v1 = W7 m ρ c main_v1 := kept13 m ρ c main_v1 (by decide)
  have hx : W13 m ρ c main_v147 = W12 m ρ c main_v147 := W13_of m ρ c main_v147 (by decide)
  exact arrF_run 3 hp ht (fun i d => (congrFun hx _).trans (after3 m ρ c b i d)) i d

/-- After layer call 5. -/
theorem after5 (b i : Fin 256) (d : Fin 512) : W16 m ρ c main_v233 (ix3 b i d) = runK (parM m c) (padM (W7 m ρ c main_v1) b) (fun i d => W6 m ρ c main_v10 (ix3 b i d)) 5 i d := by
  rw [show W16 m ρ c main_v233 = _ from (W16_arr m ρ c 20).trans (arr5 (V15 m ρ) c)]
  have hp := (host5 (W14 m ρ c)).trans ((parOf_congr _ _ (kept14 m ρ c) 4).trans (parOf_W7 m ρ c 4))
  have ht : W15 m ρ c main_v1 = W7 m ρ c main_v1 := kept15 m ρ c main_v1 (by decide)
  have hx : W15 m ρ c main_v190 = W14 m ρ c main_v190 := W15_of m ρ c main_v190 (by decide)
  exact arrF_run 4 hp ht (fun i d => (congrFun hx _).trans (after4 m ρ c b i d)) i d

/-- After the last layer call, whose last layer norm is `lnK`. -/
theorem after6 (b i : Fin 256) (d : Fin 512) : W18 m ρ c main_v276 (ix3 b i d)
    = lnK (fun d => W7 m ρ c main_v17 (ix2 (0 : Fin 1) d)) (fun d => W7 m ρ c main_v18 (ix2 (0 : Fin 1) d))
      (runK (parM m c) (padM (W7 m ρ c main_v1) b) (fun i d => W6 m ρ c main_v10 (ix3 b i d)) 6 i) d := by
  rw [show W18 m ρ c main_v276 = _ from (W18_arr m ρ c 20).trans (arr6 (V17 m ρ) c)]
  have hp := (host6 (W16 m ρ c)).trans ((parOf_congr _ _ (kept16 m ρ c) 5).trans (parOf_W7 m ρ c 5))
  have ht : W17 m ρ c main_v1 = W7 m ρ c main_v1 := kept17 m ρ c main_v1 (by decide)
  have hx : W17 m ρ c main_v233 = W16 m ρ c main_v233 := W17_of m ρ c main_v233 (by decide)
  have hg : W17 m ρ c main_v17 = W7 m ρ c main_v17 := kept17 m ρ c main_v17 (by decide)
  have hb : W17 m ρ c main_v18 = W7 m ρ c main_v18 := kept17 m ρ c main_v18 (by decide)
  rw [← hg, ← hb]
  exact arrLastF_run 5 hp ht (fun i d => (congrFun hx _).trans (after5 m ρ c b i d)) i d

/-- The tokens, as the calls read them. -/
theorem tok_apply (b j : Fin 256) : W7 m ρ c main_v1 (ix3 b (0 : Fin 1) j) = m ((c : Thread nD τ).loc main_arg0) (ix2 j b) := by
  have e : W7 m ρ c main_v1 = W1 m ρ c main_v1 :=
    (W7_of m ρ c main_v1 (by decide)).trans <| (W6_of m ρ c main_v1 (by decide +kernel)).trans <| (W5_of m ρ c main_v1 (by decide)).trans <|
      (W4_of m ρ c main_v1 (by decide)).trans <| (W3_of m ρ c main_v1 (by decide)).trans (W2_of m ρ c main_v1 (by decide))
  rw [e]
  show StableHlo.after hostOps0 (W0 m ρ c) main_v1 (ix3 b (0 : Fin 1) j) = _
  after_reads_simp
  refine (shapeCast_apply _ _ (ix3 b (0 : Fin 1) j) (ix2 b j)
      (by rw [Shape.rowMajor_val_three, Shape.rowMajor_val_two]; show b.val * 256 + j.val = (b.val * 1 + 0) * 256 + j.val; omega)).trans ?_
  exact transpose_ix2_apply _ _ _ _

/-- A row vector read from the cast of a vector. -/
theorem rowCast_apply {n : ℕ} (x : (⟨1, ![n]⟩ : Shape).Idx → EReal) (h : (⟨1, ![n]⟩ : Shape).ShapeCasts ⟨2, ![1, n]⟩) (d : Fin n) :
    shapeCast ⟨2, ![1, n]⟩ x h (ix2 (0 : Fin 1) d) = x (ix1 d) :=
  shapeCast_apply _ _ _ _ (by rw [Shape.rowMajor_val_one, Shape.rowMajor_val_two]; show d.val = 0 * n + d.val; omega)

theorem lastG_apply (d : Fin 512) : W7 m ρ c main_v17 (ix2 (0 : Fin 1) d) = m ((c : Thread nD τ).loc main_arg26) (ix1 d) := by
  rw [← W6_args m ρ c main_arg26 (by decide)]
  show StableHlo.after hostOps1 (W6 m ρ c) main_v17 (ix2 (0 : Fin 1) d) = _
  after_reads_simp
  exact rowCast_apply _ _ d

theorem lastB_apply (d : Fin 512) : W7 m ρ c main_v18 (ix2 (0 : Fin 1) d) = m ((c : Thread nD τ).loc main_arg27) (ix1 d) := by
  rw [← W6_args m ρ c main_arg27 (by decide)]
  show StableHlo.after hostOps1 (W6 m ρ c) main_v18 (ix2 (0 : Fin 1) d) = _
  after_reads_simp
  exact rowCast_apply _ _ d

/-- The program's result: the six layers and the last layer norm of what the embedding call leaves, transposed. -/
theorem result_apply (b i : Fin 256) (d : Fin 512) : W19 m ρ c main_v277 (ix3 i b d)
    = lnK (fun d => m ((c : Thread nD τ).loc main_arg26) (ix1 d)) (fun d => m ((c : Thread nD τ).loc main_arg27) (ix1 d))
      (runK (parM m c) (padM (W7 m ρ c main_v1) b) (fun i d => W6 m ρ c main_v10 (ix3 b i d)) 6 i) d := by
  have e := after6 m ρ c b i d
  rw [show (fun d => W7 m ρ c main_v17 (ix2 (0 : Fin 1) d)) = fun d => m ((c : Thread nD τ).loc main_arg26) (ix1 d) from funext (lastG_apply m ρ c),
    show (fun d => W7 m ρ c main_v18 (ix2 (0 : Fin 1) d)) = fun d => m ((c : Thread nD τ).loc main_arg27) (ix1 d) from funext (lastB_apply m ρ c)] at e
  rw [← e]
  show StableHlo.after hostOps7 (W18 m ρ c) main_v277 (ix3 i b d) = _
  after_reads_simp
  exact transpose_apply _ _ _ _ (ix3 b i d) fun a => match a with
    | ⟨0, _⟩ => rfl
    | ⟨1, _⟩ => rfl
    | ⟨2, _⟩ => rfl

end Cert.KernelIdeal.Layer
-- ==== Proof.EmbedHost.lean ====
/-
  What the embedding call leaves, in the program's arguments (`embed_apply`): the host operations before it transpose
  the tokens and set each sequence's 128 atoms on rows 1 to 128 of a padded array.
-/
module

public import proofs.«01_k».proof.Proof.Call0
public import proofs.«01_k».proof.Proof.Fold
public import Idealize.ShloMosaic.Lib.KernelVsHost

@[expose] public section

set_option synthInstance.maxSize 4096
set_option maxRecDepth 16384

noncomputable section

namespace Cert.KernelIdeal.Layer

open Idealize.ShloMosaic Idealize.ShloMosaic.TcCoe Idealize.ShloMosaic.ValueIdx Idealize.SL.Sem Cert.KernelIdeal Cert.KernelIdeal.Gen Cert.Spec

/-! ## The operations at an index -/

/-- The place of row `i`'s atom within its sequence. -/
def placeOf (i : Fin 256) : Fin 128 := Fin.ofNat 128 (i.val - 1)

theorem placeOf_val (i : Fin 256) (hi : 1 ≤ i.val ∧ i.val ≤ 128) : (placeOf i).val = i.val - 1 := Nat.mod_eq_of_lt (by omega)

/-- The atoms' tokens, padded, at a row that holds an atom. -/
theorem padTok_apply (x : S32768.Idx → BitVec 32) (v : S_.Idx → BitVec 32) (b i : Fin 256) (hi : 1 ≤ i.val ∧ i.val ≤ 128) :
    shapeCast S256x1x256 (pad S256x256 ![0, 1] ![0, 127] ![0, 0] (shapeCast S256x128 x shapeCasts_S32768_S256x128) v pads_S256x128_S256x256_000_11270 h_S_)
      shapeCasts_S256x256_S256x1x256 (ix3 b (0 : Fin 1) i) = x (ix1 (atomIdx b i)) := by
  refine (shapeCast_apply _ _ (ix3 b (0 : Fin 1) i) (ix2 b i)
      (by rw [Shape.rowMajor_val_three, Shape.rowMajor_val_two]; show b.val * 256 + i.val = (b.val * 1 + 0) * 256 + i.val; omega)).trans ?_
  refine (pad_apply_of_inside _ _ _ _ _ _ _ (ix2 b i) (ix2 b (placeOf i)) fun a => ?_).trans ?_
  · match a with
    | ⟨0, _⟩ => show b.val = 0 + b.val * 1; omega
    | ⟨1, _⟩ => show i.val = 1 + (placeOf i).val * 1; rw [placeOf_val i hi]; omega
  · refine shapeCast_apply _ _ _ _ ?_
    rw [Shape.rowMajor_val_one, Shape.rowMajor_val_two]
    show (atomIdx b i).val = b.val * 128 + (placeOf i).val
    rw [placeOf_val i hi, atomIdx_val b i hi]; omega

/-- The atoms' coordinates, padded and transposed, at a row that holds an atom. -/
theorem padCoord_apply (x : S32768x3.Idx → EReal) (v : S_.Idx → EReal) (b i : Fin 256) (k : Fin 3) (hi : 1 ≤ i.val ∧ i.val ≤ 128) :
    transpose S256x3x256 [0, 2, 1] (pad S256x256x3 ![0, 1, 0] ![0, 127, 0] ![0, 0, 0] (shapeCast S256x128x3 x shapeCasts_S32768x3_S256x128x3) v
      pads_S256x128x3_S256x256x3_000_11270_000 h_S_) transposes_S256x256x3_S256x3x256_0_2_1 (ix3 b k i) = x (ix2 (atomIdx b i) k) := by
  refine (transpose_apply _ _ _ _ (ix3 b i k) fun a => match a with | ⟨0, _⟩ => rfl | ⟨1, _⟩ => rfl | ⟨2, _⟩ => rfl).trans ?_
  refine (pad_apply_of_inside _ _ _ _ _ _ _ (ix3 b i k) (ix3 b (placeOf i) k) fun a => ?_).trans ?_
  · match a with
    | ⟨0, _⟩ => show b.val = 0 + b.val * 1; omega
    | ⟨1, _⟩ => show i.val = 1 + (placeOf i).val * 1; rw [placeOf_val i hi]; omega
    | ⟨2, _⟩ => show k.val = 0 + k.val * 1; omega
  · refine shapeCast_apply _ _ _ _ ?_
    rw [Shape.rowMajor_val_two, Shape.rowMajor_val_three]
    show (atomIdx b i).val * 3 + k.val = (b.val * 128 + (placeOf i).val) * 3 + k.val
    rw [placeOf_val i hi, atomIdx_val b i hi]; omega

theorem pairRate_left (x y : S1.Idx → EReal) : concatenate S2 0 [⟨S1, x⟩, ⟨S1, y⟩] concatenates_S1_S1_S2_d0 (ix1 (0 : Fin 2)) = x (ix1 (0 : Fin 1)) :=
  concatenate_pair_apply_left (0 : Fin S2.rank) x y _ _ rfl (ix1 (0 : Fin 1)) fun a => match a with
    | ⟨0, _⟩ => rfl

theorem pairRate_right (x y : S1.Idx → EReal) : concatenate S2 0 [⟨S1, x⟩, ⟨S1, y⟩] concatenates_S1_S1_S2_d0 (ix1 (1 : Fin 2)) = y (ix1 (0 : Fin 1)) :=
  concatenate_pair_apply_right (0 : Fin S2.rank) x y _ _ rfl rfl (ix1 (0 : Fin 1)) (fun a => match a with
    | ⟨0, _⟩ => fun hne => absurd rfl hne) rfl

/-! ## The arrays the call reads -/

variable (m : (ℓ : Loc nD τ sig) → Buf (Elt Ideal) ℓ) (ρ : Dev nD → PrngReg) (c : Dev nD)

theorem embTok_apply (b i : Fin 256) : V5 m ρ c main_v1 (ix3 b (0 : Fin 1) i) = m ((c : Thread nD τ).loc main_arg0) (ix2 i b) :=
  (congrFun (((W7_of m ρ c main_v1 (by decide)).trans (W6_of m ρ c main_v1 (by decide +kernel))).symm) _).trans (tok_apply m ρ c b i)

theorem embAtom_apply (b i : Fin 256) (hi : 1 ≤ i.val ∧ i.val ≤ 128) : V5 m ρ c main_v4 (ix3 b (0 : Fin 1) i) = m ((c : Thread nD τ).loc main_arg2) (ix1 (atomIdx b i)) := by
  have e : V5 m ρ c main_v4 = W3 m ρ c main_v4 := (W5_of m ρ c main_v4 (by decide)).trans (W4_of m ρ c main_v4 (by decide))
  rw [e]
  show StableHlo.after hostOps0_2 (StableHlo.after hostOps0_1 (StableHlo.after hostOps0 (W0 m ρ c))) main_v4 (ix3 b (0 : Fin 1) i) = _
  after_reads_simp
  exact padTok_apply _ _ b i hi

theorem embCoord_apply (b i : Fin 256) (k : Fin 3) (hi : 1 ≤ i.val ∧ i.val ≤ 128) : V5 m ρ c main_v7 (ix3 b k i) = m ((c : Thread nD τ).loc main_arg1) (ix2 (atomIdx b i) k) := by
  rw [← W2_args m ρ c main_arg1 (by decide)]
  show StableHlo.after hostOps0_4 (StableHlo.after hostOps0_3 (StableHlo.after hostOps0_2 (W2 m ρ c))) main_v7 (ix3 b k i) = _
  after_reads_simp
  exact padCoord_apply _ _ b i k hi

theorem embBias_apply (d : Fin 512) : V5 m ρ c main_v9 (ix2 (0 : Fin 1) d) = m ((c : Thread nD τ).loc main_arg7) (ix1 d) := by
  rw [← W4_args m ρ c main_arg7 (by decide)]
  show StableHlo.after hostOps0_4 (W4 m ρ c) main_v9 (ix2 (0 : Fin 1) d) = _
  after_reads_simp
  exact rowCast_apply _ _ d

theorem embRate0 : V5 m ρ c main_v8 (ix1 (0 : Fin 2)) = m ((c : Thread nD τ).loc main_arg8) (ix1 (0 : Fin 1)) := by
  rw [← W4_args m ρ c main_arg8 (by decide)]
  show StableHlo.after hostOps0_4 (W4 m ρ c) main_v8 (ix1 (0 : Fin 2)) = _
  after_reads_simp
  exact pairRate_left _ _

theorem embRate1 : V5 m ρ c main_v8 (ix1 (1 : Fin 2)) = m ((c : Thread nD τ).loc main_arg9) (ix1 (0 : Fin 1)) := by
  rw [← W4_args m ρ c main_arg9 (by decide)]
  show StableHlo.after hostOps0_4 (W4 m ρ c) main_v8 (ix1 (1 : Fin 2)) = _
  after_reads_simp
  exact pairRate_right _ _

/-- The embedding call's array, element by element, when the tokens name rows of the table. -/
theorem embed_apply (hx : ∀ y : S256x256.Idx, (m ((c : Thread nD τ).loc main_arg0) y : BitVec 32).toNat < 128)
    (ht : ∀ y : S32768.Idx, (m ((c : Thread nD τ).loc main_arg2) y : BitVec 32).toNat < 128) (b i : Fin 256) (d : Fin 512) :
    W6 m ρ c main_v10 (ix3 b i d)
      = embOf (fun b i => m ((c : Thread nD τ).loc main_arg0) (ix2 i b)) (fun n k => m ((c : Thread nD τ).loc main_arg1) (ix2 n k)) (fun n => m ((c : Thread nD τ).loc main_arg2) (ix1 n))
          (fun k d => m ((c : Thread nD τ).loc main_arg5) (ix2 k d)) (fun k d => m ((c : Thread nD τ).loc main_arg6) (ix2 k d)) (fun d => m ((c : Thread nD τ).loc main_arg7) (ix1 d))
          (m ((c : Thread nD τ).loc main_arg8) (ix1 (0 : Fin 1))) (m ((c : Thread nD τ).loc main_arg9) (ix1 (0 : Fin 1))) b i d := by
  have e : W6 m ρ c main_v10 = embArr (V5 m ρ) c := (W6_arr m ρ c 7).trans (arr0 (V5 m ρ) c)
  rw [e]
  unfold embArr
  show embF (n := 256) _ _ _ _ _ _ _ b i d = _
  have a5 : V5 m ρ c main_arg5 = m ((c : Thread nD τ).loc main_arg5) := W5_args m ρ c main_arg5 (by decide)
  have a6 : V5 m ρ c main_arg6 = m ((c : Thread nD τ).loc main_arg6) := W5_args m ρ c main_arg6 (by decide)
  unfold embF embOf
  rw [embTok_apply, embBias_apply, embRate0, embRate1, a5, a6, hot_eq _ (hx _)]
  refine embAt_congr _ _ _ _ _ _ fun hi => ?_
  rw [embAtom_apply m ρ c b i hi, hot_eq _ (ht _)]
  simp only [embCoord_apply m ρ c b i _ hi]

end Cert.KernelIdeal.Layer

end
-- ==== Proof.RefAt.lean ====
/-
  One trip of the reference's loop read at an index, over the extended reals: a sequence's rows go through the
  mathematical layer `layerR` with the trip's parameters (`step_apply`).
-/
module

public import proofs.«01_k».proof.Proof.Spec
public import proofs.«01_k».proof.Proof.Gen.ReferenceIdeal.Step
public import Idealize.ShloMosaic.Lib.ValueIdx
public import Idealize.ShloMosaic.Lib.ValueLayout
public import Idealize.ShloMosaic.Lib.WordCmp

@[expose] public section

set_option synthInstance.maxSize 4096

noncomputable section

open scoped BigOperators

namespace Cert.ReferenceIdeal.Layer

open Idealize.ShloMosaic Idealize.ShloMosaic.ValueIdx Idealize.SL.Sem Cert.ReferenceIdeal Cert.ReferenceIdeal.Gen Cert.ReferenceIdeal.Step Cert.Spec

/-! ## Layout -/

/-- A vector repeated over the rows of every sequence reads its own column. -/
theorem vecBroadcast_apply {n : ℕ} (x : (⟨1, ![n]⟩ : Shape).Idx → EReal) (h : (⟨1, ![n]⟩ : Shape).BroadcastsInDim ⟨3, ![1, 1, n]⟩ ![2])
    (h' : (⟨3, ![1, 1, n]⟩ : Shape).BroadcastsInDim ⟨3, ![256, 256, n]⟩ ![0, 1, 2]) (b i : Fin 256) (d : Fin n) :
    broadcastInDim ⟨3, ![256, 256, n]⟩ ![0, 1, 2] h' (broadcastInDim ⟨3, ![1, 1, n]⟩ ![2] h x) (ix3 b i d) = x (ix1 d) := by
  rw [broadcastInDim_apply _ _ _ _ (ix3 (0 : Fin 1) (0 : Fin 1) d) fun c => match c with
    | ⟨0, _⟩ => rfl
    | ⟨1, _⟩ => rfl
    | ⟨2, _⟩ => by
      show d.val = if n = 1 then 0 else d.val
      split
      · have := d.isLt; omega
      · rfl]
  exact broadcastInDim_apply _ _ _ _ _ fun c => match c with
    | ⟨0, _⟩ => by
      show d.val = if n = 1 then 0 else d.val
      split
      · have := d.isLt; omega
      · rfl

/-- A sequence's column, one value a row, repeated over the columns. -/
theorem colsBroadcast_apply (x : S256x256x1.Idx → EReal) (b i : Fin 256) (d : Fin 512) :
    broadcastInDim S256x256x512 ![0, 1, 2] bcast_S256x256x1_S256x256x512_0_1_2 x (ix3 b i d) = x (ix3 b i (0 : Fin 1)) :=
  broadcastInDim_apply _ _ _ _ _ fun c => match c with
    | ⟨0, _⟩ => rfl
    | ⟨1, _⟩ => rfl
    | ⟨2, _⟩ => rfl

theorem colBroadcast_apply (x : S256x256.Idx → EReal) (b i : Fin 256) :
    broadcastInDim S256x256x1 ![0, 1] bcast_S256x256_S256x256x1_0_1 x (ix3 b i (0 : Fin 1)) = x (ix2 b i) :=
  broadcastInDim_apply _ _ _ _ _ fun c => match c with
    | ⟨0, _⟩ => rfl
    | ⟨1, _⟩ => rfl

/-- One value a row of scores, repeated over the row. -/
theorem rowsBroadcast_apply (x : S256x8x256.Idx → EReal) (b : Fin 256) (h : Fin 8) (i j : Fin 256) :
    broadcastInDim S256x8x256x256 ![0, 1, 2, 3] bcast_S256x8x256x1_S256x8x256x256_0_1_2_3
      (broadcastInDim S256x8x256x1 ![0, 1, 2] bcast_S256x8x256_S256x8x256x1_0_1_2 x) (ix4 b h i j) = x (ix3 b h i) := by
  rw [broadcastInDim_apply _ _ _ _ (ix4 b h i (0 : Fin 1)) fun c => match c with
    | ⟨0, _⟩ => rfl
    | ⟨1, _⟩ => rfl
    | ⟨2, _⟩ => rfl
    | ⟨3, _⟩ => rfl]
  exact broadcastInDim_apply _ _ _ _ _ fun c => match c with
    | ⟨0, _⟩ => rfl
    | ⟨1, _⟩ => rfl
    | ⟨2, _⟩ => rfl

/-- The mask, repeated over the heads and the rows. -/
theorem maskBroadcast_apply (x : S256x256.Idx → BitVec 1) (b : Fin 256) (h : Fin 8) (i j : Fin 256) :
    broadcastInDim S256x8x256x256 ![0, 1, 2, 3] bcast_S256x1x1x256_S256x8x256x256_0_1_2_3
      (broadcastInDim S256x1x1x256 ![0, 3] bcast_S256x256_S256x1x1x256_0_3 x) (ix4 b h i j) = x (ix2 b j) := by
  rw [broadcastInDim_apply _ _ _ _ (ix4 b (0 : Fin 1) (0 : Fin 1) j) fun c => match c with
    | ⟨0, _⟩ => rfl
    | ⟨1, _⟩ => rfl
    | ⟨2, _⟩ => rfl
    | ⟨3, _⟩ => rfl]
  exact broadcastInDim_apply _ _ _ _ _ fun c => match c with
    | ⟨0, _⟩ => rfl
    | ⟨1, _⟩ => rfl

/-- Columns grouped by heads. -/
theorem heads_apply (x : S256x256x512.Idx → EReal) (b i : Fin 256) (h : Fin 8) (c : Fin 64) :
    shapeCast S256x256x8x64 x shapeCasts_S256x256x512_S256x256x8x64 (ix4 b i h c) = x (ix3 b i (hd h c)) :=
  shapeCast_apply _ _ _ _ (by
    rw [Shape.rowMajor_val_three, Shape.rowMajor_val_four]
    show (b.val * 256 + i.val) * 512 + (64 * h.val + c.val) = ((b.val * 256 + i.val) * 8 + h.val) * 64 + c.val
    omega)

/-- The heads' columns put back. -/
theorem unheads_apply (x : S256x256x8x64.Idx → EReal) (b i : Fin 256) (e : Fin 512) :
    shapeCast S256x256x512 x shapeCasts_S256x256x8x64_S256x256x512 (ix3 b i e)
      = x (ix4 b i (⟨e.val / 64, by omega⟩ : Fin 8) (⟨e.val % 64, by omega⟩ : Fin 64)) :=
  shapeCast_apply _ _ _ _ (by
    rw [Shape.rowMajor_val_three, Shape.rowMajor_val_four]
    show ((b.val * 256 + i.val) * 8 + e.val / 64) * 64 + e.val % 64 = (b.val * 256 + i.val) * 512 + e.val
    omega)

/-- A sum over the columns, at a row. -/
theorem colSum_apply (x : FVec Ideal S256x256x512 .f32) (b i : Fin 256) :
    Host.reduceAdd x (constant S_ .f32 0x00000000#32) reducesTo_S256x256x512_S256x256_d2 h_S_ (ix2 b i) = ∑ d : Fin 512, x (ix3 b i d) := by
  refine (Ideal.hostReduceAdd_single reducesTo_S256x256x512_S256x256_d2 (by decide) x (Ideal.ofBits .f32 0x00000000#32) (ix2 b i)).trans ?_
  rw [Ideal.ofBits_zero_f32, zero_add]
  refine Finset.sum_congr rfl fun d _ => congrArg x ?_
  funext c
  match c with
  | ⟨0, _⟩ => rfl
  | ⟨1, _⟩ => rfl
  | ⟨2, _⟩ => rfl

/-- A sum over a row of scores. -/
theorem rowSum_apply (x : FVec Ideal S256x8x256x256 .f32) (b : Fin 256) (h : Fin 8) (i : Fin 256) :
    Host.reduceAdd x (constant S_ .f32 0x00000000#32) reducesTo_S256x8x256x256_S256x8x256_d3 h_S_ (ix3 b h i) = ∑ j : Fin 256, x (ix4 b h i j) := by
  refine (Ideal.hostReduceAdd_single reducesTo_S256x8x256x256_S256x8x256_d3 (by decide) x (Ideal.ofBits .f32 0x00000000#32) (ix3 b h i)).trans ?_
  rw [Ideal.ofBits_zero_f32, zero_add]
  refine Finset.sum_congr rfl fun d _ => congrArg x ?_
  funext c
  match c with
  | ⟨0, _⟩ => rfl
  | ⟨1, _⟩ => rfl
  | ⟨2, _⟩ => rfl
  | ⟨3, _⟩ => rfl

/-- The maximum over a row of scores. -/
theorem rowMax_apply (x : FVec Ideal S256x8x256x256 .f32) (b : Fin 256) (h : Fin 8) (i : Fin 256) :
    Host.reduce FloatOps.maximumf x (constant S_ .f32 0xFF800000#32) reducesTo_S256x8x256x256_S256x8x256_d3 h_S_ (ix3 b h i)
      = rowmax fun j => x (ix4 b h i j) := by
  rw [Host.reduce_eq_fold_single FloatOps.maximumf x _ reducesTo_S256x8x256x256_S256x8x256_d3 (by decide) h_S_]
  have hb : (constant S_ .f32 0xFF800000#32 : FVec Ideal S_ .f32) (Shape.Idx.first h_S_) = ⊥ := ninf_eq
  rw [hb]
  refine congrArg (fun f => (Finset.univ : Finset (Fin 256)).fold max ⊥ f) ?_
  funext d
  refine congrArg x ?_
  funext c
  match c with
  | ⟨0, _⟩ => rfl
  | ⟨1, _⟩ => rfl
  | ⟨2, _⟩ => rfl
  | ⟨3, _⟩ => rfl

/-! ## The products -/

/-- A product over one contracted axis: the sum over that axis's coordinates of the operands at the indices `L` and `R`. -/
theorem dot_apply {sl sr so : Shape} (D : DotDims sl sr so) (K : ℕ) (hr : D.contr.rank = 1) (hk : D.contr.size ⟨0, by omega⟩ = K)
    (x : FVec Ideal sl .f32) (w : FVec Ideal sr .f32) (j : so.Idx) (L : Fin K → sl.Idx) (R : Fin K → sr.Idx)
    (hL : ∀ c, D.lhsIdx j ((contrEquiv1 D K hr hk).symm c) = L c) (hR : ∀ c, D.rhsIdx j ((contrEquiv1 D K hr hk).symm c) = R c) :
    Host.dotGeneral D none x w j = ∑ c : Fin K, x (L c) * w (R c) := by
  refine (Ideal.dotGeneral_apply D none _ x w j).trans ?_
  rw [← Equiv.sum_comp (contrEquiv1 D K hr hk).symm]
  exact Finset.sum_congr rfl fun c _ => by rw [hL c, hR c]

theorem proj_dot (x : FVec Ideal S256x256x512 .f32) (w : FVec Ideal S512x512 .f32) (b i : Fin 256) (d : Fin 512) :
    Host.dotGeneral dot_S256x256x512_S512x512_S256x256x512_2_0_01_1_n_n none x w (ix3 b i d) = ∑ k : Fin 512, x (ix3 b i k) * w (ix2 k d) :=
  dot_apply dot_S256x256x512_S512x512_S256x256x512_2_0_01_1_n_n 512 rfl rfl x w _ (fun k => ix3 b i k) (fun k => ix2 k d)
    (fun c => funext fun | ⟨0, _⟩ => rfl | ⟨1, _⟩ => rfl | ⟨2, _⟩ => Fin.ext (contrEquiv1_symm_val dot_S256x256x512_S512x512_S256x256x512_2_0_01_1_n_n 512 rfl rfl c))
    (fun c => funext fun | ⟨0, _⟩ => Fin.ext (contrEquiv1_symm_val dot_S256x256x512_S512x512_S256x256x512_2_0_01_1_n_n 512 rfl rfl c) | ⟨1, _⟩ => rfl)

theorem up_dot (x : FVec Ideal S256x256x512 .f32) (w : FVec Ideal S512x2048 .f32) (b i : Fin 256) (d : Fin 2048) :
    Host.dotGeneral dot_S256x256x512_S512x2048_S256x256x2048_2_0_01_1_n_n none x w (ix3 b i d) = ∑ k : Fin 512, x (ix3 b i k) * w (ix2 k d) :=
  dot_apply dot_S256x256x512_S512x2048_S256x256x2048_2_0_01_1_n_n 512 rfl rfl x w _ (fun k => ix3 b i k) (fun k => ix2 k d)
    (fun c => funext fun | ⟨0, _⟩ => rfl | ⟨1, _⟩ => rfl | ⟨2, _⟩ => Fin.ext (contrEquiv1_symm_val dot_S256x256x512_S512x2048_S256x256x2048_2_0_01_1_n_n 512 rfl rfl c))
    (fun c => funext fun | ⟨0, _⟩ => Fin.ext (contrEquiv1_symm_val dot_S256x256x512_S512x2048_S256x256x2048_2_0_01_1_n_n 512 rfl rfl c) | ⟨1, _⟩ => rfl)

theorem down_dot (x : FVec Ideal S256x256x2048 .f32) (w : FVec Ideal S2048x512 .f32) (b i : Fin 256) (d : Fin 512) :
    Host.dotGeneral dot_S256x256x2048_S2048x512_S256x256x512_2_0_01_1_n_n none x w (ix3 b i d) = ∑ k : Fin 2048, x (ix3 b i k) * w (ix2 k d) :=
  dot_apply dot_S256x256x2048_S2048x512_S256x256x512_2_0_01_1_n_n 2048 rfl rfl x w _ (fun k => ix3 b i k) (fun k => ix2 k d)
    (fun c => funext fun | ⟨0, _⟩ => rfl | ⟨1, _⟩ => rfl | ⟨2, _⟩ => Fin.ext (contrEquiv1_symm_val dot_S256x256x2048_S2048x512_S256x256x512_2_0_01_1_n_n 2048 rfl rfl c))
    (fun c => funext fun | ⟨0, _⟩ => Fin.ext (contrEquiv1_symm_val dot_S256x256x2048_S2048x512_S256x256x512_2_0_01_1_n_n 2048 rfl rfl c) | ⟨1, _⟩ => rfl)

theorem score_dot (x y : FVec Ideal S256x256x8x64 .f32) (b : Fin 256) (h : Fin 8) (i j : Fin 256) :
    Host.dotGeneral dot_S256x256x8x64_S256x256x8x64_S256x8x256x256_3_3_1_1_02_02 none x y (ix4 b h i j)
      = ∑ c : Fin 64, x (ix4 b i h c) * y (ix4 b j h c) :=
  dot_apply dot_S256x256x8x64_S256x256x8x64_S256x8x256x256_3_3_1_1_02_02 64 rfl rfl x y _ (fun c => ix4 b i h c) (fun c => ix4 b j h c)
    (fun c => funext fun | ⟨0, _⟩ => rfl | ⟨1, _⟩ => rfl | ⟨2, _⟩ => rfl | ⟨3, _⟩ => Fin.ext (contrEquiv1_symm_val dot_S256x256x8x64_S256x256x8x64_S256x8x256x256_3_3_1_1_02_02 64 rfl rfl c))
    (fun c => funext fun | ⟨0, _⟩ => rfl | ⟨1, _⟩ => rfl | ⟨2, _⟩ => rfl | ⟨3, _⟩ => Fin.ext (contrEquiv1_symm_val dot_S256x256x8x64_S256x256x8x64_S256x8x256x256_3_3_1_1_02_02 64 rfl rfl c))

theorem ctx_dot (v : FVec Ideal S256x256x8x64 .f32) (a : FVec Ideal S256x8x256x256 .f32) (b : Fin 256) (h : Fin 8) (c : Fin 64) (i : Fin 256) :
    Host.dotGeneral dot_S256x256x8x64_S256x8x256x256_S256x8x64x256_1_3_3_2_02_01 none v a (ix4 b h c i)
      = ∑ j : Fin 256, v (ix4 b j h c) * a (ix4 b h i j) :=
  dot_apply dot_S256x256x8x64_S256x8x256x256_S256x8x64x256_1_3_3_2_02_01 256 rfl rfl v a _ (fun j => ix4 b j h c) (fun j => ix4 b h i j)
    (fun c => funext fun | ⟨0, _⟩ => rfl | ⟨1, _⟩ => Fin.ext (contrEquiv1_symm_val dot_S256x256x8x64_S256x8x256x256_S256x8x64x256_1_3_3_2_02_01 256 rfl rfl c) | ⟨2, _⟩ => rfl | ⟨3, _⟩ => rfl)
    (fun c => funext fun | ⟨0, _⟩ => rfl | ⟨1, _⟩ => rfl | ⟨2, _⟩ => rfl | ⟨3, _⟩ => Fin.ext (contrEquiv1_symm_val dot_S256x256x8x64_S256x8x256x256_S256x8x64x256_1_3_3_2_02_01 256 rfl rfl c))

/-! ## A layer norm -/

/-- The row means, one column a sequence. -/
def meanH (x : FVec Ideal S256x256x512 .f32) : FVec Ideal S256x256x1 .f32 :=
  Host.divf (broadcastInDim S256x256x1 ![0, 1] bcast_S256x256_S256x256x1_0_1
      (Host.reduceAdd x (constant S_ .f32 0x00000000#32) reducesTo_S256x256x512_S256x256_d2 h_S_))
    (broadcastInDim S256x256x1 ![] bcast_S_S256x256x1 (constant S_ .f32 0x44000000#32))

/-- The rows less their means. -/
def centreH (x : FVec Ideal S256x256x512 .f32) : FVec Ideal S256x256x512 .f32 :=
  subf x (broadcastInDim S256x256x512 ![0, 1, 2] bcast_S256x256x1_S256x256x512_0_1_2 (meanH x))

/-- The reference's layer norm of all sequences. -/
def lnH (x : FVec Ideal S256x256x512 .f32) (g b : FVec Ideal S512 .f32) : FVec Ideal S256x256x512 .f32 :=
  addf (mulf (Host.divf (centreH x) (broadcastInDim S256x256x512 ![0, 1, 2] bcast_S256x256x1_S256x256x512_0_1_2
      (Host.sqrt (addf (meanH (mulf (centreH x) (centreH x))) (broadcastInDim S256x256x1 ![] bcast_S_S256x256x1 (constant S_ .f32 0x358637BD#32))))))
    (broadcastInDim S256x256x512 ![0, 1, 2] bcast_S1x1x512_S256x256x512_0_1_2 (broadcastInDim S1x1x512 ![2] bcast_S512_S1x1x512_2 g)))
    (broadcastInDim S256x256x512 ![0, 1, 2] bcast_S1x1x512_S256x256x512_0_1_2 (broadcastInDim S1x1x512 ![2] bcast_S512_S1x1x512_2 b))

theorem meanH_apply (x : FVec Ideal S256x256x512 .f32) (b i : Fin 256) :
    meanH x (ix3 b i (0 : Fin 1)) = Ideal.div (∑ d : Fin 512, x (ix3 b i d)) c512 :=
  congrArg (fun y => Ideal.div y c512) ((colBroadcast_apply _ b i).trans (colSum_apply x b i))

theorem centreH_apply (x : FVec Ideal S256x256x512 .f32) (b i : Fin 256) (d : Fin 512) :
    centreH x (ix3 b i d) = centre (fun d => x (ix3 b i d)) d :=
  congrArg (fun y => x (ix3 b i d) - y) ((colsBroadcast_apply _ b i d).trans (meanH_apply x b i))

theorem lnH_apply (x : FVec Ideal S256x256x512 .f32) (g β : FVec Ideal S512 .f32) (b i : Fin 256) (d : Fin 512) :
    lnH x g β (ix3 b i d) = lnR (fun d => g (ix1 d)) (fun d => β (ix1 d)) (fun d => x (ix3 b i d)) d := by
  have hv : meanH (mulf (centreH x) (centreH x)) (ix3 b i (0 : Fin 1)) = var fun d => x (ix3 b i d) := by
    rw [meanH_apply, var]
    refine congrArg (fun y => Ideal.div y c512) (Finset.sum_congr rfl fun d _ => ?_)
    show centreH x (ix3 b i d) * centreH x (ix3 b i d) = _
    rw [centreH_apply]
  exact congrArg₂ (· + ·) (congrArg₂ (· * ·) (congrArg₂ Ideal.div (centreH_apply x b i d)
    ((colsBroadcast_apply _ b i d).trans (congrArg (fun y => Ideal.sqrt (y + ceps)) hv))) (vecBroadcast_apply g _ _ b i d)) (vecBroadcast_apply β _ _ b i d)

end Cert.ReferenceIdeal.Layer
-- ==== Proof.RefStep.lean ====
/-
  One trip of the reference's loop: a sequence's rows go through the mathematical layer `layerR` with the trip's
  parameters (`trip_apply`); and the operations after the loop (`after_apply`).
-/
module

public import proofs.«01_k».proof.Proof.RefAt

@[expose] public section

set_option synthInstance.maxSize 4096

noncomputable section

open scoped BigOperators

namespace Cert.ReferenceIdeal.Layer

open Idealize.ShloMosaic Idealize.ShloMosaic.ValueIdx Idealize.SL.Sem Cert.ReferenceIdeal Cert.ReferenceIdeal.Gen Cert.ReferenceIdeal.Step Cert.Spec

/-! ## A trip's parameters -/

/-- A trip's number as a word. -/
theorem word_toInt (j : Fin 6) : (BitVec.ofNat 32 j.val).toInt = (j.val : Int) := by revert j; decide

/-- A trip's row of a stack, cut out and cast to a vector. -/
theorem tripRow_apply {n : ℕ} (j : Fin 6) (x : (⟨2, ![6, n]⟩ : Shape).Idx → EReal) (start : Fin 2 → Int) (h : (⟨2, ![6, n]⟩ : Shape).Slices (fun _ => 0) ⟨2, ![1, n]⟩)
    (h1 : (⟨2, ![1, n]⟩ : Shape).ShapeCasts ⟨1, ![n]⟩) (e0 : start 0 = (j.val : Int)) (e1 : start 1 = 0) (d : Fin n) :
    shapeCast ⟨1, ![n]⟩ (Host.dynamicSlice ⟨2, ![1, n]⟩ x start h) h1 (ix1 d) = x (ix2 j d) := by
  have hk : (⟨2, ![6, n]⟩ : Shape).Slices ![j.val, 0] ⟨2, ![1, n]⟩ := ⟨rfl, fun a => match a with
    | ⟨0, _⟩ => by show j.val + 1 ≤ 6; omega
    | ⟨1, _⟩ => by show 0 + n ≤ n; omega⟩
  rw [WordCmp.dynamicSlice_eq_extract _ x start h ![j.val, 0] hk fun a => match a with
    | ⟨0, _⟩ => e0
    | ⟨1, _⟩ => e1]
  rw [shapeCast_apply _ _ (ix1 d) (ix2 (0 : Fin 1) d)
      (by rw [Shape.rowMajor_val_one, Shape.rowMajor_val_two]; show 0 * n + d.val = d.val; omega)]
  refine extractStridedSlice_apply _ _ _ _ _ fun a => ?_
  match a with
  | ⟨0, _⟩ => show j.val = j.val + 0; omega
  | ⟨1, _⟩ => show d.val = 0 + d.val; omega

/-- A trip's matrix of a stack, cut out and cast to a matrix. -/
theorem tripMat_apply {n k : ℕ} (j : Fin 6) (x : (⟨3, ![6, n, k]⟩ : Shape).Idx → EReal) (start : Fin 3 → Int)
    (h : (⟨3, ![6, n, k]⟩ : Shape).Slices (fun _ => 0) ⟨3, ![1, n, k]⟩)
    (h1 : (⟨3, ![1, n, k]⟩ : Shape).ShapeCasts ⟨2, ![n, k]⟩) (e0 : start 0 = (j.val : Int)) (e1 : start 1 = 0) (e2 : start 2 = 0) (i : Fin n) (d : Fin k) :
    shapeCast ⟨2, ![n, k]⟩ (Host.dynamicSlice ⟨3, ![1, n, k]⟩ x start h) h1 (ix2 i d) = x (ix3 j i d) := by
  have hk : (⟨3, ![6, n, k]⟩ : Shape).Slices ![j.val, 0, 0] ⟨3, ![1, n, k]⟩ := ⟨rfl, fun a => match a with
    | ⟨0, _⟩ => by show j.val + 1 ≤ 6; omega
    | ⟨1, _⟩ => by show 0 + n ≤ n; omega
    | ⟨2, _⟩ => by show 0 + k ≤ k; omega⟩
  rw [WordCmp.dynamicSlice_eq_extract _ x start h ![j.val, 0, 0] hk fun a => match a with
    | ⟨0, _⟩ => e0
    | ⟨1, _⟩ => e1
    | ⟨2, _⟩ => e2]
  rw [shapeCast_apply _ _ (ix2 i d) (ix3 (0 : Fin 1) i d)
      (by rw [Shape.rowMajor_val_three, Shape.rowMajor_val_two]; show (0 * n + i.val) * k + d.val = i.val * k + d.val; rw [Nat.zero_mul, Nat.zero_add])]
  refine extractStridedSlice_apply _ _ _ _ _ fun a => ?_
  match a with
  | ⟨0, _⟩ => show j.val = j.val + 0; omega
  | ⟨1, _⟩ => show i.val = 0 + i.val; omega
  | ⟨2, _⟩ => show d.val = 0 + d.val; omega

variable (j : Fin 6) (s : State Ideal)

/-- A trip's parameters, off the stacks its state carries. -/
def tripPar : Par where
  g1 d := s.main_v47_0 (ix2 j d)
  b1 d := s.main_v47_1 (ix2 j d)
  wq k d := s.main_v47_2 (ix3 j k d)
  bq d := s.main_v47_3 (ix2 j d)
  wk k d := s.main_v47_4 (ix3 j k d)
  bk d := s.main_v47_5 (ix2 j d)
  wv k d := s.main_v47_6 (ix3 j k d)
  bv d := s.main_v47_7 (ix2 j d)
  wo k d := s.main_v47_8 (ix3 j k d)
  bo d := s.main_v47_9 (ix2 j d)
  g2 d := s.main_v47_10 (ix2 j d)
  b2 d := s.main_v47_11 (ix2 j d)
  u1 k f := s.main_v47_12 (ix3 j k f)
  c1 f := s.main_v47_13 (ix2 j f)
  u2 f d := s.main_v47_14 (ix3 j f d)
  c2 d := s.main_v47_15 (ix2 j d)

/-- The parameters the trip cuts out are `tripPar`'s. -/
theorem tripPar_eq : tripPar j s =
    { g1 := fun d => b2 j.val s (ix1 d), b1 := fun d => b5 j.val s (ix1 d), wq := fun k d => b9 j.val s (ix2 k d), bq := fun d => b12 j.val s (ix1 d),
      wk := fun k d => b16 j.val s (ix2 k d), bk := fun d => b19 j.val s (ix1 d), wv := fun k d => b23 j.val s (ix2 k d), bv := fun d => b26 j.val s (ix1 d),
      wo := fun k d => b30 j.val s (ix2 k d), bo := fun d => b33 j.val s (ix1 d), g2 := fun d => b36 j.val s (ix1 d), b2 := fun d => b39 j.val s (ix1 d),
      u1 := fun k f => b43 j.val s (ix2 k f), c1 := fun f => b46 j.val s (ix1 f), u2 := fun f d => b50 j.val s (ix2 f d), c2 := fun d => b53 j.val s (ix1 d) } := by
  unfold tripPar
  congr 1 <;> first
    | exact funext fun d => (tripRow_apply j _ _ _ _ (word_toInt j) rfl d).symm
    | exact funext fun i => funext fun d => (tripMat_apply j _ _ _ _ (word_toInt j) rfl rfl i d).symm

/-! ## The attention -/

/-- A projection with its bias. -/
def linH (x : FVec Ideal S256x256x512 .f32) (w : FVec Ideal S512x512 .f32) (c : FVec Ideal S512 .f32) : FVec Ideal S256x256x512 .f32 :=
  addf (Host.dotGeneral dot_S256x256x512_S512x512_S256x256x512_2_0_01_1_n_n none x w)
    (broadcastInDim S256x256x512 ![0, 1, 2] bcast_S1x1x512_S256x256x512_0_1_2 (broadcastInDim S1x1x512 ![2] bcast_S512_S1x1x512_2 c))

theorem linH_apply (x : FVec Ideal S256x256x512 .f32) (w : FVec Ideal S512x512 .f32) (c : FVec Ideal S512 .f32) (b i : Fin 256) (d : Fin 512) :
    linH x w c (ix3 b i d) = lin (fun k => x (ix3 b i k)) (fun k d => w (ix2 k d)) (fun d => c (ix1 d)) d :=
  congrArg₂ (· + ·) (proj_dot x w b i d) (vecBroadcast_apply c _ _ b i d)

/-- The masked scores. -/
def scoresH (q k : FVec Ideal S256x256x512 .f32) (p : IVec S256x256 1) : FVec Ideal S256x8x256x256 .f32 :=
  select (broadcastInDim S256x8x256x256 ![0, 1, 2, 3] bcast_S256x1x1x256_S256x8x256x256_0_1_2_3
      (broadcastInDim S256x1x1x256 ![0, 3] bcast_S256x256_S256x1x1x256_0_3 p))
    (broadcastInDim S256x8x256x256 ![] bcast_S_S256x8x256x256 (constant S_ .f32 0xCE6E6B28#32))
    (mulf (Host.dotGeneral dot_S256x256x8x64_S256x256x8x64_S256x8x256x256_3_3_1_1_02_02 none
        (shapeCast S256x256x8x64 q shapeCasts_S256x256x512_S256x256x8x64) (shapeCast S256x256x8x64 k shapeCasts_S256x256x512_S256x256x8x64))
      (broadcastInDim S256x8x256x256 ![] bcast_S_S256x8x256x256 (constant S_ .f32 0x3E000000#32)))

/-- The padding mask of a sequence. -/
def padR (p : IVec S256x256 1) (b : Fin 256) : Fin 256 → Prop := fun j => p (ix2 b j) = 1#1

instance (p : IVec S256x256 1) (b : Fin 256) : DecidablePred (padR p b) := fun j => inferInstanceAs (Decidable (_ = _))

theorem scoresH_apply (q k : FVec Ideal S256x256x512 .f32) (p : IVec S256x256 1) (b : Fin 256) (h : Fin 8) (i j : Fin 256) :
    scoresH q k p (ix4 b h i j)
      = masked (padR p b) (fun j => score (fun i d => q (ix3 b i d)) (fun i d => k (ix3 b i d)) h i j * ceighth) j := by
  unfold scoresH
  rw [select_apply, maskBroadcast_apply, masked]
  have e : (mulf (Host.dotGeneral dot_S256x256x8x64_S256x256x8x64_S256x8x256x256_3_3_1_1_02_02 none
        (shapeCast S256x256x8x64 q shapeCasts_S256x256x512_S256x256x8x64) (shapeCast S256x256x8x64 k shapeCasts_S256x256x512_S256x256x8x64))
      (broadcastInDim S256x8x256x256 ![] bcast_S_S256x8x256x256 (constant (F := Ideal) S_ .f32 0x3E000000#32))) (ix4 b h i j)
      = score (fun i d => q (ix3 b i d)) (fun i d => k (ix3 b i d)) h i j * ceighth := by
    refine congrArg (· * ceighth) ((score_dot _ _ b h i j).trans (Finset.sum_congr rfl fun c _ => ?_))
    rw [heads_apply, heads_apply]
  rcases (by decide +kernel : ∀ b : BitVec 1, b = 0#1 ∨ b = 1#1) (p (ix2 b j)) with hp | hp
  · rw [if_neg (by rw [padR, hp]; decide), hp, select_zero, e]
  · rw [if_pos (by rw [padR, hp]), hp, select_one]; rfl

/-- The exponentials of the scores less their row's maximum. -/
def expH (t : FVec Ideal S256x8x256x256 .f32) : FVec Ideal S256x8x256x256 .f32 :=
  Host.exp (subf t (broadcastInDim S256x8x256x256 ![0, 1, 2, 3] bcast_S256x8x256x1_S256x8x256x256_0_1_2_3
    (broadcastInDim S256x8x256x1 ![0, 1, 2] bcast_S256x8x256_S256x8x256x1_0_1_2
      (maximumf (broadcastInDim S256x8x256 ![] bcast_S_S256x8x256 (constant S_ .f32 0xFF800000#32))
        (Host.reduce FloatOps.maximumf t (constant S_ .f32 0xFF800000#32) reducesTo_S256x8x256x256_S256x8x256_d3 h_S_)))))

theorem maxBot_apply (r : FVec Ideal S256x8x256 .f32) (k : S256x8x256.Idx) :
    maximumf (broadcastInDim S256x8x256 ![] bcast_S_S256x8x256 (constant S_ .f32 0xFF800000#32)) r k = r k := by
  show max (Ideal.ofBits .f32 0xFF800000#32) (r k) = r k
  rw [ninf_eq]
  exact max_bot_left _

theorem expSub_apply (t u : FVec Ideal S256x8x256x256 .f32) (k : S256x8x256x256.Idx) : Host.exp (subf t u) k = Ideal.exp (t k - u k) := rfl

theorem expH_apply (t : FVec Ideal S256x8x256x256 .f32) (b : Fin 256) (h : Fin 8) (i j : Fin 256) :
    expH t (ix4 b h i j) = expo (fun j => t (ix4 b h i j)) j := by
  unfold expH
  rw [expSub_apply, rowsBroadcast_apply, maxBot_apply, rowMax_apply, expo]

/-- Each exponential divided by its row's sum. -/
def attH (e : FVec Ideal S256x8x256x256 .f32) : FVec Ideal S256x8x256x256 .f32 :=
  Host.divf e (broadcastInDim S256x8x256x256 ![0, 1, 2, 3] bcast_S256x8x256x1_S256x8x256x256_0_1_2_3
    (broadcastInDim S256x8x256x1 ![0, 1, 2] bcast_S256x8x256_S256x8x256x1_0_1_2
      (Host.reduceAdd e (constant S_ .f32 0x00000000#32) reducesTo_S256x8x256x256_S256x8x256_d3 h_S_)))

theorem attH_apply (e : FVec Ideal S256x8x256x256 .f32) (b : Fin 256) (h : Fin 8) (i j : Fin 256) :
    attH e (ix4 b h i j) = Ideal.div (e (ix4 b h i j)) (∑ j : Fin 256, e (ix4 b h i j)) :=
  congrArg (Ideal.div (e (ix4 b h i j))) ((rowsBroadcast_apply _ b h i j).trans (rowSum_apply e b h i))

/-- The contexts of all heads, in one row. -/
def ctxH (v : FVec Ideal S256x256x512 .f32) (a : FVec Ideal S256x8x256x256 .f32) : FVec Ideal S256x256x512 .f32 :=
  shapeCast S256x256x512 (transpose S256x256x8x64 [0, 3, 1, 2]
    (Host.dotGeneral dot_S256x256x8x64_S256x8x256x256_S256x8x64x256_1_3_3_2_02_01 none
      (shapeCast S256x256x8x64 v shapeCasts_S256x256x512_S256x256x8x64) a) transposes_S256x8x64x256_S256x256x8x64_0_3_1_2)
    shapeCasts_S256x256x8x64_S256x256x512

theorem ctxH_apply (v : FVec Ideal S256x256x512 .f32) (a : FVec Ideal S256x8x256x256 .f32) (b i : Fin 256) (e : Fin 512) :
    ctxH v a (ix3 b i e) = ∑ j : Fin 256, v (ix3 b j (hd (⟨e.val / 64, by omega⟩ : Fin 8) (⟨e.val % 64, by omega⟩ : Fin 64)))
      * a (ix4 b (⟨e.val / 64, by omega⟩ : Fin 8) i j) := by
  refine (unheads_apply _ b i e).trans ?_
  refine (transpose_apply _ _ _ _ (ix4 b (⟨e.val / 64, by omega⟩ : Fin 8) (⟨e.val % 64, by omega⟩ : Fin 64) i) fun c => match c with
    | ⟨0, _⟩ => rfl
    | ⟨1, _⟩ => rfl
    | ⟨2, _⟩ => rfl
    | ⟨3, _⟩ => rfl).trans ?_
  refine (ctx_dot _ _ b _ _ i).trans (Finset.sum_congr rfl fun j _ => ?_)
  rw [heads_apply]

/-- The attention part of a trip. -/
theorem mid_eq_term : b129 j.val s
    = addf s.main_v47_18 (linH (ctxH (linH (lnH s.main_v47_18 (b2 j.val s) (b5 j.val s)) (b23 j.val s) (b26 j.val s))
        (attH (expH (scoresH (linH (lnH s.main_v47_18 (b2 j.val s) (b5 j.val s)) (b9 j.val s) (b12 j.val s))
          (linH (lnH s.main_v47_18 (b2 j.val s) (b5 j.val s)) (b16 j.val s) (b19 j.val s)) s.main_v47_16)))) (b30 j.val s) (b33 j.val s)) := rfl

theorem mid_apply (b i : Fin 256) (d : Fin 512) :
    b129 j.val s (ix3 b i d) = midR (tripPar j s) (padR s.main_v47_16 b) (fun i d => s.main_v47_18 (ix3 b i d)) i d := by
  rw [mid_eq_term, tripPar_eq]
  refine congrArg (s.main_v47_18 (ix3 b i d) + ·) ((linH_apply _ _ _ b i d).trans ?_)
  unfold lin
  refine congrArg (· + b33 j.val s (ix1 d)) (Finset.sum_congr rfl fun e _ => congrArg (· * b30 j.val s (ix2 e d)) ?_)
  refine (ctxH_apply _ _ b i e).trans ?_
  unfold headR ctxR
  refine Finset.sum_congr rfl fun t _ => ?_
  have hn : ∀ i, (fun k => lnH s.main_v47_18 (b2 j.val s) (b5 j.val s) (ix3 b i k))
      = lnR (fun d => b2 j.val s (ix1 d)) (fun d => b5 j.val s (ix1 d)) (fun d => s.main_v47_18 (ix3 b i d)) :=
    fun i => funext fun k => lnH_apply _ _ _ b i k
  have hs : (fun t => scoresH (linH (lnH s.main_v47_18 (b2 j.val s) (b5 j.val s)) (b9 j.val s) (b12 j.val s))
      (linH (lnH s.main_v47_18 (b2 j.val s) (b5 j.val s)) (b16 j.val s) (b19 j.val s)) s.main_v47_16 (ix4 b (⟨e.val / 64, by omega⟩ : Fin 8) i t))
      = masked (padR s.main_v47_16 b) (fun t => score (fun i => lin (lnR (fun d => b2 j.val s (ix1 d)) (fun d => b5 j.val s (ix1 d)) (fun d => s.main_v47_18 (ix3 b i d)))
          (fun k d => b9 j.val s (ix2 k d)) (fun d => b12 j.val s (ix1 d)))
        (fun i => lin (lnR (fun d => b2 j.val s (ix1 d)) (fun d => b5 j.val s (ix1 d)) (fun d => s.main_v47_18 (ix3 b i d)))
          (fun k d => b16 j.val s (ix2 k d)) (fun d => b19 j.val s (ix1 d))) (⟨e.val / 64, by omega⟩ : Fin 8) i t * ceighth) := funext fun t => by
    rw [scoresH_apply]
    simp only [linH_apply, hn]
  rw [linH_apply, hn, attH_apply]
  simp only [expH_apply]
  rw [hs]

/-- The feed-forward part of a trip. -/
theorem ff_apply (n : FVec Ideal S256x256x512 .f32) (w1 : FVec Ideal S512x2048 .f32) (c1 : FVec Ideal S2048 .f32) (w2 : FVec Ideal S2048x512 .f32)
    (b i : Fin 256) (d : Fin 512) :
    Host.dotGeneral dot_S256x256x2048_S2048x512_S256x256x512_2_0_01_1_n_n none
      (maximumf (addf (Host.dotGeneral dot_S256x256x512_S512x2048_S256x256x2048_2_0_01_1_n_n none n w1)
        (broadcastInDim S256x256x2048 ![0, 1, 2] bcast_S1x1x2048_S256x256x2048_0_1_2 (broadcastInDim S1x1x2048 ![2] bcast_S2048_S1x1x2048_2 c1)))
        (broadcastInDim S256x256x2048 ![] bcast_S_S256x256x2048 (constant S_ .f32 0x00000000#32))) w2 (ix3 b i d)
      = ∑ f, max (lin (fun k => n (ix3 b i k)) (fun k f => w1 (ix2 k f)) (fun f => c1 (ix1 f)) f) 0 * w2 (ix2 f d) := by
  refine (down_dot _ _ b i d).trans (Finset.sum_congr rfl fun f _ => congrArg (· * _) ?_)
  exact congrArg₂ max (congrArg₂ (· + ·) (up_dot n w1 b i f) (vecBroadcast_apply c1 _ _ b i f)) Ideal.ofBits_zero_f32

/-- One trip of the loop. -/
theorem trip_apply (b i : Fin 256) (d : Fin 512) :
    (step j.val s).main_v47_18 (ix3 b i d) = layerR (tripPar j s) (padR s.main_v47_16 b) (fun i d => s.main_v47_18 (ix3 b i d)) i d := by
  rw [step_main_v47_18]
  have h2 : (fun k => lnH (b129 j.val s) (b36 j.val s) (b39 j.val s) (ix3 b i k))
      = lnR (tripPar j s).g2 (tripPar j s).b2 (midR (tripPar j s) (padR s.main_v47_16 b) (fun i d => s.main_v47_18 (ix3 b i d)) i) := by
    rw [show midR (tripPar j s) (padR s.main_v47_16 b) (fun i d => s.main_v47_18 (ix3 b i d)) i = fun d => b129 j.val s (ix3 b i d) from
      funext fun d => (mid_apply j s b i d).symm, tripPar_eq]
    exact funext fun k => lnH_apply _ _ _ b i k
  have h3 := ff_apply (lnH (b129 j.val s) (b36 j.val s) (b39 j.val s)) (b43 j.val s) (b46 j.val s) (b50 j.val s) b i d
  rw [h2] at h3
  refine congrArg₂ (· + ·) (mid_apply j s b i d) (congrArg₂ (· + ·) (h3.trans ?_) ((vecBroadcast_apply (b53 j.val s) _ _ b i d).trans ?_))
  · rw [tripPar_eq]; rfl
  · rw [tripPar_eq]

/-- What the operations after the loop make of its last state. -/
theorem after_apply (g β : FVec Ideal S512 .f32) (b i : Fin 256) (d : Fin 512) :
    R_main_v72 s g β (ix3 i b d) = lnR (fun d => g (ix1 d)) (fun d => β (ix1 d)) (fun d => s.main_v47_18 (ix3 b i d)) d := by
  refine Eq.trans ?_ (lnH_apply s.main_v47_18 g β b i d)
  exact transpose_apply _ _ _ _ (ix3 b i d) fun c => match c with
    | ⟨0, _⟩ => rfl
    | ⟨1, _⟩ => rfl
    | ⟨2, _⟩ => rfl

end Cert.ReferenceIdeal.Layer
-- ==== Proof.RefEmbed.lean ====
/-
  The reference's embedding read at an index (`emb_apply`): its gathers take the tokens' rows of the table, and its
  scatter puts atom `n` of sequence `b` on row `n + 1`, each row written at most once.
-/
module

public import proofs.«01_k».proof.Proof.RefAt
public import proofs.«01_k».proof.Proof.EmbedSpec
public import Idealize.ShloMosaic.Lib.Routing.OpsSet

@[expose] public section

set_option synthInstance.maxSize 4096

noncomputable section

open scoped BigOperators

namespace Cert.ReferenceIdeal.Layer

open Idealize.ShloMosaic Idealize.ShloMosaic.ValueIdx Idealize.SL.Sem Cert.ReferenceIdeal Cert.ReferenceIdeal.Gen Cert.ReferenceIdeal.Step Cert.Spec

/-! ## The operations at an index -/

/-- A token's row of the table, for tokens in a matrix. -/
theorem gather3_apply (e : S128x512.Idx → EReal) (idx : IVec S256x256x1 32) (i j : Fin 256) (d : Fin 512) (h : (idx (ix3 i j (0 : Fin 1))).toNat < 128) :
    Host.gather gather_S128x512_S256x256x1_S256x256x512_2_0_n_n_0_2_1512 e idx (ix3 i j d) = e (ix2 (rowOf (idx (ix3 i j (0 : Fin 1)))) d) := by
  unfold Host.gather
  refine congrArg e (funext fun a => Fin.ext ?_)
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S128x512_S256x256x1_S256x256x512_2_0_n_n_0_2_1512.startIndexMap from List.mem_singleton.mpr rfl)]
    have hsi : gather_S128x512_S256x256x1_S256x256x512_2_0_n_n_0_2_1512.siIdx (ix3 i j d) ⟨List.idxOf (0 : Fin 2) gather_S128x512_S256x256x1_S256x256x512_2_0_n_n_0_2_1512.startIndexMap,
        List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    show min (idx (ix3 i j (0 : Fin 1))).toInt.toNat 127 = (idx (ix3 i j (0 : Fin 1))).toNat % 128
    rw [WordCmp.toInt_eq_toNat_of_lt_half (by omega), Int.toNat_natCast, Nat.mod_eq_of_lt h]
    omega
  · have hs : gather_S128x512_S256x256x1_S256x256x512_2_0_n_n_0_2_1512.start (ix3 i j d) idx 1 = 0 := by
      unfold GatherDims.start
      exact dif_neg (show (1 : Fin 2) ∉ gather_S128x512_S256x256x1_S256x256x512_2_0_n_n_0_2_1512.startIndexMap from by decide)
    rw [hs, GatherDims.batchCoord_eq_zero _ _ _ List.not_mem_nil]
    exact (congrArg (· + _) (Nat.zero_add 0)).trans (Nat.zero_add _)

/-- The same for a vector of tokens. -/
theorem gather2_apply (e : S128x512.Idx → EReal) (idx : IVec S32768x1 32) (m : Fin 32768) (d : Fin 512) (h : (idx (ix2 m (0 : Fin 1))).toNat < 128) :
    Host.gather gather_S128x512_S32768x1_S32768x512_1_0_n_n_0_1_1512 e idx (ix2 m d) = e (ix2 (rowOf (idx (ix2 m (0 : Fin 1)))) d) := by
  refine Routing.gather_row gather_S128x512_S32768x1_S32768x512_1_0_n_n_0_1_1512 rfl rfl rfl rfl rfl e idx m d (rowOf _) ?_ (by decide)
  show _ = BitVec.ofNat 32 ((idx (ix2 m (0 : Fin 1))).toNat % 128)
  rw [Nat.mod_eq_of_lt h, BitVec.ofNat_toNat, BitVec.setWidth_eq]

/-- An index that is not negative is not wrapped. -/
theorem wrap_eq (w z : BitVec 32) (h : w.toNat < 2 ^ 31) : Scalar.select (IntOp.cmpi .slt w 0#32) z w = w := by
  rw [WordCmp.cmpi_slt_zero, WordCmp.select_decide, if_neg (by simpa using h)]

/-- Where an update of the scatter lands: on the sequence and row its two indices give. -/
theorem lands (idx : IVec S32768x2 32) (m : Fin 32768) (d : Fin 512) (p q : Fin 256) (hp : (idx (ix2 m (0 : Fin 2))).toInt = p.val) (hq : (idx (ix2 m (1 : Fin 2))).toInt = q.val) :
    scatter_S256x256x512_S32768x2_S32768x512_1_01_01_1.resultIdx? (ix2 m d) idx = some (ix3 p q d) := by
  have key : ∀ a : Fin 3, scatter_S256x256x512_S32768x2_S32768x512_1_01_01_1.start (ix2 m d) idx a + scatter_S256x256x512_S32768x2_S32768x512_1_01_01_1.window (ix2 m d) a
      = ((ix3 p q d a).val : ℤ) := by
    intro a
    match a with
    | ⟨0, _⟩ =>
      have hs : scatter_S256x256x512_S32768x2_S32768x512_1_01_01_1.start (ix2 m d) idx 0 = p.val := by
        refine Eq.trans ?_ hp
        refine congrArg (fun y => (idx y).toInt) (funext fun b => Fin.ext ?_)
        match b with
        | ⟨0, _⟩ => rfl
        | ⟨1, _⟩ => rfl
      have hw : scatter_S256x256x512_S32768x2_S32768x512_1_01_01_1.window (ix2 m d) 0 = 0 := rfl
      show scatter_S256x256x512_S32768x2_S32768x512_1_01_01_1.start (ix2 m d) idx 0 + scatter_S256x256x512_S32768x2_S32768x512_1_01_01_1.window (ix2 m d) 0 = (p.val : ℤ)
      rw [hs, hw]; simp
    | ⟨1, _⟩ =>
      have hs : scatter_S256x256x512_S32768x2_S32768x512_1_01_01_1.start (ix2 m d) idx 1 = q.val := by
        refine Eq.trans ?_ hq
        refine congrArg (fun y => (idx y).toInt) (funext fun b => Fin.ext ?_)
        match b with
        | ⟨0, _⟩ => rfl
        | ⟨1, _⟩ => rfl
      have hw : scatter_S256x256x512_S32768x2_S32768x512_1_01_01_1.window (ix2 m d) 1 = 0 := rfl
      show scatter_S256x256x512_S32768x2_S32768x512_1_01_01_1.start (ix2 m d) idx 1 + scatter_S256x256x512_S32768x2_S32768x512_1_01_01_1.window (ix2 m d) 1 = (q.val : ℤ)
      rw [hs, hw]; simp
    | ⟨2, _⟩ =>
      have hs : scatter_S256x256x512_S32768x2_S32768x512_1_01_01_1.start (ix2 m d) idx 2 = 0 := rfl
      have hw : scatter_S256x256x512_S32768x2_S32768x512_1_01_01_1.window (ix2 m d) 2 = d.val := rfl
      show scatter_S256x256x512_S32768x2_S32768x512_1_01_01_1.start (ix2 m d) idx 2 + scatter_S256x256x512_S32768x2_S32768x512_1_01_01_1.window (ix2 m d) 2 = (d.val : ℤ)
      rw [hs, hw]; simp
  unfold ScatterDims.resultIdx?
  rw [dif_pos fun a => by rw [key a]; exact ⟨Int.natCast_nonneg _, Int.ofNat_lt.mpr (ix3 p q d a).isLt⟩]
  refine congrArg some (funext fun a => Fin.ext ?_)
  show (scatter_S256x256x512_S32768x2_S32768x512_1_01_01_1.start (ix2 m d) idx a + scatter_S256x256x512_S32768x2_S32768x512_1_01_01_1.window (ix2 m d) a).toNat = _
  rw [key a]; rfl

/-- The sequence and the row of atom `m`. -/
def seqAt (m : Fin 32768) : Fin 256 := ⟨m.val / 128, by have := m.isLt; omega⟩
def rowAt (m : Fin 32768) : Fin 256 := ⟨m.val % 128 + 1, by omega⟩

/-- The scatter at an index: the atom's value on rows 1 to 128, zero elsewhere. -/
theorem scatter_apply (z : EReal) (x : S256x256x512.Idx → EReal) (hx : ∀ y, x y = z) (idx : IVec S32768x2 32) (u : S32768x512.Idx → EReal)
    (h0 : ∀ m, (idx (ix2 m (0 : Fin 2))).toInt = (seqAt m).val) (h1 : ∀ m, (idx (ix2 m (1 : Fin 2))).toInt = (rowAt m).val) (b i : Fin 256) (d : Fin 512) :
    Host.scatter scatter_S256x256x512_S32768x2_S32768x512_1_01_01_1 (fun _ b => b) x idx u (ix3 b i d)
      = if 1 ≤ i.val ∧ i.val ≤ 128 then u (ix2 (atomIdx b i) d) else z := by
  have hl : ∀ (m : Fin 32768) (d' : Fin 512), scatter_S256x256x512_S32768x2_S32768x512_1_01_01_1.resultIdx? (ix2 m d') idx = some (ix3 (seqAt m) (rowAt m) d') :=
    fun m d' => lands idx m d' _ _ (h0 m) (h1 m)
  have hinv : ∀ (m : Fin 32768) (d' : Fin 512), some (ix3 (seqAt m) (rowAt m) d') = some (ix3 b i d) → m.val / 128 = b.val ∧ m.val % 128 + 1 = i.val ∧ d' = d := fun m d' he => by
    have he := Option.some.inj he
    exact ⟨congrArg Fin.val (congrFun he 0 : (seqAt m : Fin 256) = b), congrArg Fin.val (congrFun he 1 : (rowAt m : Fin 256) = i), (congrFun he 2 : d' = d)⟩
  by_cases hi : 1 ≤ i.val ∧ i.val ≤ 128
  · rw [if_pos hi]
    have hv := atomIdx_val b i hi
    refine Routing.scatter_set_hit _ x idx u _ _ (fun k hk => ?_) (ix2 (atomIdx b i) d) ?_
    · obtain ⟨m, d', rfl⟩ : ∃ (m : Fin 32768) (d' : Fin 512), k = ix2 m d' := ⟨_, _, eq_ix2 k⟩
      rw [hl] at hk
      obtain ⟨e0, e1, rfl⟩ := hinv m d' hk
      exact congrArg (fun m => u (ix2 m d')) (Fin.ext (by rw [hv]; omega))
    · rw [hl]
      refine congrArg some ?_
      have ea : seqAt (atomIdx b i) = b := Fin.ext (by show (atomIdx b i).val / 128 = b.val; rw [hv]; omega)
      have eb : rowAt (atomIdx b i) = i := Fin.ext (by show (atomIdx b i).val % 128 + 1 = i.val; rw [hv]; omega)
      rw [ea, eb]
  · rw [if_neg hi, ← hx (ix3 b i d)]
    refine Routing.scatter_set_miss _ x idx u _ (fun k hk => ?_)
    obtain ⟨m, d', rfl⟩ : ∃ (m : Fin 32768) (d' : Fin 512), k = ix2 m d' := ⟨_, _, eq_ix2 k⟩
    rw [hl] at hk
    obtain ⟨e0, e1, -⟩ := hinv m d' hk
    omega

theorem coord_dot (x : FVec Ideal S32768x3 .f32) (w : FVec Ideal S3x512 .f32) (m : Fin 32768) (d : Fin 512) :
    Host.dotGeneral dot_S32768x3_S3x512_S32768x512_1_0_0_1_n_n none x w (ix2 m d) = ∑ k : Fin 3, x (ix2 m k) * w (ix2 k d) :=
  dot_apply dot_S32768x3_S3x512_S32768x512_1_0_0_1_n_n 3 rfl rfl x w _ (fun k => ix2 m k) (fun k => ix2 k d)
    (fun c => funext fun | ⟨0, _⟩ => rfl | ⟨1, _⟩ => Fin.ext (contrEquiv1_symm_val dot_S32768x3_S3x512_S32768x512_1_0_0_1_n_n 3 rfl rfl c))
    (fun c => funext fun | ⟨0, _⟩ => Fin.ext (contrEquiv1_symm_val dot_S32768x3_S3x512_S32768x512_1_0_0_1_n_n 3 rfl rfl c) | ⟨1, _⟩ => rfl)

/-- One number repeated over a whole array. -/
theorem oneBroadcast_apply (x : S1.Idx → EReal) (y : S256x256x512.Idx) :
    broadcastInDim S256x256x512 ![0, 1, 2] bcast_S1x1x1_S256x256x512_0_1_2 (broadcastInDim S1x1x1 ![2] bcast_S1_S1x1x1_2 x) y = x (ix1 (0 : Fin 1)) := by
  rw [broadcastInDim_apply _ _ _ _ (ix3 (0 : Fin 1) (0 : Fin 1) (0 : Fin 1)) fun c => match c with
    | ⟨0, _⟩ => rfl
    | ⟨1, _⟩ => rfl
    | ⟨2, _⟩ => rfl]
  exact broadcastInDim_apply _ _ _ _ _ fun c => match c with
    | ⟨0, _⟩ => rfl

/-- The bias, repeated over the atoms. -/
theorem biasBroadcast_apply (x : S512.Idx → EReal) (m : Fin 32768) (d : Fin 512) :
    broadcastInDim S32768x512 ![0, 1] bcast_S1x512_S32768x512_0_1 (broadcastInDim S1x512 ![1] bcast_S512_S1x512_1 x) (ix2 m d) = x (ix1 d) := by
  rw [broadcastInDim_apply _ _ _ _ (ix2 (0 : Fin 1) d) fun c => match c with
    | ⟨0, _⟩ => rfl
    | ⟨1, _⟩ => rfl]
  exact broadcastInDim_apply _ _ _ _ _ fun c => match c with
    | ⟨0, _⟩ => rfl

/-- A vector of words as a column. -/
theorem wordCol_apply (x : S32768.Idx → BitVec 32) (m : Fin 32768) :
    broadcastInDim S32768x1 ![0] bcast_S32768_S32768x1_0 x (ix2 m (0 : Fin 1)) = x (ix1 m) :=
  broadcastInDim_apply _ _ _ _ _ fun c => match c with
    | ⟨0, _⟩ => rfl

theorem wordMat_apply (x : S256x256.Idx → BitVec 32) (i j : Fin 256) :
    broadcastInDim S256x256x1 ![0, 1] bcast_S256x256_S256x256x1_0_1 x (ix3 i j (0 : Fin 1)) = x (ix2 i j) :=
  broadcastInDim_apply _ _ _ _ _ fun c => match c with
    | ⟨0, _⟩ => rfl
    | ⟨1, _⟩ => rfl

/-- Two columns side by side. -/
theorem pairCol_left (x y : S32768x1.Idx → BitVec 32) (m : Fin 32768) :
    concatenate S32768x2 1 [⟨S32768x1, x⟩, ⟨S32768x1, y⟩] concatenates_S32768x1_S32768x1_S32768x2_d1 (ix2 m (0 : Fin 2)) = x (ix2 m (0 : Fin 1)) :=
  concatenate_pair_apply_left (1 : Fin S32768x2.rank) x y _ _ rfl (ix2 m (0 : Fin 1)) fun a => match a with
    | ⟨0, _⟩ => rfl
    | ⟨1, _⟩ => rfl

theorem pairCol_right (x y : S32768x1.Idx → BitVec 32) (m : Fin 32768) :
    concatenate S32768x2 1 [⟨S32768x1, x⟩, ⟨S32768x1, y⟩] concatenates_S32768x1_S32768x1_S32768x2_d1 (ix2 m (1 : Fin 2)) = y (ix2 m (0 : Fin 1)) :=
  concatenate_pair_apply_right (1 : Fin S32768x2.rank) x y _ _ rfl rfl (ix2 m (0 : Fin 1)) (fun a => match a with
    | ⟨0, _⟩ => fun _ => rfl
    | ⟨1, _⟩ => fun hne => absurd rfl hne) rfl

/-! ## The embedding -/

variable (X : (⟨S256x256, .i32⟩ : BufTy).Contents (Elt Ideal)) (C : (⟨S32768x3, .f32⟩ : BufTy).Contents (Elt Ideal)) (T I B : (⟨S32768, .i32⟩ : BufTy).Contents (Elt Ideal))
  (E : (⟨S128x512, .f32⟩ : BufTy).Contents (Elt Ideal)) (W : (⟨S3x512, .f32⟩ : BufTy).Contents (Elt Ideal)) (b₀ : (⟨S512, .f32⟩ : BufTy).Contents (Elt Ideal))
  (r0 r1 : (⟨S1, .f32⟩ : BufTy).Contents (Elt Ideal))

/-- What the proof asks of the integers: tokens in the table's range, atom `128 b + n` in sequence `b` at place `n`. -/
structure Drawn : Prop where
  x : ∀ y, (X y).toNat < 128
  tok : ∀ y, (T y).toNat < 128
  place : ∀ m : Fin 32768, I (ix1 m) = BitVec.ofNat 32 (m.val % 128)
  seq : ∀ m : Fin 32768, B (ix1 m) = BitVec.ofNat 32 (m.val / 128)

variable {X T I B} (h : Drawn X T I B)
include h

theorem v7_apply (b i : Fin 256) (d : Fin 512) : A_main_v7 X C T I B E W b₀ r0 r1 (ix3 b i d) = E (ix2 (rowOf (X (ix2 i b))) d) := by
  unfold A_main_v7
  refine (transpose_apply _ _ _ _ (ix3 i b d) fun a => match a with | ⟨0, _⟩ => rfl | ⟨1, _⟩ => rfl | ⟨2, _⟩ => rfl).trans ?_
  have e : A_main_v5 X C T I B E W b₀ r0 r1 (ix3 i b (0 : Fin 1)) = X (ix2 i b) :=
    (wordMat_apply _ i b).trans (wrap_eq _ _ (by have := h.x (ix2 i b); omega))
  unfold A_main_v6
  rw [gather3_apply E _ i b d (by rw [e]; exact h.x _), e]

theorem v14_apply (m : Fin 32768) (d : Fin 512) : A_main_v14 X C T I B E W b₀ r0 r1 (ix2 m d) = E (ix2 (rowOf (T (ix1 m))) d) := by
  have e : A_main_v13 X C T I B E W b₀ r0 r1 (ix2 m (0 : Fin 1)) = T (ix1 m) :=
    (wordCol_apply _ m).trans (wrap_eq _ _ (by have := h.tok (ix1 m); omega))
  unfold A_main_v14
  rw [gather2_apply E _ m d (by rw [e]; exact h.tok _), e]

theorem v19_apply (m : Fin 32768) (d : Fin 512) : A_main_v19 X C T I B E W b₀ r0 r1 (ix2 m d)
    = atomAt (E (ix2 (rowOf (T (ix1 m))) d)) (fun k => C (ix2 m k)) (fun k => W (ix2 k d)) (b₀ (ix1 d)) :=
  congrArg₂ (· + ·) (congrArg₂ (· + ·) (v14_apply C E W b₀ r0 r1 h m d) (coord_dot C W m d)) (biasBroadcast_apply b₀ m d)

theorem v35_seq (m : Fin 32768) : (A_main_v35 X C T I B E W b₀ r0 r1 (ix2 m (0 : Fin 2))).toInt = (seqAt m).val := by
  have hm := m.isLt
  have hn : (BitVec.ofNat 32 (m.val / 128)).toNat = m.val / 128 := by rw [BitVec.toNat_ofNat, Nat.mod_eq_of_lt (by omega)]
  have e : A_main_v35 X C T I B E W b₀ r0 r1 (ix2 m (0 : Fin 2)) = BitVec.ofNat 32 (m.val / 128) :=
    (pairCol_left _ _ m).trans <| (wordCol_apply _ m).trans ((wrap_eq _ _ (by rw [h.seq m, hn]; omega)).trans (h.seq m))
  rw [e, WordCmp.toInt_eq_toNat_of_lt_half (by rw [hn]; omega), hn]
  rfl

theorem v35_row (m : Fin 32768) : (A_main_v35 X C T I B E W b₀ r0 r1 (ix2 m (1 : Fin 2))).toInt = (rowAt m).val := by
  have hm := m.isLt
  have hn : (BitVec.ofNat 32 (m.val % 128 + 1)).toNat = m.val % 128 + 1 := by rw [BitVec.toNat_ofNat, Nat.mod_eq_of_lt (by omega)]
  have e22 : A_main_v22 X C T I B E W b₀ r0 r1 (ix1 m) = BitVec.ofNat 32 (m.val % 128 + 1) := by
    show I (ix1 m) + 1#32 = _
    rw [h.place m, BitVec.ofNat_add]
  have e : A_main_v35 X C T I B E W b₀ r0 r1 (ix2 m (1 : Fin 2)) = BitVec.ofNat 32 (m.val % 128 + 1) :=
    (pairCol_right _ _ m).trans <| (wordCol_apply _ m).trans ((wrap_eq _ _ (by rw [e22, hn]; omega)).trans e22)
  rw [e, WordCmp.toInt_eq_toNat_of_lt_half (by rw [hn]; omega), hn]
  rfl

/-- The reference's embedding, element by element. -/
theorem emb_apply (b i : Fin 256) (d : Fin 512) : A_main_v43 X C T I B E W b₀ r0 r1 (ix3 b i d)
    = embOf (fun b i => X (ix2 i b)) (fun m k => C (ix2 m k)) (fun m => T (ix1 m)) (fun k d => E (ix2 k d)) (fun k d => W (ix2 k d)) (fun d => b₀ (ix1 d))
        (r0 (ix1 (0 : Fin 1))) (r1 (ix1 (0 : Fin 1))) b i d := by
  have e36 : A_main_v36 X C T I B E W b₀ r0 r1 (ix3 b i d) = if 1 ≤ i.val ∧ i.val ≤ 128 then A_main_v19 X C T I B E W b₀ r0 r1 (ix2 (atomIdx b i) d) else 0 :=
    scatter_apply 0 _ (fun _ => Ideal.ofBits_zero_f32) _ _ (v35_seq C E W b₀ r0 r1 h) (v35_row C E W b₀ r0 r1 h) b i d
  rw [v19_apply C E W b₀ r0 r1 h] at e36
  exact congrArg₂ (· + ·) (congrArg₂ (· * ·) (oneBroadcast_apply r0 _) (v7_apply C E W b₀ r0 r1 h b i d)) (congrArg₂ (· * ·) (oneBroadcast_apply r1 _) e36)

end Cert.ReferenceIdeal.Layer

end
-- ==== Proof.RefRun.lean ====
/-
  The reference's loop run through: its result is the last layer norm of the six layers of its embedding
  (`refResult_apply`).
-/
module

public import proofs.«01_k».proof.Proof.RefStep
public import proofs.«01_k».proof.Proof.RefEmbed
public import proofs.«01_k».proof.Proof.Gen.ReferenceIdeal.StepRun

@[expose] public section

set_option synthInstance.maxSize 4096

noncomputable section

namespace Cert.ReferenceIdeal.Layer

open Idealize.ShloMosaic Idealize.ShloMosaic.TcCoe Idealize.ShloMosaic.ValueIdx Idealize.SL.Sem Cert.ReferenceIdeal Cert.ReferenceIdeal.Gen Cert.ReferenceIdeal.Step Cert.ReferenceIdeal.StepRun Cert.Spec

/-- The reference's layers in order: layer `n`'s parameters are `P n`. -/
def runR (P : ℕ → Par) (p : Fin 256 → Prop) [DecidablePred p] (x : Fin 256 → Fin 512 → EReal) : ℕ → Fin 256 → Fin 512 → EReal
  | 0 => x
  | n + 1 => layerR (P n) p (runR P p x n)

/-- A trip keeps the stacks and the padding mask. -/
theorem tripPar_step (j : Fin 6) (k : ℕ) (s : State Ideal) : tripPar j (step k s) = tripPar j s := by unfold step; rfl
theorem pad_step (k : ℕ) (s : State Ideal) : (step k s).main_v47_16 = s.main_v47_16 := by unfold step; rfl

variable (m : (ℓ : Loc nD τ sig) → Buf (Elt Ideal) ℓ) (c : Dev nD)

/-- Layer `n`'s parameters in the reference's arguments. -/
def parR (n : ℕ) : Par := tripPar (Fin.ofNat 6 n) (initState m c)

variable (it : ℕ → State Ideal) (h0 : it 0 = initState m c) (hs : ∀ n, it (n + 1) = step n (it n))
include h0 hs

theorem tripPar_it (j : Fin 6) : ∀ n, tripPar j (it n) = tripPar j (initState m c)
  | 0 => by rw [h0]
  | n + 1 => by rw [hs, tripPar_step, tripPar_it j n]

theorem pad_it : ∀ n, (it n).main_v47_16 = (initState m c).main_v47_16
  | 0 => by rw [h0]
  | n + 1 => by rw [hs, pad_step, pad_it n]

/-- The rows before trip `n`. -/
theorem it_apply (b : Fin 256) : ∀ n, n ≤ 6 → ∀ (i : Fin 256) (d : Fin 512), (it n).main_v47_18 (ix3 b i d)
    = runR (parR m c) (padR (initState m c).main_v47_16 b) (fun i d => (initState m c).main_v47_18 (ix3 b i d)) n i d
  | 0, _ => fun i d => by rw [h0]; rfl
  | n + 1, hn => fun i d => by
    have hj : (Fin.ofNat 6 n).val = n := Nat.mod_eq_of_lt (by omega)
    have ih := it_apply b n (by omega)
    have e := trip_apply (Fin.ofNat 6 n) (it n) b i d
    rw [hj] at e
    rw [hs, e, tripPar_it m c it h0 hs, pad_it m c it h0 hs]
    rw [show (fun i d => (it n).main_v47_18 (ix3 b i d)) = _ from funext fun i => funext fun d => ih i d]
    rfl

/-- The reference's result, element by element. -/
theorem refResult_apply (g β : FVec Ideal S512 .f32) (b i : Fin 256) (d : Fin 512) : R_main_v72 (it 6) g β (ix3 i b d)
    = lnR (fun d => g (ix1 d)) (fun d => β (ix1 d))
      (runR (parR m c) (padR (initState m c).main_v47_16 b) (fun i d => (initState m c).main_v47_18 (ix3 b i d)) 6 i) d := by
  rw [after_apply]
  rw [show (fun d => (it 6).main_v47_18 (ix3 b i d)) = _ from funext fun d => it_apply m c it h0 hs b 6 (le_refl 6) i d]

omit h0 hs

/-- A place is padding when its token is zero. -/
theorem pad_iff (b j : Fin 256) : padR (initState m c).main_v47_16 b j ↔ m ((c : Thread nD τ).loc main_arg0) (ix2 j b) = 0#32 := by
  show IntOp.cmpi .eq (transpose S256x256 [1, 0] (m ((c : Thread nD τ).loc main_arg0)) transposes_S256x256_S256x256_1_0 (ix2 b j)) 0#32 = 1#1 ↔ _
  rw [transpose_ix2_apply, WordCmp.cmpi_eq_eq]
  by_cases h : (m ((c : Thread nD τ).loc main_arg0) (ix2 j b) : BitVec 32) = 0#32
  · simp [h]
  · simp [h]

/-- The rows the loop starts from: the embedding of the arguments. -/
theorem start_apply (h : Drawn (m ((c : Thread nD τ).loc main_arg0)) (m ((c : Thread nD τ).loc main_arg2)) (m ((c : Thread nD τ).loc main_arg3)) (m ((c : Thread nD τ).loc main_arg4)))
    (b i : Fin 256) (d : Fin 512) : (initState m c).main_v47_18 (ix3 b i d)
      = embOf (fun b i => m ((c : Thread nD τ).loc main_arg0) (ix2 i b)) (fun n k => m ((c : Thread nD τ).loc main_arg1) (ix2 n k)) (fun n => m ((c : Thread nD τ).loc main_arg2) (ix1 n))
          (fun k d => m ((c : Thread nD τ).loc main_arg5) (ix2 k d)) (fun k d => m ((c : Thread nD τ).loc main_arg6) (ix2 k d)) (fun d => m ((c : Thread nD τ).loc main_arg7) (ix1 d))
          (m ((c : Thread nD τ).loc main_arg8) (ix1 (0 : Fin 1))) (m ((c : Thread nD τ).loc main_arg9) (ix1 (0 : Fin 1))) b i d :=
  emb_apply _ _ _ _ _ _ h b i d

end Cert.ReferenceIdeal.Layer

end
-- ==== Proof.PreAt.lean ====
/-
  What the precondition `drawn` says of the arguments, element by element (`decode`).
-/
module

public import proofs.«01_k».proof.Pre_drawn
public import proofs.«01_k».proof.Proof.Spec
public import proofs.«01_k».proof.Proof.RefEmbed
public import Idealize.ShloMosaic.Lib.ReduceAll
public import Idealize.ShloMosaic.Lib.Affine

@[expose] public section

set_option synthInstance.maxSize 4096

noncomputable section

namespace Cert.Pre_drawn

open Idealize.ShloMosaic Idealize.ShloMosaic.ValueIdx Cert.Spec Cert.ReferenceIdeal.Layer

/-- The shape relations the precondition's operations take. -/
instance facts : Facts where
  shapeCasts_S32768_S256x128 := by decide
  bcast_S_S6x512 := by decide
  reducesTo_S6x512_S_d0_1 := by decide
  h_S_ := by decide
  bcast_S_S6x512x512 := by decide
  reducesTo_S6x512x512_S_d0_1_2 := by decide
  bcast_S_S256x256 := by decide
  reducesTo_S256x256_S_d0_1 := by decide
  bcast_S_S32768 := by decide
  reducesTo_S32768_S_d0 := by decide
  reducesTo_S256x128_S_d0_1 := by decide

instance : Subsingleton S_.Idx := ⟨fun a b => funext fun i => i.elim0⟩

theorem ofBool_one (b : Bool) (h : BitVec.ofBool b = 1#1) : b = true := by revert h; cases b <;> decide

/-- A word between 0 and 127. -/
theorem range_of (w : BitVec 32) (h : IntOp.andi (IntOp.cmpi .sge w 0#32) (IntOp.cmpi .slt w 128#32) = 1#1) : w.toNat < 128 := by
  obtain ⟨h1, h2⟩ := IntOp.andi_eq_one.1 h
  rw [IntOp.cmpi_sge, show (0#32 : BitVec 32).toInt = 0 from by decide] at h1
  rw [IntOp.cmpi_slt, show (128#32 : BitVec 32).toInt = 128 from by decide] at h2
  rw [BitVec.toInt_eq_toNat_cond] at h1 h2
  have := w.isLt
  split at h1 <;> omega

theorem bits_bot : Ideal.ofBits .f32 0xFF800000#32 = ⊥ := by simp [Ideal.ofBits, Ideal.ieee]
theorem bits_top : Ideal.ofBits .f32 0x7F800000#32 = ⊤ := by simp [Ideal.ofBits, Ideal.ieee]

/-- A number between the infinities is real. -/
theorem finite_of (x : EReal) (h : IntOp.andi (Ideal.cmp .ogt x (Ideal.ofBits .f32 0xFF800000#32)) (Ideal.cmp .olt x (Ideal.ofBits .f32 0x7F800000#32)) = 1#1) : Fin' x := by
  obtain ⟨h1, h2⟩ := IntOp.andi_eq_one.1 h
  rw [bits_bot] at h1
  rw [bits_top] at h2
  have h1 : ⊥ < x := of_decide_eq_true (ofBool_one _ h1)
  have h2 : x < ⊤ := of_decide_eq_true (ofBool_one _ h2)
  exact ⟨x.toReal, (EReal.coe_toReal h2.ne h1.ne').symm⟩

/-- A vector of atoms, cast to a row per sequence, that agrees with an array of words there. -/
theorem cast_of (x : IVec S32768 32) (y : IVec S256x128 32) (hs : S32768.ShapeCasts S256x128) (h : ∀ i, IntOp.cmpi .eq (shapeCast S256x128 x hs i) (y i) = 1#1) (m : Fin 32768) :
    x (ix1 m) = y (ix2 (⟨m.val / 128, by have := m.isLt; omega⟩ : Fin 256) (⟨m.val % 128, by omega⟩ : Fin 128)) := by
  have hm := m.isLt
  have e := h (ix2 (⟨m.val / 128, by omega⟩ : Fin 256) (⟨m.val % 128, by omega⟩ : Fin 128))
  rw [IntOp.cmpi_eq] at e
  refine Eq.trans ?_ e
  refine (shapeCast_apply _ _ _ _ ?_).symm
  rw [Shape.rowMajor_val_one, Shape.rowMajor_val_two]
  show m.val = m.val / 128 * 128 + m.val % 128
  omega

variable (a0 : IVec S256x256 32) (a1 : FVec Ideal S32768x3 .f32) (a2 a3 a4 : IVec S32768 32) (a5 : FVec Ideal S128x512 .f32) (a6 : FVec Ideal S3x512 .f32) (a7 : FVec Ideal S512 .f32)
  (a8 a9 : FVec Ideal S1 .f32) (a10 a11 : FVec Ideal S6x512 .f32) (a12 : FVec Ideal S6x512x512 .f32) (a13 : FVec Ideal S6x512 .f32) (a14 : FVec Ideal S6x512x512 .f32)
  (a15 : FVec Ideal S6x512 .f32) (a16 : FVec Ideal S6x512x512 .f32) (a17 : FVec Ideal S6x512 .f32) (a18 : FVec Ideal S6x512x512 .f32) (a19 a20 a21 : FVec Ideal S6x512 .f32)
  (a22 : FVec Ideal S6x512x2048 .f32) (a23 : FVec Ideal S6x2048 .f32) (a24 : FVec Ideal S6x2048x512 .f32) (a25 : FVec Ideal S6x512 .f32) (a26 a27 : FVec Ideal S512 .f32)

/-- The integers are as drawn, and the six arrays that make the scores are finite. -/
theorem decode (h : ∀ y, fn (F := Ideal) a0 a1 a2 a3 a4 a5 a6 a7 a8 a9 a10 a11 a12 a13 a14 a15 a16 a17 a18 a19 a20 a21 a22 a23 a24 a25 a26 a27 y = 1#1) :
    Drawn a0 a2 a3 a4 ∧ (∀ y, Fin' (a10 y)) ∧ (∀ y, Fin' (a11 y)) ∧ (∀ y, Fin' (a12 y)) ∧ (∀ y, Fin' (a13 y)) ∧ (∀ y, Fin' (a14 y)) ∧ ∀ y, Fin' (a15 y) := by
  have h0 := h (fun i => i.elim0)
  unfold fn fn_part1 fn_part2 fn_part3 at h0
  dsimp only at h0
  obtain ⟨h64, h47⟩ := IntOp.andi_eq_one.1 h0
  obtain ⟨h62, hseq⟩ := IntOp.andi_eq_one.1 h64
  obtain ⟨h60, hplace⟩ := IntOp.andi_eq_one.1 h62
  obtain ⟨hx, ht⟩ := IntOp.andi_eq_one.1 h60
  obtain ⟨h15, h40⟩ := IntOp.andi_eq_one.1 h47
  obtain ⟨h14, h33⟩ := IntOp.andi_eq_one.1 h40
  obtain ⟨h13, h26⟩ := IntOp.andi_eq_one.1 h33
  obtain ⟨h12, h19⟩ := IntOp.andi_eq_one.1 h26
  obtain ⟨h11, h12'⟩ := IntOp.andi_eq_one.1 h19
  obtain ⟨h10, -⟩ := IntOp.andi_eq_one.1 h12'
  refine ⟨⟨fun y => range_of _ (Host.reduce_andi_all _ _ _ _ _ hx y), fun y => range_of _ (Host.reduce_andi_all _ _ _ _ _ ht y), fun m => ?_, fun m => ?_⟩, fun y => ?_, fun y => ?_, fun y => ?_, fun y => ?_, fun y => ?_, fun y => ?_⟩
  · exact cast_of a3 _ _ (fun i => Host.reduce_andi_all _ _ _ _ _ hplace i) m
  · exact cast_of a4 _ _ (fun i => Host.reduce_andi_all _ _ _ _ _ hseq i) m
  · exact finite_of _ (Host.reduce_andi_all _ _ _ _ _ h10 y)
  · exact finite_of _ (Host.reduce_andi_all _ _ _ _ _ h11 y)
  · exact finite_of _ (Host.reduce_andi_all _ _ _ _ _ h12 y)
  · exact finite_of _ (Host.reduce_andi_all _ _ _ _ _ h13 y)
  · exact finite_of _ (Host.reduce_andi_all _ _ _ _ _ h14 y)
  · exact finite_of _ (Host.reduce_andi_all _ _ _ _ _ h15 y)

end Cert.Pre_drawn

end
-- ==== Proof.Equal.lean ====
/-
  The equation: on the same arguments, as the precondition has them, the kernel's result is the reference's
  (`result_eq`).
-/
module

public import proofs.«01_k».proof.Proof.EmbedHost
public import proofs.«01_k».proof.Proof.RefRun
public import proofs.«01_k».proof.Proof.PreAt

@[expose] public section

set_option synthInstance.maxSize 4096

noncomputable section

namespace Cert.Equal

open Idealize.ShloMosaic Idealize.ShloMosaic.TcCoe Idealize.ShloMosaic.ValueIdx Idealize.SL.Sem Cert.Spec
open Cert.KernelIdeal.Layer (runK parM parS padM)
open Cert.ReferenceIdeal.Layer (runR parR padR tripPar Drawn)

/-- The layers the two ways, over finite score parameters. -/
theorem runR_eq (P : ℕ → Par) (hP : ∀ n, (P n).Finite) {p q : Fin 256 → Prop} [DecidablePred p] [DecidablePred q] (h : ∀ j, p j ↔ q j) (x : Fin 256 → Fin 512 → EReal) :
    ∀ n, runR P p x n = runK P q x n
  | 0 => rfl
  | n + 1 => by
    show layerR (P n) p (runR P p x n) = layerK (P n) q (runK P q x n)
    rw [layer_eq p (hP n), layerK_congr (P n) h, runR_eq P hP h x n]

/-- The arguments the two programs read, paired by position. -/
def Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
  ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
  ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
  ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
  ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (ρ : Dev Cert.KernelIdeal.nD → PrngReg) (c : Dev Cert.KernelIdeal.nD)

/-- The layers' parameters are the same. -/
theorem par_eq (h : Same m m' c) (n : ℕ) : parR m' c n = parM m c n := by
  obtain ⟨-, -, -, -, -, -, -, -, -, -, h10, h11, h12, h13, h14, h15, h16, h17, h18, h19, h20, h21, h22, h23, h24, h25, -, -⟩ := h
  show parS (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13))
    (m' ((c : Thread Cert.ReferenceIdeal.nD Cert.ReferenceIdeal.τ).loc Cert.ReferenceIdeal.main_arg14)) (m' ((c : Thread Cert.ReferenceIdeal.nD Cert.ReferenceIdeal.τ).loc Cert.ReferenceIdeal.main_arg15)) (m' ((c : Thread Cert.ReferenceIdeal.nD Cert.ReferenceIdeal.τ).loc Cert.ReferenceIdeal.main_arg16)) (m' ((c : Thread Cert.ReferenceIdeal.nD Cert.ReferenceIdeal.τ).loc Cert.ReferenceIdeal.main_arg17))
    (m' ((c : Thread Cert.ReferenceIdeal.nD Cert.ReferenceIdeal.τ).loc Cert.ReferenceIdeal.main_arg18)) (m' ((c : Thread Cert.ReferenceIdeal.nD Cert.ReferenceIdeal.τ).loc Cert.ReferenceIdeal.main_arg19)) (m' ((c : Thread Cert.ReferenceIdeal.nD Cert.ReferenceIdeal.τ).loc Cert.ReferenceIdeal.main_arg20)) (m' ((c : Thread Cert.ReferenceIdeal.nD Cert.ReferenceIdeal.τ).loc Cert.ReferenceIdeal.main_arg21))
    (m' ((c : Thread Cert.ReferenceIdeal.nD Cert.ReferenceIdeal.τ).loc Cert.ReferenceIdeal.main_arg22)) (m' ((c : Thread Cert.ReferenceIdeal.nD Cert.ReferenceIdeal.τ).loc Cert.ReferenceIdeal.main_arg23)) (m' ((c : Thread Cert.ReferenceIdeal.nD Cert.ReferenceIdeal.τ).loc Cert.ReferenceIdeal.main_arg24)) (m' ((c : Thread Cert.ReferenceIdeal.nD Cert.ReferenceIdeal.τ).loc Cert.ReferenceIdeal.main_arg25)) (Fin.ofNat 6 n) = _
  rw [h10, h11, h12, h13, h14, h15, h16, h17, h18, h19, h20, h21, h22, h23, h24, h25]
  rfl

/-- What the precondition says of the kernel's arguments. -/
structure Ok : Prop where
  drawn : Drawn (m ((c : Thread Cert.KernelIdeal.nD Cert.KernelIdeal.τ).loc Cert.KernelIdeal.main_arg0)) (m ((c : Thread Cert.KernelIdeal.nD Cert.KernelIdeal.τ).loc Cert.KernelIdeal.main_arg2))
    (m ((c : Thread Cert.KernelIdeal.nD Cert.KernelIdeal.τ).loc Cert.KernelIdeal.main_arg3)) (m ((c : Thread Cert.KernelIdeal.nD Cert.KernelIdeal.τ).loc Cert.KernelIdeal.main_arg4))
  par : ∀ n, (parM m c n).Finite

/-- The two results are one array. -/
theorem result_eq (h : Same m m' c) (hok : Ok m c) (it : ℕ → Cert.ReferenceIdeal.Step.State Ideal) (h0 : it 0 = Cert.ReferenceIdeal.StepRun.initState m' c)
    (hs : ∀ n, it (n + 1) = Cert.ReferenceIdeal.Step.step n (it n)) :
    Cert.ReferenceIdeal.Step.R_main_v72 (it 6) (m' ((c : Thread Cert.ReferenceIdeal.nD Cert.ReferenceIdeal.τ).loc Cert.ReferenceIdeal.main_arg26)) (m' ((c : Thread Cert.ReferenceIdeal.nD Cert.ReferenceIdeal.τ).loc Cert.ReferenceIdeal.main_arg27))
      = Cert.KernelIdeal.Gen.W19 m ρ c Cert.KernelIdeal.main_v277 := by
  have hpar := fun n => par_eq m m' c h n
  obtain ⟨a0, a1, a2, a3, a4, a5, a6, a7, a8, a9, -, -, -, -, -, -, -, -, -, -, -, -, -, -, -, -, a26, a27⟩ := h
  have hd : Drawn (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg2))
      (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) := by
    rw [a0, a2, a3, a4]; exact hok.drawn
  funext y
  obtain ⟨i, b, d, rfl⟩ : ∃ (i b : Fin 256) (d : Fin 512), y = ix3 i b d := ⟨_, _, _, eq_ix3 y⟩
  refine (Cert.ReferenceIdeal.Layer.refResult_apply m' c it h0 hs _ _ b i d).trans ?_
  refine Eq.trans ?_ (Cert.KernelIdeal.Layer.result_apply m ρ c b i d).symm
  rw [ln_eq, a26, a27]
  have hx : (fun i d => (Cert.ReferenceIdeal.StepRun.initState m' c).main_v47_18 (ix3 b i d)) = fun i d => Cert.KernelIdeal.Gen.W6 m ρ c Cert.KernelIdeal.main_v10 (ix3 b i d) :=
    funext fun i => funext fun d => by
      refine (Cert.ReferenceIdeal.Layer.start_apply m' c hd b i d).trans ?_
      refine Eq.trans ?_ (Cert.KernelIdeal.Layer.embed_apply m ρ c hok.drawn.x hok.drawn.tok b i d).symm
      rw [a0, a1, a2, a5, a6, a7, a8, a9]
  have hp : ∀ j, padR (Cert.ReferenceIdeal.StepRun.initState m' c).main_v47_16 b j ↔ padM (Cert.KernelIdeal.Gen.W7 m ρ c Cert.KernelIdeal.main_v1) b j := fun j => by
    rw [Cert.ReferenceIdeal.Layer.pad_iff, a0]
    show _ ↔ Cert.KernelIdeal.Gen.W7 m ρ c Cert.KernelIdeal.main_v1 (ix3 b (0 : Fin 1) j) = 0#32
    rw [Cert.KernelIdeal.Layer.tok_apply]
  rw [hx, funext hpar, runR_eq _ hok.par hp]

end Cert.Equal

end
-- ==== Proof.lean ====
/-
  The certificate's claims. The frames are the generated ones, the reference's read off its run; the idealized kernel and
  the kernel differ by no named constant, so `preserves` holds at once; and the idealized kernel and the reference end
  with one array (`algebraic`), by the kernel's run (`KernelRun.lean`), the reference's loop (the generated `StepRun.lean`) and the
  equation between their results (`Equal.lean`).
-/
module

public import proofs.«01_k».proof.Defs
public import proofs.«01_k».proof.Proof.Gen.Kernel.Frame
public import proofs.«01_k».proof.Proof.KernelRun
public import proofs.«01_k».proof.Proof.Equal
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.ShloMosaic.TcCoe Idealize.ShloMosaic.ValueIdx Idealize.SL.Sem

/-- The reference's run leaves its arguments as they were and every counter at zero. -/
theorem frame_ri : Cert.quiescent_ReferenceIdeal (hReferenceIdeal := Cert.ReferenceIdeal.Gen.facts) := fun m g _ =>
  (θ_run Cert.ReferenceIdeal.defs _ _).mono (fun r h => And.intro (fun c => (h c).2) (sem_eq_zero_of_no_sems (by decide) r.2)) (Cert.ReferenceIdeal.Value.run (F := Ideal) m g)

/-- The precondition, as the equation takes it. -/
theorem ok_of_pre (m : (ℓ : Loc Cert.KernelIdeal.nD Cert.KernelIdeal.τ Cert.KernelIdeal.sig) → Buf (Elt Ideal) ℓ) (h : Cert.Pre_KernelIdeal_drawn m) (c : Dev Cert.KernelIdeal.nD) : Cert.Equal.Ok m c := by
  obtain ⟨hd, h10, h11, h12, h13, h14, h15⟩ := Cert.Pre_drawn.decode _ _ _ _ _ _ _ _ _ _ _ _ _ _ _ _ _ _ _ _ _ _ _ _ _ _ _ _ fun y => congrFun (h c) y
  exact ⟨hd, fun n => ⟨fun d => h10 _, fun d => h11 _, fun d e => h12 _, fun d => h13 _, fun d e => h14 _, fun d => h15 _⟩⟩

/-- The reference's loop states, from the arguments on. -/
def states (m' : (ℓ : Loc Cert.ReferenceIdeal.nD Cert.ReferenceIdeal.τ Cert.ReferenceIdeal.sig) → Buf (Elt Ideal) ℓ) (c : Dev Cert.ReferenceIdeal.nD) : ℕ → Cert.ReferenceIdeal.Step.State Ideal
  | 0 => Cert.ReferenceIdeal.StepRun.initState m' c
  | n + 1 => Cert.ReferenceIdeal.Step.step n (states m' c n)

/-- The idealized kernel and the reference, from the same arguments, end with the same result. -/
theorem algebraic : Cert.algebraic_KernelIdeal_ReferenceIdeal_pre_drawn (hKernelIdeal := Cert.KernelIdeal.Gen.facts)
    (hReferenceIdeal := Cert.ReferenceIdeal.Gen.facts) (hPre_drawn := Cert.Pre_drawn.facts) := by
  intro m g m' g' hpre hargs
  refine ⟨fun c => Cert.KernelIdeal.Gen.W19 m g c Cert.KernelIdeal.main_v277, Cert.KernelIdeal.Layer.run_value m g, ?_⟩
  refine (θ_run Cert.ReferenceIdeal.defs _ _).mono (fun r h => fun c => ⟨(h c).1.trans ?_, (h c).2⟩)
    (Cert.ReferenceIdeal.StepRun.run_iter m' g' (states m') (fun c => rfl) (fun c n => rfl))
  exact Cert.Equal.result_eq m m' g c (hargs c) (ok_of_pre m hpre c) (states m' c) rfl (fun n => rfl)

/-- All claims of the certificate. -/
theorem claim : Cert.Claim := ⟨Cert.Kernel.Gen.facts, Cert.KernelIdeal.Gen.facts, Cert.ReferenceIdeal.Gen.facts, Cert.Pre_drawn.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, algebraic⟩

end Cert.Proof

end
